-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_untied [hPre_finite_and_untied : Cert.Pre_finite_and_untied.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_untied [hPre_finite_and_untied : Cert.Pre_finite_and_untied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_finite_and_untied [hKernelIdeal : Cert.KernelIdeal.Facts] [hPre_finite_and_untied : Cert.Pre_finite_and_untied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_untied m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_finite_and_untied [hReferenceIdeal : Cert.ReferenceIdeal.Facts] [hPre_finite_and_untied : Cert.Pre_finite_and_untied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_untied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  IdealRules.named_const.Statement Cert.KernelIdeal.κ "inv_d" .f32 0x3AAAAAAB#32 ((768⁻¹ : ℝ) : EReal)
  ∧ IdealRules.named_const.Statement Cert.KernelIdeal.κ "inv_sqrt_d" .f32 0x3D13CD3A#32 (((Real.sqrt 768)⁻¹ : ℝ) : EReal)

def algebraic_KernelIdeal_ReferenceIdeal_pre_finite_and_untied [hKernelIdeal : Cert.KernelIdeal.Facts] [hReferenceIdeal : Cert.ReferenceIdeal.Facts] [hPre_finite_and_untied : Cert.Pre_finite_and_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_untied m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v187) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_and_untied : Cert.Pre_finite_and_untied.Facts),
    quiescent_Kernel (hKernel := hKernel)
    ∧ quiescent_KernelIdeal (hKernelIdeal := hKernelIdeal)
    ∧ quiescent_KernelIdeal_pre_finite_and_untied (hKernelIdeal := hKernelIdeal) (hPre_finite_and_untied := hPre_finite_and_untied)
    ∧ quiescent_ReferenceIdeal (hReferenceIdeal := hReferenceIdeal)
    ∧ quiescent_ReferenceIdeal_pre_finite_and_untied (hReferenceIdeal := hReferenceIdeal) (hPre_finite_and_untied := hPre_finite_and_untied)
    ∧ preserves_Kernel_KernelIdeal
    ∧ algebraic_KernelIdeal_ReferenceIdeal_pre_finite_and_untied (hKernelIdeal := hKernelIdeal) (hReferenceIdeal := hReferenceIdeal) (hPre_finite_and_untied := hPre_finite_and_untied)
-- ==== Pre_finite_and_untied.lean ====
abbrev S1x2048x768 : Shape := ⟨3, ![1, 2048, 768]⟩
abbrev S8192x768 : Shape := ⟨2, ![8192, 768]⟩
abbrev S768x768 : Shape := ⟨2, ![768, 768]⟩
abbrev S768 : Shape := ⟨1, ![768]⟩
abbrev S2x1536 : Shape := ⟨2, ![2, 1536]⟩
abbrev S2 : Shape := ⟨1, ![2]⟩
abbrev S64x768 : Shape := ⟨2, ![64, 768]⟩
abbrev S64x3072 : Shape := ⟨2, ![64, 3072]⟩
abbrev S3072x768 : Shape := ⟨2, ![3072, 768]⟩
abbrev S3072 : Shape := ⟨1, ![3072]⟩
abbrev S768x3072 : Shape := ⟨2, ![768, 3072]⟩
abbrev S_ : Shape := ⟨0, ![]⟩
abbrev S1x2048 : Shape := ⟨2, ![1, 2048]⟩
abbrev S1x2048x1 : Shape := ⟨3, ![1, 2048, 1]⟩
abbrev S1x1x768 : Shape := ⟨3, ![1, 1, 768]⟩
abbrev S1x2048x12x64 : Shape := ⟨4, ![1, 2048, 12, 64]⟩
abbrev S1x12x2048x64 : Shape := ⟨4, ![1, 12, 2048, 64]⟩
abbrev S1x12x64x2048 : Shape := ⟨4, ![1, 12, 64, 2048]⟩
abbrev S12x2048x64 : Shape := ⟨3, ![12, 2048, 64]⟩
abbrev S12x64x2048 : Shape := ⟨3, ![12, 64, 2048]⟩
abbrev S12x2048x2048 : Shape := ⟨3, ![12, 2048, 2048]⟩
abbrev S1x12x2048x2048 : Shape := ⟨4, ![1, 12, 2048, 2048]⟩
abbrev S1x12x2048 : Shape := ⟨3, ![1, 12, 2048]⟩
abbrev S1x12x2048x1 : Shape := ⟨4, ![1, 12, 2048, 1]⟩
abbrev S768x8192 : Shape := ⟨2, ![768, 8192]⟩
abbrev S1x2048x8192 : Shape := ⟨3, ![1, 2048, 8192]⟩
abbrev S1x2048x1536 : Shape := ⟨3, ![1, 2048, 1536]⟩
abbrev S1536x2 : Shape := ⟨2, ![1536, 2]⟩
abbrev S1x2048x2 : Shape := ⟨3, ![1, 2048, 2]⟩
abbrev S1x1x2 : Shape := ⟨3, ![1, 1, 2]⟩
abbrev S1x2048x16 : Shape := ⟨3, ![1, 2048, 16]⟩
abbrev S1x2048x16x1 : Shape := ⟨4, ![1, 2048, 16, 1]⟩
abbrev S1 : Shape := ⟨1, ![1]⟩
abbrev S1x1x1x1 : Shape := ⟨4, ![1, 1, 1, 1]⟩
abbrev S1x2048x16x768 : Shape := ⟨4, ![1, 2048, 16, 768]⟩
abbrev S1x2048x17 : Shape := ⟨3, ![1, 2048, 17]⟩
abbrev S768x64 : Shape := ⟨2, ![768, 64]⟩
abbrev S1x2048x64 : Shape := ⟨3, ![1, 2048, 64]⟩
abbrev S1x2048x9 : Shape := ⟨3, ![1, 2048, 9]⟩
abbrev S1x2048x8 : Shape := ⟨3, ![1, 2048, 8]⟩

class Facts : Prop where
  reducesTo_S1x2048x768_S1x2048_d2 : S1x2048x768.ReducesTo [2] S1x2048
  h_S_ : 0 < S_.numel
  bcast_S1x2048_S1x2048x1_0_1 : S1x2048.BroadcastsInDim S1x2048x1 (![0, 1] : Fin 2 → Fin S1x2048x1.rank)
  bcast_S_S1x2048x1 : S_.BroadcastsInDim S1x2048x1 (![] : Fin 0 → Fin S1x2048x1.rank)
  bcast_S1x2048x1_S1x2048x768_0_1_2 : S1x2048x1.BroadcastsInDim S1x2048x768 (![0, 1, 2] : Fin 3 → Fin S1x2048x768.rank)
  bcast_S768_S1x1x768_2 : S768.BroadcastsInDim S1x1x768 (![2] : Fin 1 → Fin S1x1x768.rank)
  bcast_S1x1x768_S1x2048x768_0_1_2 : S1x1x768.BroadcastsInDim S1x2048x768 (![0, 1, 2] : Fin 3 → Fin S1x2048x768.rank)
  transposes_S768x768_S768x768_1_0 : S768x768.Transposes [1, 0] S768x768
  shapeCasts_S1x2048x768_S1x2048x12x64 : S1x2048x768.ShapeCasts S1x2048x12x64
  transposes_S1x2048x12x64_S1x12x2048x64_0_2_1_3 : S1x2048x12x64.Transposes [0, 2, 1, 3] S1x12x2048x64
  transposes_S1x12x2048x64_S1x12x64x2048_0_1_3_2 : S1x12x2048x64.Transposes [0, 1, 3, 2] S1x12x64x2048
  shapeCasts_S1x12x2048x64_S12x2048x64 : S1x12x2048x64.ShapeCasts S12x2048x64
  shapeCasts_S1x12x64x2048_S12x64x2048 : S1x12x64x2048.ShapeCasts S12x64x2048
  bcast_S12x2048x2048_S1x12x2048x2048_1_2_3 : S12x2048x2048.BroadcastsInDim S1x12x2048x2048 (![1, 2, 3] : Fin 3 → Fin S1x12x2048x2048.rank)
  bcast_S_S1x12x2048x2048 : S_.BroadcastsInDim S1x12x2048x2048 (![] : Fin 0 → Fin S1x12x2048x2048.rank)
  reducesTo_S1x12x2048x2048_S1x12x2048_d3 : S1x12x2048x2048.ReducesTo [3] S1x12x2048
  bcast_S_S1x12x2048 : S_.BroadcastsInDim S1x12x2048 (![] : Fin 0 → Fin S1x12x2048.rank)
  bcast_S1x12x2048_S1x12x2048x1_0_1_2 : S1x12x2048.BroadcastsInDim S1x12x2048x1 (![0, 1, 2] : Fin 3 → Fin S1x12x2048x1.rank)
  bcast_S1x12x2048x1_S1x12x2048x2048_0_1_2_3 : S1x12x2048x1.BroadcastsInDim S1x12x2048x2048 (![0, 1, 2, 3] : Fin 4 → Fin S1x12x2048x2048.rank)
  shapeCasts_S1x12x2048x2048_S12x2048x2048 : S1x12x2048x2048.ShapeCasts S12x2048x2048
  bcast_S12x2048x64_S1x12x2048x64_1_2_3 : S12x2048x64.BroadcastsInDim S1x12x2048x64 (![1, 2, 3] : Fin 3 → Fin S1x12x2048x64.rank)
  transposes_S1x12x2048x64_S1x2048x12x64_0_2_1_3 : S1x12x2048x64.Transposes [0, 2, 1, 3] S1x2048x12x64
  shapeCasts_S1x2048x12x64_S1x2048x768 : S1x2048x12x64.ShapeCasts S1x2048x768
  transposes_S8192x768_S768x8192_1_0 : S8192x768.Transposes [1, 0] S768x8192
  concatenates_S1x2048x768_S1x2048x768_S1x2048x1536_d2 : Shape.Concatenates [S1x2048x768, S1x2048x768] S1x2048x1536 2
  transposes_S2x1536_S1536x2_1_0 : S2x1536.Transposes [1, 0] S1536x2
  bcast_S2_S1x1x2_2 : S2.BroadcastsInDim S1x1x2 (![2] : Fin 1 → Fin S1x1x2.rank)
  bcast_S1x1x2_S1x2048x2_0_1_2 : S1x1x2.BroadcastsInDim S1x2048x2 (![0, 1, 2] : Fin 3 → Fin S1x2048x2.rank)
  reducesTo_S1x2048x2_S1x2048_d2 : S1x2048x2.ReducesTo [2] S1x2048
  bcast_S_S1x2048 : S_.BroadcastsInDim S1x2048 (![] : Fin 0 → Fin S1x2048.rank)
  bcast_S1x2048x1_S1x2048x2_0_1_2 : S1x2048x1.BroadcastsInDim S1x2048x2 (![0, 1, 2] : Fin 3 → Fin S1x2048x2.rank)
  slices_S1x2048x2_S1x2048x1_0_0_0 : S1x2048x2.Slices ![0, 0, 0] S1x2048x1
  bcast_S1x2048x1_S1x2048x8192_0_1_2 : S1x2048x1.BroadcastsInDim S1x2048x8192 (![0, 1, 2] : Fin 3 → Fin S1x2048x8192.rank)
  slices_S1x2048x2_S1x2048x1_0_0_1 : S1x2048x2.Slices ![0, 0, 1] S1x2048x1
  sliceFits_S1x2048x8192_S1x2048x16 : S1x2048x8192.Slices (fun _ => 0) S1x2048x16
  reducesTo_S1x2048x16_S1x2048_d2 : S1x2048x16.ReducesTo [2] S1x2048
  bcast_S1x2048x1_S1x2048x16_0_1_2 : S1x2048x1.BroadcastsInDim S1x2048x16 (![0, 1, 2] : Fin 3 → Fin S1x2048x16.rank)
  bcast_S1x2048x16_S1x2048x16x1_0_1_2 : S1x2048x16.BroadcastsInDim S1x2048x16x1 (![0, 1, 2] : Fin 3 → Fin S1x2048x16x1.rank)
  bcast_S_S1x2048x16 : S_.BroadcastsInDim S1x2048x16 (![] : Fin 0 → Fin S1x2048x16.rank)
  bcast_S_S1x2048x16x1 : S_.BroadcastsInDim S1x2048x16x1 (![] : Fin 0 → Fin S1x2048x16x1.rank)
  bcast_S1_S1x1x1x1_3 : S1.BroadcastsInDim S1x1x1x1 (![3] : Fin 1 → Fin S1x1x1x1.rank)
  bcast_S1x1x1x1_S1x2048x16x1_0_1_2_3 : S1x1x1x1.BroadcastsInDim S1x2048x16x1 (![0, 1, 2, 3] : Fin 4 → Fin S1x2048x16x1.rank)
  reducesTo_S1x2048x16x1_S1x2048x16_d3 : S1x2048x16x1.ReducesTo [3] S1x2048x16
  bcast_S1x2048x16_S1x2048x16x768_0_1_2 : S1x2048x16.BroadcastsInDim S1x2048x16x768 (![0, 1, 2] : Fin 3 → Fin S1x2048x16x768.rank)
  bcast_S_S1x2048x16x768 : S_.BroadcastsInDim S1x2048x16x768 (![] : Fin 0 → Fin S1x2048x16x768.rank)
  bcast_S1x2048x16x1_S1x2048x16x768_0_1_2_3 : S1x2048x16x1.BroadcastsInDim S1x2048x16x768 (![0, 1, 2, 3] : Fin 4 → Fin S1x2048x16x768.rank)
  reducesTo_S1x2048x16x768_S1x2048x768_d2 : S1x2048x16x768.ReducesTo [2] S1x2048x768
  sliceFits_S1x2048x8192_S1x2048x17 : S1x2048x8192.Slices (fun _ => 0) S1x2048x17
  transposes_S64x768_S768x64_1_0 : S64x768.Transposes [1, 0] S768x64
  sliceFits_S1x2048x64_S1x2048x9 : S1x2048x64.Slices (fun _ => 0) S1x2048x9
  slices_S1x2048x17_S1x2048x16_0_0_0 : S1x2048x17.Slices ![0, 0, 0] S1x2048x16
  slices_S1x2048x17_S1x2048x16_0_0_1 : S1x2048x17.Slices ![0, 0, 1] S1x2048x16
  slices_S1x2048x9_S1x2048x8_0_0_0 : S1x2048x9.Slices ![0, 0, 0] S1x2048x8
  slices_S1x2048x9_S1x2048x8_0_0_1 : S1x2048x9.Slices ![0, 0, 1] S1x2048x8
  bcast_S_S1x2048x768 : S_.BroadcastsInDim S1x2048x768 (![] : Fin 0 → Fin S1x2048x768.rank)
  bcast_S_S8192x768 : S_.BroadcastsInDim S8192x768 (![] : Fin 0 → Fin S8192x768.rank)
  bcast_S_S768x768 : S_.BroadcastsInDim S768x768 (![] : Fin 0 → Fin S768x768.rank)
  bcast_S_S768 : S_.BroadcastsInDim S768 (![] : Fin 0 → Fin S768.rank)
  bcast_S_S2x1536 : S_.BroadcastsInDim S2x1536 (![] : Fin 0 → Fin S2x1536.rank)
  bcast_S_S2 : S_.BroadcastsInDim S2 (![] : Fin 0 → Fin S2.rank)
  bcast_S_S64x768 : S_.BroadcastsInDim S64x768 (![] : Fin 0 → Fin S64x768.rank)
  bcast_S_S64x3072 : S_.BroadcastsInDim S64x3072 (![] : Fin 0 → Fin S64x3072.rank)
  bcast_S_S3072x768 : S_.BroadcastsInDim S3072x768 (![] : Fin 0 → Fin S3072x768.rank)
  bcast_S_S3072 : S_.BroadcastsInDim S3072 (![] : Fin 0 → Fin S3072.rank)
  bcast_S_S768x3072 : S_.BroadcastsInDim S768x3072 (![] : Fin 0 → Fin S768x3072.rank)
  dot_S1x2048x768_S768x768_S1x2048x768_2_0_01_1_n_n_wf : DotDims.WF S1x2048x768 S768x768 S1x2048x768 [2] [0] [0, 1] [1] [] []
  dot_S12x2048x64_S12x64x2048_S12x2048x2048_2_1_1_2_0_0_wf : DotDims.WF S12x2048x64 S12x64x2048 S12x2048x2048 [2] [1] [1] [2] [0] [0]
  dot_S12x2048x2048_S12x2048x64_S12x2048x64_2_1_1_2_0_0_wf : DotDims.WF S12x2048x2048 S12x2048x64 S12x2048x64 [2] [1] [1] [2] [0] [0]
  dot_S1x2048x768_S768x8192_S1x2048x8192_2_0_01_1_n_n_wf : DotDims.WF S1x2048x768 S768x8192 S1x2048x8192 [2] [0] [0, 1] [1] [] []
  dot_S1x2048x1536_S1536x2_S1x2048x2_2_0_01_1_n_n_wf : DotDims.WF S1x2048x1536 S1536x2 S1x2048x2 [2] [0] [0, 1] [1] [] []
  gather_S8192x768_S1x2048x16x1_S1x2048x16x768_3_0_n_n_0_3_1768_wf : GatherDims.WF S8192x768 S1x2048x16x1 S1x2048x16x768 [3] [0] [] [0] [] 3 ![1, 768]
  dot_S1x2048x768_S768x64_S1x2048x64_2_0_01_1_n_n_wf : DotDims.WF S1x2048x768 S768x64 S1x2048x64 [2] [0] [0, 1] [1] [] []

variable [Facts]

def dot_S1x2048x768_S768x768_S1x2048x768_2_0_01_1_n_n : DotDims S1x2048x768 S768x768 S1x2048x768 where
  lhsContracting := [2]
  rhsContracting := [0]
  lhsNonContracting := [0, 1]
  rhsNonContracting := [1]
  lhsBatch := []
  rhsBatch := []
  wf := dot_S1x2048x768_S768x768_S1x2048x768_2_0_01_1_n_n_wf
def dot_S12x2048x64_S12x64x2048_S12x2048x2048_2_1_1_2_0_0 : DotDims S12x2048x64 S12x64x2048 S12x2048x2048 where
  lhsContracting := [2]
  rhsContracting := [1]
  lhsNonContracting := [1]
  rhsNonContracting := [2]
  lhsBatch := [0]
  rhsBatch := [0]
  wf := dot_S12x2048x64_S12x64x2048_S12x2048x2048_2_1_1_2_0_0_wf
def dot_S12x2048x2048_S12x2048x64_S12x2048x64_2_1_1_2_0_0 : DotDims S12x2048x2048 S12x2048x64 S12x2048x64 where
  lhsContracting := [2]
  rhsContracting := [1]
  lhsNonContracting := [1]
  rhsNonContracting := [2]
  lhsBatch := [0]
  rhsBatch := [0]
  wf := dot_S12x2048x2048_S12x2048x64_S12x2048x64_2_1_1_2_0_0_wf
def dot_S1x2048x768_S768x8192_S1x2048x8192_2_0_01_1_n_n : DotDims S1x2048x768 S768x8192 S1x2048x8192 where
  lhsContracting := [2]
  rhsContracting := [0]
  lhsNonContracting := [0, 1]
  rhsNonContracting := [1]
  lhsBatch := []
  rhsBatch := []
  wf := dot_S1x2048x768_S768x8192_S1x2048x8192_2_0_01_1_n_n_wf
def dot_S1x2048x1536_S1536x2_S1x2048x2_2_0_01_1_n_n : DotDims S1x2048x1536 S1536x2 S1x2048x2 where
  lhsContracting := [2]
  rhsContracting := [0]
  lhsNonContracting := [0, 1]
  rhsNonContracting := [1]
  lhsBatch := []
  rhsBatch := []
  wf := dot_S1x2048x1536_S1536x2_S1x2048x2_2_0_01_1_n_n_wf
def gather_S8192x768_S1x2048x16x1_S1x2048x16x768_3_0_n_n_0_3_1768 : GatherDims S8192x768 S1x2048x16x1 S1x2048x16x768 where
  offsetDims := [3]
  collapsedSliceDims := [0]
  operandBatchingDims := []
  startIndicesBatchingDims := []
  startIndexMap := [0]
  indexVectorDim := 3
  sliceSizes := ![1, 768]
  wf := gather_S8192x768_S1x2048x16x1_S1x2048x16x768_3_0_n_n_0_3_1768_wf
def dot_S1x2048x768_S768x64_S1x2048x64_2_0_01_1_n_n : DotDims S1x2048x768 S768x64 S1x2048x64 where
  lhsContracting := [2]
  rhsContracting := [0]
  lhsNonContracting := [0, 1]
  rhsNonContracting := [1]
  lhsBatch := []
  rhsBatch := []
  wf := dot_S1x2048x768_S768x64_S1x2048x64_2_0_01_1_n_n_wf
def fn_where {F : FTy → Type} [FloatOps F] (arg0 : IVec S1x2048x16 1) (arg1 : IVec S1x2048x16 32) (arg2 : IVec S1x2048x16 32) : IVec S1x2048x16 32 :=
  let v0 : IVec S1x2048x16 32 := select arg0 arg1 arg2
  v0

def fn_take {F : FTy → Type} [FloatOps F] (arg0 : FVec F S8192x768 .f32) (arg1 : IVec S1x2048x16 32) : FVec F S1x2048x16x768 .f32 :=
  let c : IVec S_ 32 := constantI S_ 32 0#32
  let v0 : IVec S1x2048x16 32 := broadcastInDim S1x2048x16 ![] bcast_S_S1x2048x16 c
  let v1 : IVec S1x2048x16 1 := cmpi .slt arg1 v0
  let c_0 : IVec S_ 32 := constantI S_ 32 8192#32
  let v2 : IVec S1x2048x16 32 := broadcastInDim S1x2048x16 ![] bcast_S_S1x2048x16 c_0
  let v3 : IVec S1x2048x16 32 := addi arg1 v2
  let v4 : IVec S1x2048x16 32 := fn_where (F := F) v1 v3 arg1
  let v5 : IVec S1x2048x16x1 32 := broadcastInDim S1x2048x16x1 ![0, 1, 2] bcast_S1x2048x16_S1x2048x16x1_0_1_2 v4
  let c_1 : IVec S1 32 := constantI S1 32 8191#32
  let c_2 : IVec S_ 32 := constantI S_ 32 0#32
  let v6 : IVec S1x2048x16x1 32 := broadcastInDim S1x2048x16x1 ![] bcast_S_S1x2048x16x1 c_2
  let v7 : IVec S1x2048x16x1 1 := cmpi .sge v5 v6
  let v8 : IVec S1x1x1x1 32 := broadcastInDim S1x1x1x1 ![3] bcast_S1_S1x1x1x1_3 c_1
  let v9 : IVec S1x2048x16x1 32 := broadcastInDim S1x2048x16x1 ![0, 1, 2, 3] bcast_S1x1x1x1_S1x2048x16x1_0_1_2_3 v8
  let v10 : IVec S1x2048x16x1 1 := cmpi .sle v5 v9
  let v11 : IVec S1x2048x16x1 1 := andi v7 v10
  let c_3 : IVec S_ 1 := constantI S_ 1 1#1
  let v12 : IVec S1x2048x16 1 := (fun x v => Host.reduce IntOp.andi x v reducesTo_S1x2048x16x1_S1x2048x16_d3 h_S_) v11 c_3
  let v13 : FVec F S1x2048x16x768 .f32 := (fun x i => Host.gather gather_S8192x768_S1x2048x16x1_S1x2048x16x768_3_0_n_n_0_3_1768 x i) arg0 v5
  let v14 : IVec S1x2048x16x768 1 := broadcastInDim S1x2048x16x768 ![0, 1, 2] bcast_S1x2048x16_S1x2048x16x768_0_1_2 v12
  let cst : FVec F S_ .f32 := constant S_ .f32 0x7FC00000#32
  let v15 : FVec F S1x2048x16x768 .f32 := broadcastInDim S1x2048x16x768 ![] bcast_S_S1x2048x16x768 cst
  let v16 : FVec F S1x2048x16x768 .f32 := select v14 v13 v15
  v16

def fn_part9 {F : FTy → Type} [FloatOps F] (main_arg11 : FVec F S64x3072 .f32) (main_arg12 : FVec F S3072x768 .f32) (main_arg13 : FVec F S3072 .f32) (main_arg14 : FVec F S768x3072 .f32) (main_v117 : IVec S1x2048x16 1) (main_v120 : IVec S1x2048x8 1) (main_v123 : IVec S1x2048x768 1) (main_v126 : IVec S8192x768 1) (main_v137 : IVec S768x768 1) (main_v168 : IVec S768 1) (main_v171 : IVec S2x1536 1) (main_v174 : IVec S2 1) (main_v177 : IVec S64x768 1) : IVec S1x2048x16 1 × IVec S1x2048x8 1 × IVec S1x2048x768 1 × IVec S8192x768 1 × IVec S768x768 1 × IVec S768 1 × IVec S2x1536 1 × IVec S2 1 × IVec S64x768 1 × IVec S64x3072 1 × IVec S3072x768 1 × IVec S3072 1 × IVec S768x3072 1 :=
  let main_v178 : FVec F S64x3072 .f32 := Host.absf main_arg11
  let main_cst_35 : FVec F S_ .f32 := constant S_ .f32 0x7F800000#32
  let main_v179 : FVec F S64x3072 .f32 := broadcastInDim S64x3072 ![] bcast_S_S64x3072 main_cst_35
  let main_v180 : IVec S64x3072 1 := cmpf .olt main_v178 main_v179
  let main_v181 : FVec F S3072x768 .f32 := Host.absf main_arg12
  let main_cst_36 : FVec F S_ .f32 := constant S_ .f32 0x7F800000#32
  let main_v182 : FVec F S3072x768 .f32 := broadcastInDim S3072x768 ![] bcast_S_S3072x768 main_cst_36
  let main_v183 : IVec S3072x768 1 := cmpf .olt main_v181 main_v182
  let main_v184 : FVec F S3072 .f32 := Host.absf main_arg13
  let main_cst_37 : FVec F S_ .f32 := constant S_ .f32 0x7F800000#32
  let main_v185 : FVec F S3072 .f32 := broadcastInDim S3072 ![] bcast_S_S3072 main_cst_37
  let main_v186 : IVec S3072 1 := cmpf .olt main_v184 main_v185
  let main_v187 : FVec F S768x3072 .f32 := Host.absf main_arg14
  let main_cst_38 : FVec F S_ .f32 := constant S_ .f32 0x7F800000#32
  let main_v188 : FVec F S768x3072 .f32 := broadcastInDim S768x3072 ![] bcast_S_S768x3072 main_cst_38
  let main_v189 : IVec S768x3072 1 := cmpf .olt main_v187 main_v188
  (main_v117, main_v120, main_v123, main_v126, main_v137, main_v168, main_v171, main_v174, main_v177, main_v180, main_v183, main_v186, main_v189)

def fn_part8 {F : FTy → Type} [FloatOps F] (main_arg8 : FVec F S2x1536 .f32) (main_arg9 : FVec F S2 .f32) (main_arg10 : FVec F S64x768 .f32) (main_arg11 : FVec F S64x3072 .f32) (main_arg12 : FVec F S3072x768 .f32) (main_arg13 : FVec F S3072 .f32) (main_arg14 : FVec F S768x3072 .f32) (main_arg18 : FVec F S768 .f32) (main_arg19 : FVec F S768 .f32) (main_v117 : IVec S1x2048x16 1) (main_v120 : IVec S1x2048x8 1) (main_v123 : IVec S1x2048x768 1) (main_v126 : IVec S8192x768 1) (main_v137 : IVec S768x768 1) (main_v156 : IVec S768 1) (main_v157 : FVec F S768 .f32) (main_v158 : FVec F S768 .f32) : IVec S1x2048x16 1 × IVec S1x2048x8 1 × IVec S1x2048x768 1 × IVec S8192x768 1 × IVec S768x768 1 × IVec S768 1 × IVec S2x1536 1 × IVec S2 1 × IVec S64x768 1 × IVec S64x3072 1 × IVec S3072x768 1 × IVec S3072 1 × IVec S768x3072 1 :=
  let main_v159 : IVec S768 1 := cmpf .olt main_v157 main_v158
  let main_v160 : IVec S768 1 := andi main_v156 main_v159
  let main_v161 : FVec F S768 .f32 := Host.absf main_arg18
  let main_cst_30 : FVec F S_ .f32 := constant S_ .f32 0x7F800000#32
  let main_v162 : FVec F S768 .f32 := broadcastInDim S768 ![] bcast_S_S768 main_cst_30
  let main_v163 : IVec S768 1 := cmpf .olt main_v161 main_v162
  let main_v164 : IVec S768 1 := andi main_v160 main_v163
  let main_v165 : FVec F S768 .f32 := Host.absf main_arg19
  let main_cst_31 : FVec F S_ .f32 := constant S_ .f32 0x7F800000#32
  let main_v166 : FVec F S768 .f32 := broadcastInDim S768 ![] bcast_S_S768 main_cst_31
  let main_v167 : IVec S768 1 := cmpf .olt main_v165 main_v166
  let main_v168 : IVec S768 1 := andi main_v164 main_v167
  let main_v169 : FVec F S2x1536 .f32 := Host.absf main_arg8
  let main_cst_32 : FVec F S_ .f32 := constant S_ .f32 0x7F800000#32
  let main_v170 : FVec F S2x1536 .f32 := broadcastInDim S2x1536 ![] bcast_S_S2x1536 main_cst_32
  let main_v171 : IVec S2x1536 1 := cmpf .olt main_v169 main_v170
  let main_v172 : FVec F S2 .f32 := Host.absf main_arg9
  let main_cst_33 : FVec F S_ .f32 := constant S_ .f32 0x7F800000#32
  let main_v173 : FVec F S2 .f32 := broadcastInDim S2 ![] bcast_S_S2 main_cst_33
  let main_v174 : IVec S2 1 := cmpf .olt main_v172 main_v173
  let main_v175 : FVec F S64x768 .f32 := Host.absf main_arg10
  let main_cst_34 : FVec F S_ .f32 := constant S_ .f32 0x7F800000#32
  let main_v176 : FVec F S64x768 .f32 := broadcastInDim S64x768 ![] bcast_S_S64x768 main_cst_34
  let main_v177 : IVec S64x768 1 := cmpf .olt main_v175 main_v176
  fn_part9 (F := F) main_arg11 main_arg12 main_arg13 main_arg14 main_v117 main_v120 main_v123 main_v126 main_v137 main_v168 main_v171 main_v174 main_v177

def fn_part7 {F : FTy → Type} [FloatOps F] (main_arg5 : FVec F S768 .f32) (main_arg7 : FVec F S768 .f32) (main_arg8 : FVec F S2x1536 .f32) (main_arg9 : FVec F S2 .f32) (main_arg10 : FVec F S64x768 .f32) (main_arg11 : FVec F S64x3072 .f32) (main_arg12 : FVec F S3072x768 .f32) (main_arg13 : FVec F S3072 .f32) (main_arg14 : FVec F S768x3072 .f32) (main_arg15 : FVec F S768 .f32) (main_arg16 : FVec F S768 .f32) (main_arg17 : FVec F S768 .f32) (main_arg18 : FVec F S768 .f32) (main_arg19 : FVec F S768 .f32) (main_v117 : IVec S1x2048x16 1) (main_v120 : IVec S1x2048x8 1) (main_v123 : IVec S1x2048x768 1) (main_v126 : IVec S8192x768 1) (main_v137 : IVec S768x768 1) (main_v138 : FVec F S768 .f32) (main_v139 : FVec F S768 .f32) : IVec S1x2048x16 1 × IVec S1x2048x8 1 × IVec S1x2048x768 1 × IVec S8192x768 1 × IVec S768x768 1 × IVec S768 1 × IVec S2x1536 1 × IVec S2 1 × IVec S64x768 1 × IVec S64x3072 1 × IVec S3072x768 1 × IVec S3072 1 × IVec S768x3072 1 :=
  let main_v140 : IVec S768 1 := cmpf .olt main_v138 main_v139
  let main_v141 : FVec F S768 .f32 := Host.absf main_arg5
  let main_cst_25 : FVec F S_ .f32 := constant S_ .f32 0x7F800000#32
  let main_v142 : FVec F S768 .f32 := broadcastInDim S768 ![] bcast_S_S768 main_cst_25
  let main_v143 : IVec S768 1 := cmpf .olt main_v141 main_v142
  let main_v144 : IVec S768 1 := andi main_v140 main_v143
  let main_v145 : FVec F S768 .f32 := Host.absf main_arg7
  let main_cst_26 : FVec F S_ .f32 := constant S_ .f32 0x7F800000#32
  let main_v146 : FVec F S768 .f32 := broadcastInDim S768 ![] bcast_S_S768 main_cst_26
  let main_v147 : IVec S768 1 := cmpf .olt main_v145 main_v146
  let main_v148 : IVec S768 1 := andi main_v144 main_v147
  let main_v149 : FVec F S768 .f32 := Host.absf main_arg15
  let main_cst_27 : FVec F S_ .f32 := constant S_ .f32 0x7F800000#32
  let main_v150 : FVec F S768 .f32 := broadcastInDim S768 ![] bcast_S_S768 main_cst_27
  let main_v151 : IVec S768 1 := cmpf .olt main_v149 main_v150
  let main_v152 : IVec S768 1 := andi main_v148 main_v151
  let main_v153 : FVec F S768 .f32 := Host.absf main_arg16
  let main_cst_28 : FVec F S_ .f32 := constant S_ .f32 0x7F800000#32
  let main_v154 : FVec F S768 .f32 := broadcastInDim S768 ![] bcast_S_S768 main_cst_28
  let main_v155 : IVec S768 1 := cmpf .olt main_v153 main_v154
  let main_v156 : IVec S768 1 := andi main_v152 main_v155
  let main_v157 : FVec F S768 .f32 := Host.absf main_arg17
  let main_cst_29 : FVec F S_ .f32 := constant S_ .f32 0x7F800000#32
  let main_v158 : FVec F S768 .f32 := broadcastInDim S768 ![] bcast_S_S768 main_cst_29
  fn_part8 (F := F) main_arg8 main_arg9 main_arg10 main_arg11 main_arg12 main_arg13 main_arg14 main_arg18 main_arg19 main_v117 main_v120 main_v123 main_v126 main_v137 main_v156 main_v157 main_v158

def fn_part6 {F : FTy → Type} [FloatOps F] (main_arg1 : FVec F S8192x768 .f32) (main_arg2 : FVec F S768x768 .f32) (main_arg3 : FVec F S768 .f32) (main_arg4 : FVec F S768x768 .f32) (main_arg5 : FVec F S768 .f32) (main_arg6 : FVec F S768x768 .f32) (main_arg7 : FVec F S768 .f32) (main_arg8 : FVec F S2x1536 .f32) (main_arg9 : FVec F S2 .f32) (main_arg10 : FVec F S64x768 .f32) (main_arg11 : FVec F S64x3072 .f32) (main_arg12 : FVec F S3072x768 .f32) (main_arg13 : FVec F S3072 .f32) (main_arg14 : FVec F S768x3072 .f32) (main_arg15 : FVec F S768 .f32) (main_arg16 : FVec F S768 .f32) (main_arg17 : FVec F S768 .f32) (main_arg18 : FVec F S768 .f32) (main_arg19 : FVec F S768 .f32) (main_v117 : IVec S1x2048x16 1) (main_v120 : IVec S1x2048x8 1) (main_v121 : FVec F S1x2048x768 .f32) : IVec S1x2048x16 1 × IVec S1x2048x8 1 × IVec S1x2048x768 1 × IVec S8192x768 1 × IVec S768x768 1 × IVec S768 1 × IVec S2x1536 1 × IVec S2 1 × IVec S64x768 1 × IVec S64x3072 1 × IVec S3072x768 1 × IVec S3072 1 × IVec S768x3072 1 :=
  let main_cst_19 : FVec F S_ .f32 := constant S_ .f32 0x7F800000#32
  let main_v122 : FVec F S1x2048x768 .f32 := broadcastInDim S1x2048x768 ![] bcast_S_S1x2048x768 main_cst_19
  let main_v123 : IVec S1x2048x768 1 := cmpf .olt main_v121 main_v122
  let main_v124 : FVec F S8192x768 .f32 := Host.absf main_arg1
  let main_cst_20 : FVec F S_ .f32 := constant S_ .f32 0x7F800000#32
  let main_v125 : FVec F S8192x768 .f32 := broadcastInDim S8192x768 ![] bcast_S_S8192x768 main_cst_20
  let main_v126 : IVec S8192x768 1 := cmpf .olt main_v124 main_v125
  let main_v127 : FVec F S768x768 .f32 := Host.absf main_arg2
  let main_cst_21 : FVec F S_ .f32 := constant S_ .f32 0x7F800000#32
  let main_v128 : FVec F S768x768 .f32 := broadcastInDim S768x768 ![] bcast_S_S768x768 main_cst_21
  let main_v129 : IVec S768x768 1 := cmpf .olt main_v127 main_v128
  let main_v130 : FVec F S768x768 .f32 := Host.absf main_arg4
  let main_cst_22 : FVec F S_ .f32 := constant S_ .f32 0x7F800000#32
  let main_v131 : FVec F S768x768 .f32 := broadcastInDim S768x768 ![] bcast_S_S768x768 main_cst_22
  let main_v132 : IVec S768x768 1 := cmpf .olt main_v130 main_v131
  let main_v133 : IVec S768x768 1 := andi main_v129 main_v132
  let main_v134 : FVec F S768x768 .f32 := Host.absf main_arg6
  let main_cst_23 : FVec F S_ .f32 := constant S_ .f32 0x7F800000#32
  let main_v135 : FVec F S768x768 .f32 := broadcastInDim S768x768 ![] bcast_S_S768x768 main_cst_23
  let main_v136 : IVec S768x768 1 := cmpf .olt main_v134 main_v135
  let main_v137 : IVec S768x768 1 := andi main_v133 main_v136
  let main_v138 : FVec F S768 .f32 := Host.absf main_arg3
  let main_cst_24 : FVec F S_ .f32 := constant S_ .f32 0x7F800000#32
  let main_v139 : FVec F S768 .f32 := broadcastInDim S768 ![] bcast_S_S768 main_cst_24
  fn_part7 (F := F) main_arg5 main_arg7 main_arg8 main_arg9 main_arg10 main_arg11 main_arg12 main_arg13 main_arg14 main_arg15 main_arg16 main_arg17 main_arg18 main_arg19 main_v117 main_v120 main_v123 main_v126 main_v137 main_v138 main_v139

def fn_part5 {F : FTy → Type} [FloatOps F] (main_arg0 : FVec F S1x2048x768 .f32) (main_arg1 : FVec F S8192x768 .f32) (main_arg2 : FVec F S768x768 .f32) (main_arg3 : FVec F S768 .f32) (main_arg4 : FVec F S768x768 .f32) (main_arg5 : FVec F S768 .f32) (main_arg6 : FVec F S768x768 .f32) (main_arg7 : FVec F S768 .f32) (main_arg8 : FVec F S2x1536 .f32) (main_arg9 : FVec F S2 .f32) (main_arg10 : FVec F S64x768 .f32) (main_arg11 : FVec F S64x3072 .f32) (main_arg12 : FVec F S3072x768 .f32) (main_arg13 : FVec F S3072 .f32) (main_arg14 : FVec F S768x3072 .f32) (main_arg15 : FVec F S768 .f32) (main_arg16 : FVec F S768 .f32) (main_arg17 : FVec F S768 .f32) (main_arg18 : FVec F S768 .f32) (main_arg19 : FVec F S768 .f32) (main_v96 : FVec F S1x2048x8192 .f32) (main_indices : IVec S1x2048x16 32) (main_v103 : FVec F S1x2048x16 .f32) : IVec S1x2048x16 1 × IVec S1x2048x8 1 × IVec S1x2048x768 1 × IVec S8192x768 1 × IVec S768x768 1 × IVec S768 1 × IVec S2x1536 1 × IVec S2 1 × IVec S64x768 1 × IVec S64x3072 1 × IVec S3072x768 1 × IVec S3072 1 × IVec S768x3072 1 :=
  let main_cst_13 : FVec F S_ .f32 := constant S_ .f32 0x00000000#32
  let main_v104 : FVec F S1x2048 .f32 := (fun x v => Host.reduceAdd x v reducesTo_S1x2048x16_S1x2048_d2 h_S_) main_v103 main_cst_13
  let main_v105 : FVec F S1x2048x1 .f32 := broadcastInDim S1x2048x1 ![0, 1] bcast_S1x2048_S1x2048x1_0_1 main_v104
  let main_v106 : FVec F S1x2048x16 .f32 := broadcastInDim S1x2048x16 ![0, 1, 2] bcast_S1x2048x1_S1x2048x16_0_1_2 main_v105
  let main_v107 : FVec F S1x2048x16 .f32 := Host.divf main_v103 main_v106
  let main_v108 : FVec F S1x2048x16x1 .f32 := broadcastInDim S1x2048x16x1 ![0, 1, 2] bcast_S1x2048x16_S1x2048x16x1_0_1_2 main_v107
  let main_v109 : FVec F S1x2048x16x768 .f32 := fn_take (F := F) main_arg1 main_indices
  let main_v110 : FVec F S1x2048x16x768 .f32 := broadcastInDim S1x2048x16x768 ![0, 1, 2, 3] bcast_S1x2048x16x1_S1x2048x16x768_0_1_2_3 main_v108
  let main_v111 : FVec F S1x2048x16x768 .f32 := mulf main_v110 main_v109
  let main_cst_14 : FVec F S_ .f32 := constant S_ .f32 0x00000000#32
  let main_v112 : FVec F S1x2048x768 .f32 := (fun x v => Host.reduceAdd x v reducesTo_S1x2048x16x768_S1x2048x768_d2 h_S_) main_v111 main_cst_14
  let main_values_15 : FVec F S1x2048x17 .f32 := (fun x => (Host.topK S1x2048x17 2 (FloatOps.cmpfTotal .gt) x sliceFits_S1x2048x8192_S1x2048x17).1) main_v96
  let main_indices_16 : IVec S1x2048x17 32 := (fun x => (Host.topK S1x2048x17 2 (FloatOps.cmpfTotal .gt) x sliceFits_S1x2048x8192_S1x2048x17).2) main_v96
  let main_v113 : FVec F S768x64 .f32 := (transpose S768x64 [1, 0] · transposes_S64x768_S768x64_1_0) main_arg10
  let main_v114 : FVec F S1x2048x64 .f32 := (fun l r => Host.dotGeneral dot_S1x2048x768_S768x64_S1x2048x64_2_0_01_1_n_n none l r) main_v112 main_v113
  let main_values_17 : FVec F S1x2048x9 .f32 := (fun x => (Host.topK S1x2048x9 2 (FloatOps.cmpfTotal .gt) x sliceFits_S1x2048x64_S1x2048x9).1) main_v114
  let main_indices_18 : IVec S1x2048x9 32 := (fun x => (Host.topK S1x2048x9 2 (FloatOps.cmpfTotal .gt) x sliceFits_S1x2048x64_S1x2048x9).2) main_v114
  let main_v115 : FVec F S1x2048x16 .f32 := (extractStridedSlice S1x2048x16 ![0, 0, 0] · slices_S1x2048x17_S1x2048x16_0_0_0) main_values_15
  let main_v116 : FVec F S1x2048x16 .f32 := (extractStridedSlice S1x2048x16 ![0, 0, 1] · slices_S1x2048x17_S1x2048x16_0_0_1) main_values_15
  let main_v117 : IVec S1x2048x16 1 := cmpf .ogt main_v115 main_v116
  let main_v118 : FVec F S1x2048x8 .f32 := (extractStridedSlice S1x2048x8 ![0, 0, 0] · slices_S1x2048x9_S1x2048x8_0_0_0) main_values_17
  let main_v119 : FVec F S1x2048x8 .f32 := (extractStridedSlice S1x2048x8 ![0, 0, 1] · slices_S1x2048x9_S1x2048x8_0_0_1) main_values_17
  let main_v120 : IVec S1x2048x8 1 := cmpf .ogt main_v118 main_v119
  let main_v121 : FVec F S1x2048x768 .f32 := Host.absf main_arg0
  fn_part6 (F := F) main_arg1 main_arg2 main_arg3 main_arg4 main_arg5 main_arg6 main_arg7 main_arg8 main_arg9 main_arg10 main_arg11 main_arg12 main_arg13 main_arg14 main_arg15 main_arg16 main_arg17 main_arg18 main_arg19 main_v117 main_v120 main_v121

def fn_part4 {F : FTy → Type} [FloatOps F] (main_arg0 : FVec F S1x2048x768 .f32) (main_arg1 : FVec F S8192x768 .f32) (main_arg2 : FVec F S768x768 .f32) (main_arg3 : FVec F S768 .f32) (main_arg4 : FVec F S768x768 .f32) (main_arg5 : FVec F S768 .f32) (main_arg6 : FVec F S768x768 .f32) (main_arg7 : FVec F S768 .f32) (main_arg8 : FVec F S2x1536 .f32) (main_arg9 : FVec F S2 .f32) (main_arg10 : FVec F S64x768 .f32) (main_arg11 : FVec F S64x3072 .f32) (main_arg12 : FVec F S3072x768 .f32) (main_arg13 : FVec F S3072 .f32) (main_arg14 : FVec F S768x3072 .f32) (main_arg15 : FVec F S768 .f32) (main_arg16 : FVec F S768 .f32) (main_arg17 : FVec F S768 .f32) (main_arg18 : FVec F S768 .f32) (main_arg19 : FVec F S768 .f32) (main_v70 : FVec F S1x2048x8192 .f32) (main_v72 : FVec F S1x2048x8192 .f32) (main_v84 : FVec F S1x2048x2 .f32) : IVec S1x2048x16 1 × IVec S1x2048x8 1 × IVec S1x2048x768 1 × IVec S8192x768 1 × IVec S768x768 1 × IVec S768 1 × IVec S2x1536 1 × IVec S2 1 × IVec S64x768 1 × IVec S64x3072 1 × IVec S3072x768 1 × IVec S3072 1 × IVec S768x3072 1 :=
  let main_v85 : FVec F S1x2048x2 .f32 := Host.exp main_v84
  let main_cst_10 : FVec F S_ .f32 := constant S_ .f32 0x00000000#32
  let main_v86 : FVec F S1x2048 .f32 := (fun x v => Host.reduceAdd x v reducesTo_S1x2048x2_S1x2048_d2 h_S_) main_v85 main_cst_10
  let main_v87 : FVec F S1x2048x1 .f32 := broadcastInDim S1x2048x1 ![0, 1] bcast_S1x2048_S1x2048x1_0_1 main_v86
  let main_v88 : FVec F S1x2048x2 .f32 := broadcastInDim S1x2048x2 ![0, 1, 2] bcast_S1x2048x1_S1x2048x2_0_1_2 main_v87
  let main_v89 : FVec F S1x2048x2 .f32 := Host.divf main_v85 main_v88
  let main_v90 : FVec F S1x2048x1 .f32 := (extractStridedSlice S1x2048x1 ![0, 0, 0] · slices_S1x2048x2_S1x2048x1_0_0_0) main_v89
  let main_v91 : FVec F S1x2048x8192 .f32 := broadcastInDim S1x2048x8192 ![0, 1, 2] bcast_S1x2048x1_S1x2048x8192_0_1_2 main_v90
  let main_v92 : FVec F S1x2048x8192 .f32 := mulf main_v91 main_v70
  let main_v93 : FVec F S1x2048x1 .f32 := (extractStridedSlice S1x2048x1 ![0, 0, 1] · slices_S1x2048x2_S1x2048x1_0_0_1) main_v89
  let main_v94 : FVec F S1x2048x8192 .f32 := broadcastInDim S1x2048x8192 ![0, 1, 2] bcast_S1x2048x1_S1x2048x8192_0_1_2 main_v93
  let main_v95 : FVec F S1x2048x8192 .f32 := mulf main_v94 main_v72
  let main_v96 : FVec F S1x2048x8192 .f32 := addf main_v92 main_v95
  let main_values : FVec F S1x2048x16 .f32 := (fun x => (Host.topK S1x2048x16 2 (FloatOps.cmpfTotal .gt) x sliceFits_S1x2048x8192_S1x2048x16).1) main_v96
  let main_indices : IVec S1x2048x16 32 := (fun x => (Host.topK S1x2048x16 2 (FloatOps.cmpfTotal .gt) x sliceFits_S1x2048x8192_S1x2048x16).2) main_v96
  let main_cst_11 : FVec F S_ .f32 := constant S_ .f32 0xFF800000#32
  let main_v97 : FVec F S1x2048 .f32 := (fun x v => Host.reduce FloatOps.maximumf x v reducesTo_S1x2048x16_S1x2048_d2 h_S_) main_values main_cst_11
  let main_cst_12 : FVec F S_ .f32 := constant S_ .f32 0xFF800000#32
  let main_v98 : FVec F S1x2048 .f32 := broadcastInDim S1x2048 ![] bcast_S_S1x2048 main_cst_12
  let main_v99 : FVec F S1x2048 .f32 := maximumf main_v98 main_v97
  let main_v100 : FVec F S1x2048x1 .f32 := broadcastInDim S1x2048x1 ![0, 1] bcast_S1x2048_S1x2048x1_0_1 main_v99
  let main_v101 : FVec F S1x2048x16 .f32 := broadcastInDim S1x2048x16 ![0, 1, 2] bcast_S1x2048x1_S1x2048x16_0_1_2 main_v100
  let main_v102 : FVec F S1x2048x16 .f32 := subf main_values main_v101
  let main_v103 : FVec F S1x2048x16 .f32 := Host.exp main_v102
  fn_part5 (F := F) main_arg0 main_arg1 main_arg2 main_arg3 main_arg4 main_arg5 main_arg6 main_arg7 main_arg8 main_arg9 main_arg10 main_arg11 main_arg12 main_arg13 main_arg14 main_arg15 main_arg16 main_arg17 main_arg18 main_arg19 main_v96 main_indices main_v103

def fn_part3 {F : FTy → Type} [FloatOps F] (main_arg0 : FVec F S1x2048x768 .f32) (main_arg1 : FVec F S8192x768 .f32) (main_arg2 : FVec F S768x768 .f32) (main_arg3 : FVec F S768 .f32) (main_arg4 : FVec F S768x768 .f32) (main_arg5 : FVec F S768 .f32) (main_arg6 : FVec F S768x768 .f32) (main_arg7 : FVec F S768 .f32) (main_arg8 : FVec F S2x1536 .f32) (main_arg9 : FVec F S2 .f32) (main_arg10 : FVec F S64x768 .f32) (main_arg11 : FVec F S64x3072 .f32) (main_arg12 : FVec F S3072x768 .f32) (main_arg13 : FVec F S3072 .f32) (main_arg14 : FVec F S768x3072 .f32) (main_arg15 : FVec F S768 .f32) (main_arg16 : FVec F S768 .f32) (main_arg17 : FVec F S768 .f32) (main_arg18 : FVec F S768 .f32) (main_arg19 : FVec F S768 .f32) (main_v23 : FVec F S1x2048x768 .f32) (main_v44 : FVec F S1x12x2048x64 .f32) (main_v62 : FVec F S1x12x2048x2048 .f32) : IVec S1x2048x16 1 × IVec S1x2048x8 1 × IVec S1x2048x768 1 × IVec S8192x768 1 × IVec S768x768 1 × IVec S768 1 × IVec S2x1536 1 × IVec S2 1 × IVec S64x768 1 × IVec S64x3072 1 × IVec S3072x768 1 × IVec S3072 1 × IVec S768x3072 1 :=
  let main_v63 : FVec F S12x2048x2048 .f32 := shapeCast S12x2048x2048 main_v62 shapeCasts_S1x12x2048x2048_S12x2048x2048
  let main_v64 : FVec F S12x2048x64 .f32 := shapeCast S12x2048x64 main_v44 shapeCasts_S1x12x2048x64_S12x2048x64
  let main_v65 : FVec F S12x2048x64 .f32 := (fun l r => Host.dotGeneral dot_S12x2048x2048_S12x2048x64_S12x2048x64_2_1_1_2_0_0 none l r) main_v63 main_v64
  let main_v66 : FVec F S1x12x2048x64 .f32 := broadcastInDim S1x12x2048x64 ![1, 2, 3] bcast_S12x2048x64_S1x12x2048x64_1_2_3 main_v65
  let main_v67 : FVec F S1x2048x12x64 .f32 := (transpose S1x2048x12x64 [0, 2, 1, 3] · transposes_S1x12x2048x64_S1x2048x12x64_0_2_1_3) main_v66
  let main_v68 : FVec F S1x2048x768 .f32 := shapeCast S1x2048x768 main_v67 shapeCasts_S1x2048x12x64_S1x2048x768
  let main_v69 : FVec F S768x8192 .f32 := (transpose S768x8192 [1, 0] · transposes_S8192x768_S768x8192_1_0) main_arg1
  let main_v70 : FVec F S1x2048x8192 .f32 := (fun l r => Host.dotGeneral dot_S1x2048x768_S768x8192_S1x2048x8192_2_0_01_1_n_n none l r) main_v23 main_v69
  let main_v71 : FVec F S768x8192 .f32 := (transpose S768x8192 [1, 0] · transposes_S8192x768_S768x8192_1_0) main_arg1
  let main_v72 : FVec F S1x2048x8192 .f32 := (fun l r => Host.dotGeneral dot_S1x2048x768_S768x8192_S1x2048x8192_2_0_01_1_n_n none l r) main_v68 main_v71
  let main_v73 : FVec F S1x2048x1536 .f32 := (fun a b => concatenate S1x2048x1536 2 [⟨S1x2048x768, a⟩, ⟨S1x2048x768, b⟩] concatenates_S1x2048x768_S1x2048x768_S1x2048x1536_d2) main_v23 main_v68
  let main_v74 : FVec F S1536x2 .f32 := (transpose S1536x2 [1, 0] · transposes_S2x1536_S1536x2_1_0) main_arg8
  let main_v75 : FVec F S1x2048x2 .f32 := (fun l r => Host.dotGeneral dot_S1x2048x1536_S1536x2_S1x2048x2_2_0_01_1_n_n none l r) main_v73 main_v74
  let main_v76 : FVec F S1x1x2 .f32 := broadcastInDim S1x1x2 ![2] bcast_S2_S1x1x2_2 main_arg9
  let main_v77 : FVec F S1x2048x2 .f32 := broadcastInDim S1x2048x2 ![0, 1, 2] bcast_S1x1x2_S1x2048x2_0_1_2 main_v76
  let main_v78 : FVec F S1x2048x2 .f32 := addf main_v75 main_v77
  let main_cst_8 : FVec F S_ .f32 := constant S_ .f32 0xFF800000#32
  let main_v79 : FVec F S1x2048 .f32 := (fun x v => Host.reduce FloatOps.maximumf x v reducesTo_S1x2048x2_S1x2048_d2 h_S_) main_v78 main_cst_8
  let main_cst_9 : FVec F S_ .f32 := constant S_ .f32 0xFF800000#32
  let main_v80 : FVec F S1x2048 .f32 := broadcastInDim S1x2048 ![] bcast_S_S1x2048 main_cst_9
  let main_v81 : FVec F S1x2048 .f32 := maximumf main_v80 main_v79
  let main_v82 : FVec F S1x2048x1 .f32 := broadcastInDim S1x2048x1 ![0, 1] bcast_S1x2048_S1x2048x1_0_1 main_v81
  let main_v83 : FVec F S1x2048x2 .f32 := broadcastInDim S1x2048x2 ![0, 1, 2] bcast_S1x2048x1_S1x2048x2_0_1_2 main_v82
  let main_v84 : FVec F S1x2048x2 .f32 := subf main_v78 main_v83
  fn_part4 (F := F) main_arg0 main_arg1 main_arg2 main_arg3 main_arg4 main_arg5 main_arg6 main_arg7 main_arg8 main_arg9 main_arg10 main_arg11 main_arg12 main_arg13 main_arg14 main_arg15 main_arg16 main_arg17 main_arg18 main_arg19 main_v70 main_v72 main_v84

def fn_part2 {F : FTy → Type} [FloatOps F] (main_arg0 : FVec F S1x2048x768 .f32) (main_arg1 : FVec F S8192x768 .f32) (main_arg2 : FVec F S768x768 .f32) (main_arg3 : FVec F S768 .f32) (main_arg4 : FVec F S768x768 .f32) (main_arg5 : FVec F S768 .f32) (main_arg6 : FVec F S768x768 .f32) (main_arg7 : FVec F S768 .f32) (main_arg8 : FVec F S2x1536 .f32) (main_arg9 : FVec F S2 .f32) (main_arg10 : FVec F S64x768 .f32) (main_arg11 : FVec F S64x3072 .f32) (main_arg12 : FVec F S3072x768 .f32) (main_arg13 : FVec F S3072 .f32) (main_arg14 : FVec F S768x3072 .f32) (main_arg15 : FVec F S768 .f32) (main_arg16 : FVec F S768 .f32) (main_arg17 : FVec F S768 .f32) (main_arg18 : FVec F S768 .f32) (main_arg19 : FVec F S768 .f32) (main_v23 : FVec F S1x2048x768 .f32) (main_v30 : FVec F S1x12x2048x64 .f32) (main_v37 : FVec F S1x12x2048x64 .f32) (main_v42 : FVec F S1x2048x768 .f32) : IVec S1x2048x16 1 × IVec S1x2048x8 1 × IVec S1x2048x768 1 × IVec S8192x768 1 × IVec S768x768 1 × IVec S768 1 × IVec S2x1536 1 × IVec S2 1 × IVec S64x768 1 × IVec S64x3072 1 × IVec S3072x768 1 × IVec S3072 1 × IVec S768x3072 1 :=
  let main_v43 : FVec F S1x2048x12x64 .f32 := shapeCast S1x2048x12x64 main_v42 shapeCasts_S1x2048x768_S1x2048x12x64
  let main_v44 : FVec F S1x12x2048x64 .f32 := (transpose S1x12x2048x64 [0, 2, 1, 3] · transposes_S1x2048x12x64_S1x12x2048x64_0_2_1_3) main_v43
  let main_v45 : FVec F S1x12x64x2048 .f32 := (transpose S1x12x64x2048 [0, 1, 3, 2] · transposes_S1x12x2048x64_S1x12x64x2048_0_1_3_2) main_v37
  let main_v46 : FVec F S12x2048x64 .f32 := shapeCast S12x2048x64 main_v30 shapeCasts_S1x12x2048x64_S12x2048x64
  let main_v47 : FVec F S12x64x2048 .f32 := shapeCast S12x64x2048 main_v45 shapeCasts_S1x12x64x2048_S12x64x2048
  let main_v48 : FVec F S12x2048x2048 .f32 := (fun l r => Host.dotGeneral dot_S12x2048x64_S12x64x2048_S12x2048x2048_2_1_1_2_0_0 none l r) main_v46 main_v47
  let main_v49 : FVec F S1x12x2048x2048 .f32 := broadcastInDim S1x12x2048x2048 ![1, 2, 3] bcast_S12x2048x2048_S1x12x2048x2048_1_2_3 main_v48
  let main_cst_4 : FVec F S_ .f32 := constant S_ .f32 0x41000000#32
  let main_v50 : FVec F S1x12x2048x2048 .f32 := broadcastInDim S1x12x2048x2048 ![] bcast_S_S1x12x2048x2048 main_cst_4
  let main_v51 : FVec F S1x12x2048x2048 .f32 := Host.divf main_v49 main_v50
  let main_cst_5 : FVec F S_ .f32 := constant S_ .f32 0xFF800000#32
  let main_v52 : FVec F S1x12x2048 .f32 := (fun x v => Host.reduce FloatOps.maximumf x v reducesTo_S1x12x2048x2048_S1x12x2048_d3 h_S_) main_v51 main_cst_5
  let main_cst_6 : FVec F S_ .f32 := constant S_ .f32 0xFF800000#32
  let main_v53 : FVec F S1x12x2048 .f32 := broadcastInDim S1x12x2048 ![] bcast_S_S1x12x2048 main_cst_6
  let main_v54 : FVec F S1x12x2048 .f32 := maximumf main_v53 main_v52
  let main_v55 : FVec F S1x12x2048x1 .f32 := broadcastInDim S1x12x2048x1 ![0, 1, 2] bcast_S1x12x2048_S1x12x2048x1_0_1_2 main_v54
  let main_v56 : FVec F S1x12x2048x2048 .f32 := broadcastInDim S1x12x2048x2048 ![0, 1, 2, 3] bcast_S1x12x2048x1_S1x12x2048x2048_0_1_2_3 main_v55
  let main_v57 : FVec F S1x12x2048x2048 .f32 := subf main_v51 main_v56
  let main_v58 : FVec F S1x12x2048x2048 .f32 := Host.exp main_v57
  let main_cst_7 : FVec F S_ .f32 := constant S_ .f32 0x00000000#32
  let main_v59 : FVec F S1x12x2048 .f32 := (fun x v => Host.reduceAdd x v reducesTo_S1x12x2048x2048_S1x12x2048_d3 h_S_) main_v58 main_cst_7
  let main_v60 : FVec F S1x12x2048x1 .f32 := broadcastInDim S1x12x2048x1 ![0, 1, 2] bcast_S1x12x2048_S1x12x2048x1_0_1_2 main_v59
  let main_v61 : FVec F S1x12x2048x2048 .f32 := broadcastInDim S1x12x2048x2048 ![0, 1, 2, 3] bcast_S1x12x2048x1_S1x12x2048x2048_0_1_2_3 main_v60
  let main_v62 : FVec F S1x12x2048x2048 .f32 := Host.divf main_v58 main_v61
  fn_part3 (F := F) main_arg0 main_arg1 main_arg2 main_arg3 main_arg4 main_arg5 main_arg6 main_arg7 main_arg8 main_arg9 main_arg10 main_arg11 main_arg12 main_arg13 main_arg14 main_arg15 main_arg16 main_arg17 main_arg18 main_arg19 main_v23 main_v44 main_v62

def fn_part1 {F : FTy → Type} [FloatOps F] (main_arg0 : FVec F S1x2048x768 .f32) (main_arg1 : FVec F S8192x768 .f32) (main_arg2 : FVec F S768x768 .f32) (main_arg3 : FVec F S768 .f32) (main_arg4 : FVec F S768x768 .f32) (main_arg5 : FVec F S768 .f32) (main_arg6 : FVec F S768x768 .f32) (main_arg7 : FVec F S768 .f32) (main_arg8 : FVec F S2x1536 .f32) (main_arg9 : FVec F S2 .f32) (main_arg10 : FVec F S64x768 .f32) (main_arg11 : FVec F S64x3072 .f32) (main_arg12 : FVec F S3072x768 .f32) (main_arg13 : FVec F S3072 .f32) (main_arg14 : FVec F S768x3072 .f32) (main_arg15 : FVec F S768 .f32) (main_arg16 : FVec F S768 .f32) (main_arg17 : FVec F S768 .f32) (main_arg18 : FVec F S768 .f32) (main_arg19 : FVec F S768 .f32) (main_v17 : FVec F S1x2048x768 .f32) (main_v18 : FVec F S1x1x768 .f32) : IVec S1x2048x16 1 × IVec S1x2048x8 1 × IVec S1x2048x768 1 × IVec S8192x768 1 × IVec S768x768 1 × IVec S768 1 × IVec S2x1536 1 × IVec S2 1 × IVec S64x768 1 × IVec S64x3072 1 × IVec S3072x768 1 × IVec S3072 1 × IVec S768x3072 1 :=
  let main_v19 : FVec F S1x2048x768 .f32 := broadcastInDim S1x2048x768 ![0, 1, 2] bcast_S1x1x768_S1x2048x768_0_1_2 main_v18
  let main_v20 : FVec F S1x2048x768 .f32 := mulf main_v17 main_v19
  let main_v21 : FVec F S1x1x768 .f32 := broadcastInDim S1x1x768 ![2] bcast_S768_S1x1x768_2 main_arg17
  let main_v22 : FVec F S1x2048x768 .f32 := broadcastInDim S1x2048x768 ![0, 1, 2] bcast_S1x1x768_S1x2048x768_0_1_2 main_v21
  let main_v23 : FVec F S1x2048x768 .f32 := addf main_v20 main_v22
  let main_v24 : FVec F S768x768 .f32 := (transpose S768x768 [1, 0] · transposes_S768x768_S768x768_1_0) main_arg2
  let main_v25 : FVec F S1x2048x768 .f32 := (fun l r => Host.dotGeneral dot_S1x2048x768_S768x768_S1x2048x768_2_0_01_1_n_n none l r) main_v23 main_v24
  let main_v26 : FVec F S1x1x768 .f32 := broadcastInDim S1x1x768 ![2] bcast_S768_S1x1x768_2 main_arg3
  let main_v27 : FVec F S1x2048x768 .f32 := broadcastInDim S1x2048x768 ![0, 1, 2] bcast_S1x1x768_S1x2048x768_0_1_2 main_v26
  let main_v28 : FVec F S1x2048x768 .f32 := addf main_v25 main_v27
  let main_v29 : FVec F S1x2048x12x64 .f32 := shapeCast S1x2048x12x64 main_v28 shapeCasts_S1x2048x768_S1x2048x12x64
  let main_v30 : FVec F S1x12x2048x64 .f32 := (transpose S1x12x2048x64 [0, 2, 1, 3] · transposes_S1x2048x12x64_S1x12x2048x64_0_2_1_3) main_v29
  let main_v31 : FVec F S768x768 .f32 := (transpose S768x768 [1, 0] · transposes_S768x768_S768x768_1_0) main_arg4
  let main_v32 : FVec F S1x2048x768 .f32 := (fun l r => Host.dotGeneral dot_S1x2048x768_S768x768_S1x2048x768_2_0_01_1_n_n none l r) main_v23 main_v31
  let main_v33 : FVec F S1x1x768 .f32 := broadcastInDim S1x1x768 ![2] bcast_S768_S1x1x768_2 main_arg5
  let main_v34 : FVec F S1x2048x768 .f32 := broadcastInDim S1x2048x768 ![0, 1, 2] bcast_S1x1x768_S1x2048x768_0_1_2 main_v33
  let main_v35 : FVec F S1x2048x768 .f32 := addf main_v32 main_v34
  let main_v36 : FVec F S1x2048x12x64 .f32 := shapeCast S1x2048x12x64 main_v35 shapeCasts_S1x2048x768_S1x2048x12x64
  let main_v37 : FVec F S1x12x2048x64 .f32 := (transpose S1x12x2048x64 [0, 2, 1, 3] · transposes_S1x2048x12x64_S1x12x2048x64_0_2_1_3) main_v36
  let main_v38 : FVec F S768x768 .f32 := (transpose S768x768 [1, 0] · transposes_S768x768_S768x768_1_0) main_arg6
  let main_v39 : FVec F S1x2048x768 .f32 := (fun l r => Host.dotGeneral dot_S1x2048x768_S768x768_S1x2048x768_2_0_01_1_n_n none l r) main_v23 main_v38
  let main_v40 : FVec F S1x1x768 .f32 := broadcastInDim S1x1x768 ![2] bcast_S768_S1x1x768_2 main_arg7
  let main_v41 : FVec F S1x2048x768 .f32 := broadcastInDim S1x2048x768 ![0, 1, 2] bcast_S1x1x768_S1x2048x768_0_1_2 main_v40
  let main_v42 : FVec F S1x2048x768 .f32 := addf main_v39 main_v41
  fn_part2 (F := F) main_arg0 main_arg1 main_arg2 main_arg3 main_arg4 main_arg5 main_arg6 main_arg7 main_arg8 main_arg9 main_arg10 main_arg11 main_arg12 main_arg13 main_arg14 main_arg15 main_arg16 main_arg17 main_arg18 main_arg19 main_v23 main_v30 main_v37 main_v42

def fn {F : FTy → Type} [FloatOps F] (main_arg0 : FVec F S1x2048x768 .f32) (main_arg1 : FVec F S8192x768 .f32) (main_arg2 : FVec F S768x768 .f32) (main_arg3 : FVec F S768 .f32) (main_arg4 : FVec F S768x768 .f32) (main_arg5 : FVec F S768 .f32) (main_arg6 : FVec F S768x768 .f32) (main_arg7 : FVec F S768 .f32) (main_arg8 : FVec F S2x1536 .f32) (main_arg9 : FVec F S2 .f32) (main_arg10 : FVec F S64x768 .f32) (main_arg11 : FVec F S64x3072 .f32) (main_arg12 : FVec F S3072x768 .f32) (main_arg13 : FVec F S3072 .f32) (main_arg14 : FVec F S768x3072 .f32) (main_arg15 : FVec F S768 .f32) (main_arg16 : FVec F S768 .f32) (main_arg17 : FVec F S768 .f32) (main_arg18 : FVec F S768 .f32) (main_arg19 : FVec F S768 .f32) : IVec S1x2048x16 1 × IVec S1x2048x8 1 × IVec S1x2048x768 1 × IVec S8192x768 1 × IVec S768x768 1 × IVec S768 1 × IVec S2x1536 1 × IVec S2 1 × IVec S64x768 1 × IVec S64x3072 1 × IVec S3072x768 1 × IVec S3072 1 × IVec S768x3072 1 :=
  let main_cst : FVec F S_ .f32 := constant S_ .f32 0x00000000#32
  let main_v0 : FVec F S1x2048 .f32 := (fun x v => Host.reduceAdd x v reducesTo_S1x2048x768_S1x2048_d2 h_S_) main_arg0 main_cst
  let main_v1 : FVec F S1x2048x1 .f32 := broadcastInDim S1x2048x1 ![0, 1] bcast_S1x2048_S1x2048x1_0_1 main_v0
  let main_cst_0 : FVec F S_ .f32 := constant S_ .f32 0x44400000#32
  let main_v2 : FVec F S1x2048x1 .f32 := broadcastInDim S1x2048x1 ![] bcast_S_S1x2048x1 main_cst_0
  let main_v3 : FVec F S1x2048x1 .f32 := Host.divf main_v1 main_v2
  let main_v4 : FVec F S1x2048x768 .f32 := broadcastInDim S1x2048x768 ![0, 1, 2] bcast_S1x2048x1_S1x2048x768_0_1_2 main_v3
  let main_v5 : FVec F S1x2048x768 .f32 := subf main_arg0 main_v4
  let main_v6 : FVec F S1x2048x768 .f32 := mulf main_v5 main_v5
  let main_cst_1 : FVec F S_ .f32 := constant S_ .f32 0x00000000#32
  let main_v7 : FVec F S1x2048 .f32 := (fun x v => Host.reduceAdd x v reducesTo_S1x2048x768_S1x2048_d2 h_S_) main_v6 main_cst_1
  let main_v8 : FVec F S1x2048x1 .f32 := broadcastInDim S1x2048x1 ![0, 1] bcast_S1x2048_S1x2048x1_0_1 main_v7
  let main_cst_2 : FVec F S_ .f32 := constant S_ .f32 0x44400000#32
  let main_v9 : FVec F S1x2048x1 .f32 := broadcastInDim S1x2048x1 ![] bcast_S_S1x2048x1 main_cst_2
  let main_v10 : FVec F S1x2048x1 .f32 := Host.divf main_v8 main_v9
  let main_v11 : FVec F S1x2048x768 .f32 := broadcastInDim S1x2048x768 ![0, 1, 2] bcast_S1x2048x1_S1x2048x768_0_1_2 main_v3
  let main_v12 : FVec F S1x2048x768 .f32 := subf main_arg0 main_v11
  let main_cst_3 : FVec F S_ .f32 := constant S_ .f32 0x3727C5AC#32
  let main_v13 : FVec F S1x2048x1 .f32 := broadcastInDim S1x2048x1 ![] bcast_S_S1x2048x1 main_cst_3
  let main_v14 : FVec F S1x2048x1 .f32 := addf main_v10 main_v13
  let main_v15 : FVec F S1x2048x1 .f32 := Host.sqrt main_v14
  let main_v16 : FVec F S1x2048x768 .f32 := broadcastInDim S1x2048x768 ![0, 1, 2] bcast_S1x2048x1_S1x2048x768_0_1_2 main_v15
  let main_v17 : FVec F S1x2048x768 .f32 := Host.divf main_v12 main_v16
  let main_v18 : FVec F S1x1x768 .f32 := broadcastInDim S1x1x768 ![2] bcast_S768_S1x1x768_2 main_arg16
  fn_part1 (F := F) main_arg0 main_arg1 main_arg2 main_arg3 main_arg4 main_arg5 main_arg6 main_arg7 main_arg8 main_arg9 main_arg10 main_arg11 main_arg12 main_arg13 main_arg14 main_arg15 main_arg16 main_arg17 main_arg18 main_arg19 main_v17 main_v18
-- ==== Kernel.lean ====
abbrev S1x2048x768 : Shape := ⟨3, ![1, 2048, 768]⟩
abbrev S8192x768 : Shape := ⟨2, ![8192, 768]⟩
abbrev S768x768 : Shape := ⟨2, ![768, 768]⟩
abbrev S768 : Shape := ⟨1, ![768]⟩
abbrev S2x1536 : Shape := ⟨2, ![2, 1536]⟩
abbrev S2 : Shape := ⟨1, ![2]⟩
abbrev S64x768 : Shape := ⟨2, ![64, 768]⟩
abbrev S64x3072 : Shape := ⟨2, ![64, 3072]⟩
abbrev S3072x768 : Shape := ⟨2, ![3072, 768]⟩
abbrev S3072 : Shape := ⟨1, ![3072]⟩
abbrev S768x3072 : Shape := ⟨2, ![768, 3072]⟩
abbrev S2048x768 : Shape := ⟨2, ![2048, 768]⟩
abbrev S1x768 : Shape := ⟨2, ![1, 768]⟩
abbrev S3x768 : Shape := ⟨2, ![3, 768]⟩
abbrev S512x768 : Shape := ⟨2, ![512, 768]⟩
abbrev S512x128 : Shape := ⟨2, ![512, 128]⟩
abbrev S512 : Shape := ⟨1, ![512]⟩
abbrev S512x1 : Shape := ⟨2, ![512, 1]⟩
abbrev S2048x12x64 : Shape := ⟨3, ![2048, 12, 64]⟩
abbrev S12x2048x64 : Shape := ⟨3, ![12, 2048, 64]⟩
abbrev S1x2048x64 : Shape := ⟨3, ![1, 2048, 64]⟩
abbrev S2048x64 : Shape := ⟨2, ![2048, 64]⟩
abbrev S2048x1 : Shape := ⟨2, ![2048, 1]⟩
abbrev S1024x64 : Shape := ⟨2, ![1024, 64]⟩
abbrev S2048x1024 : Shape := ⟨2, ![2048, 1024]⟩
abbrev S2048 : Shape := ⟨1, ![2048]⟩
abbrev S1536x2 : Shape := ⟨2, ![1536, 2]⟩
abbrev S1x2 : Shape := ⟨2, ![1, 2]⟩
abbrev S2048x16 : Shape := ⟨2, ![2048, 16]⟩
abbrev S128x768 : Shape := ⟨2, ![128, 768]⟩
abbrev S128x16 : Shape := ⟨2, ![128, 16]⟩
abbrev S128x8192 : Shape := ⟨2, ![128, 8192]⟩
abbrev S128x1536 : Shape := ⟨2, ![128, 1536]⟩
abbrev S128x2 : Shape := ⟨2, ![128, 2]⟩
abbrev S128 : Shape := ⟨1, ![128]⟩
abbrev S128x1 : Shape := ⟨2, ![128, 1]⟩
abbrev S1x3072 : Shape := ⟨2, ![1, 3072]⟩
abbrev S256x768 : Shape := ⟨2, ![256, 768]⟩
abbrev S256x128 : Shape := ⟨2, ![256, 128]⟩
abbrev S256 : Shape := ⟨1, ![256]⟩
abbrev S256x1 : Shape := ⟨2, ![256, 1]⟩
abbrev S256x64 : Shape := ⟨2, ![256, 64]⟩
abbrev S256x8 : Shape := ⟨2, ![256, 8]⟩
abbrev S256x3072 : Shape := ⟨2, ![256, 3072]⟩
abbrev S1x2048x16 : Shape := ⟨3, ![1, 2048, 16]⟩

abbrev nBuf : Space → Nat
  | .hbm => 63
  | .vmem => 49
  | .smem => 0
  | _ => 0

abbrev bufTy : (tb : Table) → Fin (tcTables nBuf tb) → BufTy
  | .hbm, ⟨0, _⟩ => ⟨S1x2048x768, .f32⟩
  | .hbm, ⟨1, _⟩ => ⟨S8192x768, .f32⟩
  | .hbm, ⟨2, _⟩ => ⟨S768x768, .f32⟩
  | .hbm, ⟨3, _⟩ => ⟨S768, .f32⟩
  | .hbm, ⟨4, _⟩ => ⟨S768x768, .f32⟩
  | .hbm, ⟨5, _⟩ => ⟨S768, .f32⟩
  | .hbm, ⟨6, _⟩ => ⟨S768x768, .f32⟩
  | .hbm, ⟨7, _⟩ => ⟨S768, .f32⟩
  | .hbm, ⟨8, _⟩ => ⟨S2x1536, .f32⟩
  | .hbm, ⟨9, _⟩ => ⟨S2, .f32⟩
  | .hbm, ⟨10, _⟩ => ⟨S64x768, .f32⟩
  | .hbm, ⟨11, _⟩ => ⟨S64x3072, .f32⟩
  | .hbm, ⟨12, _⟩ => ⟨S3072x768, .f32⟩
  | .hbm, ⟨13, _⟩ => ⟨S3072, .f32⟩
  | .hbm, ⟨14, _⟩ => ⟨S768x3072, .f32⟩
  | .hbm, ⟨15, _⟩ => ⟨S768, .f32⟩
  | .hbm, ⟨16, _⟩ => ⟨S768, .f32⟩
  | .hbm, ⟨17, _⟩ => ⟨S768, .f32⟩
  | .hbm, ⟨18, _⟩ => ⟨S768, .f32⟩
  | .hbm, ⟨19, _⟩ => ⟨S768, .f32⟩
  | .hbm, ⟨20, _⟩ => ⟨S2048x768, .f32⟩
  | .hbm, ⟨21, _⟩ => ⟨S1x768, .f32⟩
  | .hbm, ⟨22, _⟩ => ⟨S1x768, .f32⟩
  | .hbm, ⟨23, _⟩ => ⟨S1x768, .f32⟩
  | .hbm, ⟨24, _⟩ => ⟨S3x768, .f32⟩
  | .hbm, ⟨25, _⟩ => ⟨S768x768, .f32⟩
  | .hbm, ⟨26, _⟩ => ⟨S768x768, .bf16⟩
  | .hbm, ⟨27, _⟩ => ⟨S768x768, .f32⟩
  | .hbm, ⟨28, _⟩ => ⟨S768x768, .bf16⟩
  | .hbm, ⟨29, _⟩ => ⟨S768x768, .f32⟩
  | .hbm, ⟨30, _⟩ => ⟨S768x768, .bf16⟩
  | .hbm, ⟨31, _⟩ => ⟨S1x768, .f32⟩
  | .hbm, ⟨32, _⟩ => ⟨S1x768, .f32⟩
  | .hbm, ⟨33, _⟩ => ⟨S2048x768, .f32⟩
  | .hbm, ⟨34, _⟩ => ⟨S2048x768, .f32⟩
  | .hbm, ⟨35, _⟩ => ⟨S2048x768, .f32⟩
  | .hbm, ⟨36, _⟩ => ⟨S2048x768, .f32⟩
  | .hbm, ⟨37, _⟩ => ⟨S2048x12x64, .f32⟩
  | .hbm, ⟨38, _⟩ => ⟨S12x2048x64, .f32⟩
  | .hbm, ⟨39, _⟩ => ⟨S2048x12x64, .f32⟩
  | .hbm, ⟨40, _⟩ => ⟨S12x2048x64, .f32⟩
  | .hbm, ⟨41, _⟩ => ⟨S2048x12x64, .f32⟩
  | .hbm, ⟨42, _⟩ => ⟨S12x2048x64, .f32⟩
  | .hbm, ⟨43, _⟩ => ⟨S12x2048x64, .f32⟩
  | .hbm, ⟨44, _⟩ => ⟨S2048x12x64, .f32⟩
  | .hbm, ⟨45, _⟩ => ⟨S2048x768, .f32⟩
  | .hbm, ⟨46, _⟩ => ⟨S8192x768, .bf16⟩
  | .hbm, ⟨47, _⟩ => ⟨S1536x2, .f32⟩
  | .hbm, ⟨48, _⟩ => ⟨S1536x2, .bf16⟩
  | .hbm, ⟨49, _⟩ => ⟨S1x2, .f32⟩
  | .hbm, ⟨50, _⟩ => ⟨S2048x16, .i32⟩
  | .hbm, ⟨51, _⟩ => ⟨S2048x768, .f32⟩
  | .hbm, ⟨52, _⟩ => ⟨S64x768, .bf16⟩
  | .hbm, ⟨53, _⟩ => ⟨S64x3072, .bf16⟩
  | .hbm, ⟨54, _⟩ => ⟨S3072x768, .bf16⟩
  | .hbm, ⟨55, _⟩ => ⟨S1x3072, .f32⟩
  | .hbm, ⟨56, _⟩ => ⟨S768x3072, .bf16⟩
  | .hbm, ⟨57, _⟩ => ⟨S1x768, .f32⟩
  | .hbm, ⟨58, _⟩ => ⟨S1x768, .f32⟩
  | .hbm, ⟨59, _⟩ => ⟨S1x768, .f32⟩
  | .hbm, ⟨60, _⟩ => ⟨S2048x768, .f32⟩
  | .hbm, ⟨61, _⟩ => ⟨S1x2048x768, .f32⟩
  | .hbm, ⟨62, _⟩ => ⟨S1x2048x16, .i32⟩
  | .local _ .vmem, ⟨0, _⟩ => ⟨S512x768, .f32⟩
  | .local _ .vmem, ⟨1, _⟩ => ⟨S512x768, .f32⟩
  | .local _ .vmem, ⟨2, _⟩ => ⟨S768x768, .bf16⟩
  | .local _ .vmem, ⟨3, _⟩ => ⟨S768x768, .bf16⟩
  | .local _ .vmem, ⟨4, _⟩ => ⟨S768x768, .bf16⟩
  | .local _ .vmem, ⟨5, _⟩ => ⟨S3x768, .f32⟩
  | .local _ .vmem, ⟨6, _⟩ => ⟨S1x768, .f32⟩
  | .local _ .vmem, ⟨7, _⟩ => ⟨S1x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | .local _ .vmem, ⟨14, _⟩ => ⟨S512x768, .f32⟩
  | .local _ .vmem, ⟨15, _⟩ => ⟨S512x768, .f32⟩
  | .local _ .vmem, ⟨16, _⟩ => ⟨S1x2048x64, .f32⟩
  | .local _ .vmem, ⟨17, _⟩ => ⟨S1x2048x64, .f32⟩
  | .local _ .vmem, ⟨18, _⟩ => ⟨S1x2048x64, .f32⟩
  | .local _ .vmem, ⟨19, _⟩ => ⟨S1x2048x64, .f32⟩
  | .local _ .vmem, ⟨20, _⟩ => ⟨S1x2048x64, .f32⟩
  | .local _ .vmem, ⟨21, _⟩ => ⟨S1x2048x64, .f32⟩
  | .local _ .vmem, ⟨22, _⟩ => ⟨S1x2048x64, .f32⟩
  | .local _ .vmem, ⟨23, _⟩ => ⟨S1x2048x64, .f32⟩
  | .local _ .vmem, ⟨24, _⟩ => ⟨S128x768, .f32⟩
  | .local _ .vmem, ⟨25, _⟩ => ⟨S128x768, .f32⟩
  | .local _ .vmem, ⟨26, _⟩ => ⟨S128x768, .f32⟩
  | .local _ .vmem, ⟨27, _⟩ => ⟨S128x768, .f32⟩
  | .local _ .vmem, ⟨28, _⟩ => ⟨S8192x768, .bf16⟩
  | .local _ .vmem, ⟨29, _⟩ => ⟨S1536x2, .bf16⟩
  | .local _ .vmem, ⟨30, _⟩ => ⟨S1x2, .f32⟩
  | .local _ .vmem, ⟨31, _⟩ => ⟨S128x16, .i32⟩
  | .local _ .vmem, ⟨32, _⟩ => ⟨S128x16, .i32⟩
  | .local _ .vmem, ⟨33, _⟩ => ⟨S128x768, .f32⟩
  | .local _ .vmem, ⟨34, _⟩ => ⟨S128x768, .f32⟩
  | .local _ .vmem, ⟨35, _⟩ => ⟨S256x768, .f32⟩
  | .local _ .vmem, ⟨36, _⟩ => ⟨S256x768, .f32⟩
  | .local _ .vmem, ⟨37, _⟩ => ⟨S256x768, .f32⟩
  | .local _ .vmem, ⟨38, _⟩ => ⟨S256x768, .f32⟩
  | .local _ .vmem, ⟨39, _⟩ => ⟨S64x768, .bf16⟩
  | .local _ .vmem, ⟨40, _⟩ => ⟨S64x3072, .bf16⟩
  | .local _ .vmem, ⟨41, _⟩ => ⟨S3072x768, .bf16⟩
  | .local _ .vmem, ⟨42, _⟩ => ⟨S1x3072, .f32⟩
  | .local _ .vmem, ⟨43, _⟩ => ⟨S768x3072, .bf16⟩
  | .local _ .vmem, ⟨44, _⟩ => ⟨S1x768, .f32⟩
  | .local _ .vmem, ⟨45, _⟩ => ⟨S1x768, .f32⟩
  | .local _ .vmem, ⟨46, _⟩ => ⟨S1x768, .f32⟩
  | .local _ .vmem, ⟨47, _⟩ => ⟨S256x768, .f32⟩
  | .local _ .vmem, ⟨48, _⟩ => ⟨S256x768, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13_0 : Ref sig .tc := ⟨.hbm, 33, rfl⟩
abbrev main_v13_1 : Ref sig .tc := ⟨.hbm, 34, rfl⟩
abbrev main_v13_2 : Ref sig .tc := ⟨.hbm, 35, rfl⟩
abbrev main_v13_3 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27_0 : Ref sig .tc := ⟨.hbm, 50, rfl⟩
abbrev main_v27_1 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg5_1 : Ref sig .tc := ⟨.vmem, 32, rfl⟩
abbrev cc2_stg6_0 : Ref sig .tc := ⟨.vmem, 33, rfl⟩
abbrev cc2_stg6_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg1_1 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg6_0 : Ref sig .tc := ⟨.vmem, 43, rfl⟩
abbrev cc3_stg7_0 : Ref sig .tc := ⟨.vmem, 44, rfl⟩
abbrev cc3_stg8_0 : Ref sig .tc := ⟨.vmem, 45, rfl⟩
abbrev cc3_stg9_0 : Ref sig .tc := ⟨.vmem, 46, rfl⟩
abbrev cc3_stg10_0 : Ref sig .tc := ⟨.vmem, 47, rfl⟩
abbrev cc3_stg10_1 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem5_1 : DmaSem sig := 32
abbrev cc2_sem6_0 : DmaSem sig := 33
abbrev cc2_sem6_1 : DmaSem sig := 34
abbrev cc3_sem0_0 : DmaSem sig := 35
abbrev cc3_sem0_1 : DmaSem sig := 36
abbrev cc3_sem1_0 : DmaSem sig := 37
abbrev cc3_sem1_1 : DmaSem sig := 38
abbrev cc3_sem2_0 : DmaSem sig := 39
abbrev cc3_sem3_0 : DmaSem sig := 40
abbrev cc3_sem4_0 : DmaSem sig := 41
abbrev cc3_sem5_0 : DmaSem sig := 42
abbrev cc3_sem6_0 : DmaSem sig := 43
abbrev cc3_sem7_0 : DmaSem sig := 44
abbrev cc3_sem8_0 : DmaSem sig := 45
abbrev cc3_sem9_0 : DmaSem sig := 46
abbrev cc3_sem10_0 : DmaSem sig := 47
abbrev cc3_sem10_1 : DmaSem sig := 48

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![12], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x768 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S8192x768 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1536x2 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S128x16 .i32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S128x768 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x768 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x768 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x768 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x3072 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S3072x768 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x3072 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S768x3072 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x768 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x768 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x768 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S256x768 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]
-- ==== KernelIdeal.lean ====
variable {F : FTy → Type} [FloatOps F] [Named F]
def κ : String → Option EReal := fun
  | "inv_d" => some ((768⁻¹ : ℝ) : EReal)
  | "inv_sqrt_d" => some (((Real.sqrt 768)⁻¹ : ℝ) : EReal)
  | _ => none
-- ==== ReferenceIdeal.lean ====
abbrev S1x2048x768 : Shape := ⟨3, ![1, 2048, 768]⟩
abbrev S8192x768 : Shape := ⟨2, ![8192, 768]⟩
abbrev S768x768 : Shape := ⟨2, ![768, 768]⟩
abbrev S768 : Shape := ⟨1, ![768]⟩
abbrev S2x1536 : Shape := ⟨2, ![2, 1536]⟩
abbrev S2 : Shape := ⟨1, ![2]⟩
abbrev S64x768 : Shape := ⟨2, ![64, 768]⟩
abbrev S64x3072 : Shape := ⟨2, ![64, 3072]⟩
abbrev S3072x768 : Shape := ⟨2, ![3072, 768]⟩
abbrev S3072 : Shape := ⟨1, ![3072]⟩
abbrev S768x3072 : Shape := ⟨2, ![768, 3072]⟩
abbrev S_ : Shape := ⟨0, ![]⟩
abbrev S1x2048 : Shape := ⟨2, ![1, 2048]⟩
abbrev S1x2048x1 : Shape := ⟨3, ![1, 2048, 1]⟩
abbrev S1x1x768 : Shape := ⟨3, ![1, 1, 768]⟩
abbrev S1x2048x12x64 : Shape := ⟨4, ![1, 2048, 12, 64]⟩
abbrev S1x12x2048x64 : Shape := ⟨4, ![1, 12, 2048, 64]⟩
abbrev S1x12x64x2048 : Shape := ⟨4, ![1, 12, 64, 2048]⟩
abbrev S12x2048x64 : Shape := ⟨3, ![12, 2048, 64]⟩
abbrev S12x64x2048 : Shape := ⟨3, ![12, 64, 2048]⟩
abbrev S12x2048x2048 : Shape := ⟨3, ![12, 2048, 2048]⟩
abbrev S1x12x2048x2048 : Shape := ⟨4, ![1, 12, 2048, 2048]⟩
abbrev S1x12x2048 : Shape := ⟨3, ![1, 12, 2048]⟩
abbrev S1x12x2048x1 : Shape := ⟨4, ![1, 12, 2048, 1]⟩
abbrev S768x8192 : Shape := ⟨2, ![768, 8192]⟩
abbrev S1x2048x8192 : Shape := ⟨3, ![1, 2048, 8192]⟩
abbrev S1x2048x1536 : Shape := ⟨3, ![1, 2048, 1536]⟩
abbrev S1536x2 : Shape := ⟨2, ![1536, 2]⟩
abbrev S1x2048x2 : Shape := ⟨3, ![1, 2048, 2]⟩
abbrev S1x1x2 : Shape := ⟨3, ![1, 1, 2]⟩
abbrev S1x2048x16 : Shape := ⟨3, ![1, 2048, 16]⟩
abbrev S1x2048x16x1 : Shape := ⟨4, ![1, 2048, 16, 1]⟩
abbrev S1 : Shape := ⟨1, ![1]⟩
abbrev S1x1x1x1 : Shape := ⟨4, ![1, 1, 1, 1]⟩
abbrev S1x2048x16x768 : Shape := ⟨4, ![1, 2048, 16, 768]⟩
abbrev S64x1x2048x16 : Shape := ⟨4, ![64, 1, 2048, 16]⟩
abbrev S1x1x2048x16 : Shape := ⟨4, ![1, 1, 2048, 16]⟩
abbrev S64x1x2048 : Shape := ⟨3, ![64, 1, 2048]⟩
abbrev S1x2048x64 : Shape := ⟨3, ![1, 2048, 64]⟩
abbrev S1x2048x8 : Shape := ⟨3, ![1, 2048, 8]⟩
abbrev S1x2048x8x1 : Shape := ⟨4, ![1, 2048, 8, 1]⟩
abbrev S1x2048x8x3072 : Shape := ⟨4, ![1, 2048, 8, 3072]⟩
abbrev S1x2048x3072 : Shape := ⟨3, ![1, 2048, 3072]⟩
abbrev S1x1x3072 : Shape := ⟨3, ![1, 1, 3072]⟩

abbrev nBuf : Space → Nat
  | .hbm => 287
  | .vmem => 0
  | .smem => 0
  | _ => 0

abbrev hbmTy0_0 (i : Nat) : BufTy := match i % 128 with
  | 0 => ⟨S1x2048x768, .f32⟩
  | 1 => ⟨S8192x768, .f32⟩
  | 2 => ⟨S768x768, .f32⟩
  | 3 => ⟨S768, .f32⟩
  | 4 => ⟨S768x768, .f32⟩
  | 5 => ⟨S768, .f32⟩
  | 6 => ⟨S768x768, .f32⟩
  | 7 => ⟨S768, .f32⟩
  | 8 => ⟨S2x1536, .f32⟩
  | 9 => ⟨S2, .f32⟩
  | 10 => ⟨S64x768, .f32⟩
  | 11 => ⟨S64x3072, .f32⟩
  | 12 => ⟨S3072x768, .f32⟩
  | 13 => ⟨S3072, .f32⟩
  | 14 => ⟨S768x3072, .f32⟩
  | 15 => ⟨S768, .f32⟩
  | 16 => ⟨S768, .f32⟩
  | 17 => ⟨S768, .f32⟩
  | 18 => ⟨S768, .f32⟩
  | 19 => ⟨S768, .f32⟩
  | 20 => ⟨S_, .f32⟩
  | 21 => ⟨S1x2048, .f32⟩
  | 22 => ⟨S1x2048x1, .f32⟩
  | 23 => ⟨S_, .f32⟩
  | 24 => ⟨S1x2048x1, .f32⟩
  | 25 => ⟨S1x2048x1, .f32⟩
  | 26 => ⟨S1x2048x768, .f32⟩
  | 27 => ⟨S1x2048x768, .f32⟩
  | 28 => ⟨S1x2048x768, .f32⟩
  | 29 => ⟨S_, .f32⟩
  | 30 => ⟨S1x2048, .f32⟩
  | 31 => ⟨S1x2048x1, .f32⟩
  | 32 => ⟨S_, .f32⟩
  | 33 => ⟨S1x2048x1, .f32⟩
  | 34 => ⟨S1x2048x1, .f32⟩
  | 35 => ⟨S1x2048x768, .f32⟩
  | 36 => ⟨S1x2048x768, .f32⟩
  | 37 => ⟨S_, .f32⟩
  | 38 => ⟨S1x2048x1, .f32⟩
  | 39 => ⟨S1x2048x1, .f32⟩
  | 40 => ⟨S1x2048x1, .f32⟩
  | 41 => ⟨S1x2048x768, .f32⟩
  | 42 => ⟨S1x2048x768, .f32⟩
  | 43 => ⟨S1x1x768, .f32⟩
  | 44 => ⟨S1x2048x768, .f32⟩
  | 45 => ⟨S1x2048x768, .f32⟩
  | 46 => ⟨S1x1x768, .f32⟩
  | 47 => ⟨S1x2048x768, .f32⟩
  | 48 => ⟨S1x2048x768, .f32⟩
  | 49 => ⟨S768x768, .f32⟩
  | 50 => ⟨S1x2048x768, .f32⟩
  | 51 => ⟨S1x1x768, .f32⟩
  | 52 => ⟨S1x2048x768, .f32⟩
  | 53 => ⟨S1x2048x768, .f32⟩
  | 54 => ⟨S1x2048x12x64, .f32⟩
  | 55 => ⟨S1x12x2048x64, .f32⟩
  | 56 => ⟨S768x768, .f32⟩
  | 57 => ⟨S1x2048x768, .f32⟩
  | 58 => ⟨S1x1x768, .f32⟩
  | 59 => ⟨S1x2048x768, .f32⟩
  | 60 => ⟨S1x2048x768, .f32⟩
  | 61 => ⟨S1x2048x12x64, .f32⟩
  | 62 => ⟨S1x12x2048x64, .f32⟩
  | 63 => ⟨S768x768, .f32⟩
  | 64 => ⟨S1x2048x768, .f32⟩
  | 65 => ⟨S1x1x768, .f32⟩
  | 66 => ⟨S1x2048x768, .f32⟩
  | 67 => ⟨S1x2048x768, .f32⟩
  | 68 => ⟨S1x2048x12x64, .f32⟩
  | 69 => ⟨S1x12x2048x64, .f32⟩
  | 70 => ⟨S1x12x64x2048, .f32⟩
  | 71 => ⟨S12x2048x64, .f32⟩
  | 72 => ⟨S12x64x2048, .f32⟩
  | 73 => ⟨S12x2048x2048, .f32⟩
  | 74 => ⟨S1x12x2048x2048, .f32⟩
  | 75 => ⟨S_, .f32⟩
  | 76 => ⟨S1x12x2048x2048, .f32⟩
  | 77 => ⟨S1x12x2048x2048, .f32⟩
  | 78 => ⟨S_, .f32⟩
  | 79 => ⟨S1x12x2048, .f32⟩
  | 80 => ⟨S_, .f32⟩
  | 81 => ⟨S1x12x2048, .f32⟩
  | 82 => ⟨S1x12x2048, .f32⟩
  | 83 => ⟨S1x12x2048x1, .f32⟩
  | 84 => ⟨S1x12x2048x2048, .f32⟩
  | 85 => ⟨S1x12x2048x2048, .f32⟩
  | 86 => ⟨S1x12x2048x2048, .f32⟩
  | 87 => ⟨S_, .f32⟩
  | 88 => ⟨S1x12x2048, .f32⟩
  | 89 => ⟨S1x12x2048x1, .f32⟩
  | 90 => ⟨S1x12x2048x2048, .f32⟩
  | 91 => ⟨S1x12x2048x2048, .f32⟩
  | 92 => ⟨S12x2048x2048, .f32⟩
  | 93 => ⟨S12x2048x64, .f32⟩
  | 94 => ⟨S12x2048x64, .f32⟩
  | 95 => ⟨S1x12x2048x64, .f32⟩
  | 96 => ⟨S1x2048x12x64, .f32⟩
  | 97 => ⟨S1x2048x768, .f32⟩
  | 98 => ⟨S768x8192, .f32⟩
  | 99 => ⟨S1x2048x8192, .f32⟩
  | 100 => ⟨S768x8192, .f32⟩
  | 101 => ⟨S1x2048x8192, .f32⟩
  | 102 => ⟨S1x2048x1536, .f32⟩
  | 103 => ⟨S1536x2, .f32⟩
  | 104 => ⟨S1x2048x2, .f32⟩
  | 105 => ⟨S1x1x2, .f32⟩
  | 106 => ⟨S1x2048x2, .f32⟩
  | 107 => ⟨S1x2048x2, .f32⟩
  | 108 => ⟨S_, .f32⟩
  | 109 => ⟨S1x2048, .f32⟩
  | 110 => ⟨S_, .f32⟩
  | 111 => ⟨S1x2048, .f32⟩
  | 112 => ⟨S1x2048, .f32⟩
  | 113 => ⟨S1x2048x1, .f32⟩
  | 114 => ⟨S1x2048x2, .f32⟩
  | 115 => ⟨S1x2048x2, .f32⟩
  | 116 => ⟨S1x2048x2, .f32⟩
  | 117 => ⟨S_, .f32⟩
  | 118 => ⟨S1x2048, .f32⟩
  | 119 => ⟨S1x2048x1, .f32⟩
  | 120 => ⟨S1x2048x2, .f32⟩
  | 121 => ⟨S1x2048x2, .f32⟩
  | 122 => ⟨S1x2048x1, .f32⟩
  | 123 => ⟨S1x2048x8192, .f32⟩
  | 124 => ⟨S1x2048x8192, .f32⟩
  | 125 => ⟨S1x2048x1, .f32⟩
  | 126 => ⟨S1x2048x8192, .f32⟩
  | 127 => ⟨S1x2048x8192, .f32⟩
  | _ => ⟨S1x2048x768, .f32⟩

abbrev hbmTy0_1 (i : Nat) : BufTy := match i % 128 with
  | 0 => ⟨S1x2048x8192, .f32⟩
  | 1 => ⟨S1x2048x16, .f32⟩
  | 2 => ⟨S1x2048x16, .i32⟩
  | 3 => ⟨S_, .f32⟩
  | 4 => ⟨S1x2048, .f32⟩
  | 5 => ⟨S_, .f32⟩
  | 6 => ⟨S1x2048, .f32⟩
  | 7 => ⟨S1x2048, .f32⟩
  | 8 => ⟨S1x2048x1, .f32⟩
  | 9 => ⟨S1x2048x16, .f32⟩
  | 10 => ⟨S1x2048x16, .f32⟩
  | 11 => ⟨S1x2048x16, .f32⟩
  | 12 => ⟨S_, .f32⟩
  | 13 => ⟨S1x2048, .f32⟩
  | 14 => ⟨S1x2048x1, .f32⟩
  | 15 => ⟨S1x2048x16, .f32⟩
  | 16 => ⟨S1x2048x16, .f32⟩
  | 17 => ⟨S_, .i32⟩
  | 18 => ⟨S1x2048x16, .i32⟩
  | 19 => ⟨S1x2048x16, .i1⟩
  | 20 => ⟨S_, .i32⟩
  | 21 => ⟨S1x2048x16, .i32⟩
  | 22 => ⟨S1x2048x16, .i32⟩
  | 23 => ⟨S1x2048x16, .i32⟩
  | 24 => ⟨S1x2048x16x1, .i32⟩
  | 25 => ⟨S1, .i32⟩
  | 26 => ⟨S_, .i32⟩
  | 27 => ⟨S1x2048x16x1, .i32⟩
  | 28 => ⟨S1x2048x16x1, .i1⟩
  | 29 => ⟨S1x1x1x1, .i32⟩
  | 30 => ⟨S1x2048x16x1, .i32⟩
  | 31 => ⟨S1x2048x16x1, .i1⟩
  | 32 => ⟨S1x2048x16x1, .i1⟩
  | 33 => ⟨S_, .i1⟩
  | 34 => ⟨S1x2048x16, .i1⟩
  | 35 => ⟨S1x2048x16x768, .f32⟩
  | 36 => ⟨S1x2048x16x768, .i1⟩
  | 37 => ⟨S_, .f32⟩
  | 38 => ⟨S1x2048x16x768, .f32⟩
  | 39 => ⟨S1x2048x16x768, .f32⟩
  | 40 => ⟨S1x2048x16x1, .f32⟩
  | 41 => ⟨S1x2048x16x768, .f32⟩
  | 42 => ⟨S1x2048x16x768, .f32⟩
  | 43 => ⟨S_, .f32⟩
  | 44 => ⟨S1x2048x768, .f32⟩
  | 45 => ⟨S1x2048x768, .f32⟩
  | 46 => ⟨S_, .f32⟩
  | 47 => ⟨S1x2048, .f32⟩
  | 48 => ⟨S1x2048x1, .f32⟩
  | 49 => ⟨S_, .f32⟩
  | 50 => ⟨S1x2048x1, .f32⟩
  | 51 => ⟨S1x2048x1, .f32⟩
  | 52 => ⟨S1x2048x768, .f32⟩
  | 53 => ⟨S1x2048x768, .f32⟩
  | 54 => ⟨S1x2048x768, .f32⟩
  | 55 => ⟨S_, .f32⟩
  | 56 => ⟨S1x2048, .f32⟩
  | 57 => ⟨S1x2048x1, .f32⟩
  | 58 => ⟨S_, .f32⟩
  | 59 => ⟨S1x2048x1, .f32⟩
  | 60 => ⟨S1x2048x1, .f32⟩
  | 61 => ⟨S1x2048x768, .f32⟩
  | 62 => ⟨S1x2048x768, .f32⟩
  | 63 => ⟨S_, .f32⟩
  | 64 => ⟨S1x2048x1, .f32⟩
  | 65 => ⟨S1x2048x1, .f32⟩
  | 66 => ⟨S1x2048x1, .f32⟩
  | 67 => ⟨S1x2048x768, .f32⟩
  | 68 => ⟨S1x2048x768, .f32⟩
  | 69 => ⟨S1x1x768, .f32⟩
  | 70 => ⟨S1x2048x768, .f32⟩
  | 71 => ⟨S1x2048x768, .f32⟩
  | 72 => ⟨S1x1x768, .f32⟩
  | 73 => ⟨S1x2048x768, .f32⟩
  | 74 => ⟨S1x2048x768, .f32⟩
  | 75 => ⟨S64x1x2048x16, .f32⟩
  | 76 => ⟨S_, .f32⟩
  | 77 => ⟨S_, .f32⟩
  | 78 => ⟨S64x1x2048x16, .f32⟩
  | 79 => ⟨S64x1x2048x16, .f32⟩
  | 80 => ⟨S1x1x2048x16, .f32⟩
  | 81 => ⟨S64x1x2048x16, .f32⟩
  | 82 => ⟨S64x1x2048x16, .f32⟩
  | 83 => ⟨S_, .f32⟩
  | 84 => ⟨S64x1x2048, .f32⟩
  | 85 => ⟨S1x2048x64, .f32⟩
  | 86 => ⟨S1x2048x8, .f32⟩
  | 87 => ⟨S1x2048x8, .i32⟩
  | 88 => ⟨S_, .f32⟩
  | 89 => ⟨S1x2048, .f32⟩
  | 90 => ⟨S_, .f32⟩
  | 91 => ⟨S1x2048, .f32⟩
  | 92 => ⟨S1x2048, .f32⟩
  | 93 => ⟨S1x2048x1, .f32⟩
  | 94 => ⟨S1x2048x8, .f32⟩
  | 95 => ⟨S1x2048x8, .f32⟩
  | 96 => ⟨S1x2048x8, .f32⟩
  | 97 => ⟨S_, .f32⟩
  | 98 => ⟨S1x2048, .f32⟩
  | 99 => ⟨S1x2048x1, .f32⟩
  | 100 => ⟨S1x2048x8, .f32⟩
  | 101 => ⟨S1x2048x8, .f32⟩
  | 102 => ⟨S_, .i32⟩
  | 103 => ⟨S1x2048x8, .i32⟩
  | 104 => ⟨S1x2048x8, .i1⟩
  | 105 => ⟨S_, .i32⟩
  | 106 => ⟨S1x2048x8, .i32⟩
  | 107 => ⟨S1x2048x8, .i32⟩
  | 108 => ⟨S1x2048x8, .i32⟩
  | 109 => ⟨S1x2048x8x1, .i32⟩
  | 110 => ⟨S1, .i32⟩
  | 111 => ⟨S_, .i32⟩
  | 112 => ⟨S1x2048x8x1, .i32⟩
  | 113 => ⟨S1x2048x8x1, .i1⟩
  | 114 => ⟨S1x1x1x1, .i32⟩
  | 115 => ⟨S1x2048x8x1, .i32⟩
  | 116 => ⟨S1x2048x8x1, .i1⟩
  | 117 => ⟨S1x2048x8x1, .i1⟩
  | 118 => ⟨S_, .i1⟩
  | 119 => ⟨S1x2048x8, .i1⟩
  | 120 => ⟨S1x2048x8x3072, .f32⟩
  | 121 => ⟨S1x2048x8x3072, .i1⟩
  | 122 => ⟨S_, .f32⟩
  | 123 => ⟨S1x2048x8x3072, .f32⟩
  | 124 => ⟨S1x2048x8x3072, .f32⟩
  | 125 => ⟨S1x2048x8x1, .f32⟩
  | 126 => ⟨S1x2048x8x3072, .f32⟩
  | 127 => ⟨S1x2048x8x3072, .f32⟩
  | _ => ⟨S1x2048x768, .f32⟩

abbrev hbmTy0_2 (i : Nat) : BufTy := match i % 128 with
  | 0 => ⟨S_, .f32⟩
  | 1 => ⟨S1x2048x3072, .f32⟩
  | 2 => ⟨S768x3072, .f32⟩
  | 3 => ⟨S1x2048x3072, .f32⟩
  | 4 => ⟨S1x1x3072, .f32⟩
  | 5 => ⟨S1x2048x3072, .f32⟩
  | 6 => ⟨S1x2048x3072, .f32⟩
  | 7 => ⟨S1x2048x3072, .f32⟩
  | 8 => ⟨S1x2048x3072, .f32⟩
  | 9 => ⟨S_, .f32⟩
  | 10 => ⟨S1x2048x3072, .f32⟩
  | 11 => ⟨S1x2048x3072, .f32⟩
  | 12 => ⟨S_, .f32⟩
  | 13 => ⟨S1x2048x3072, .f32⟩
  | 14 => ⟨S1x2048x3072, .f32⟩
  | 15 => ⟨S1x2048x3072, .f32⟩
  | 16 => ⟨S_, .f32⟩
  | 17 => ⟨S1x2048x3072, .f32⟩
  | 18 => ⟨S1x2048x3072, .f32⟩
  | 19 => ⟨S1x2048x3072, .f32⟩
  | 20 => ⟨S_, .f32⟩
  | 21 => ⟨S1x2048x3072, .f32⟩
  | 22 => ⟨S1x2048x3072, .f32⟩
  | 23 => ⟨S1x2048x3072, .f32⟩
  | 24 => ⟨S1x2048x3072, .f32⟩
  | 25 => ⟨S3072x768, .f32⟩
  | 26 => ⟨S1x2048x768, .f32⟩
  | 27 => ⟨S1x1x768, .f32⟩
  | 28 => ⟨S1x2048x768, .f32⟩
  | 29 => ⟨S1x2048x768, .f32⟩
  | 30 => ⟨S1x2048x768, .f32⟩
  | _ => ⟨S1x2048x768, .f32⟩

abbrev hbmTy (i : Nat) : BufTy := match i / 128 with
  | 0 => hbmTy0_0 i
  | 1 => hbmTy0_1 i
  | 2 => hbmTy0_2 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_v1 : Ref sig .tc := ⟨.hbm, 22, rfl⟩
abbrev main_cst_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst_1 : Ref sig .tc := ⟨.hbm, 29, rfl⟩
abbrev main_v7 : Ref sig .tc := ⟨.hbm, 30, rfl⟩
abbrev main_v8 : Ref sig .tc := ⟨.hbm, 31, rfl⟩
abbrev main_cst_2 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_3 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_4 : Ref sig .tc := ⟨.hbm, 75, rfl⟩
abbrev main_v50 : Ref sig .tc := ⟨.hbm, 76, rfl⟩
abbrev main_v51 : Ref sig .tc := ⟨.hbm, 77, rfl⟩
abbrev main_cst_5 : Ref sig .tc := ⟨.hbm, 78, rfl⟩
abbrev main_v52 : Ref sig .tc := ⟨.hbm, 79, rfl⟩
abbrev main_cst_6 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_7 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_8 : Ref sig .tc := ⟨.hbm, 108, rfl⟩
abbrev main_v79 : Ref sig .tc := ⟨.hbm, 109, rfl⟩
abbrev main_cst_9 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_10 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_values : Ref sig .tc := ⟨.hbm, 129, rfl⟩
abbrev main_indices : Ref sig .tc := ⟨.hbm, 130, rfl⟩
abbrev main_cst_11 : Ref sig .tc := ⟨.hbm, 131, rfl⟩
abbrev main_v97 : Ref sig .tc := ⟨.hbm, 132, rfl⟩
abbrev main_cst_12 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_13 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_call0_c : Ref sig .tc := ⟨.hbm, 145, rfl⟩
abbrev main_call0_v0 : Ref sig .tc := ⟨.hbm, 146, rfl⟩
abbrev main_call0_v1 : Ref sig .tc := ⟨.hbm, 147, rfl⟩
abbrev main_call0_c_0 : Ref sig .tc := ⟨.hbm, 148, rfl⟩
abbrev main_call0_v2 : Ref sig .tc := ⟨.hbm, 149, rfl⟩
abbrev main_call0_v3 : Ref sig .tc := ⟨.hbm, 150, rfl⟩
abbrev main_call0_v4 : Ref sig .tc := ⟨.hbm, 151, rfl⟩
abbrev main_call0_v5 : Ref sig .tc := ⟨.hbm, 152, rfl⟩
abbrev main_call0_c_1 : Ref sig .tc := ⟨.hbm, 153, rfl⟩
abbrev main_call0_c_2 : Ref sig .tc := ⟨.hbm, 154, rfl⟩
abbrev main_call0_v6 : Ref sig .tc := ⟨.hbm, 155, rfl⟩
abbrev main_call0_v7 : Ref sig .tc := ⟨.hbm, 156, rfl⟩
abbrev main_call0_v8 : Ref sig .tc := ⟨.hbm, 157, rfl⟩
abbrev main_call0_v9 : Ref sig .tc := ⟨.hbm, 158, rfl⟩
abbrev main_call0_v10 : Ref sig .tc := ⟨.hbm, 159, rfl⟩
abbrev main_call0_v11 : Ref sig .tc := ⟨.hbm, 160, rfl⟩
abbrev main_call0_c_3 : Ref sig .tc := ⟨.hbm, 161, rfl⟩
abbrev main_call0_v12 : Ref sig .tc := ⟨.hbm, 162, rfl⟩
abbrev main_call0_v13 : Ref sig .tc := ⟨.hbm, 163, rfl⟩
abbrev main_call0_v14 : Ref sig .tc := ⟨.hbm, 164, rfl⟩
abbrev main_call0_cst : Ref sig .tc := ⟨.hbm, 165, rfl⟩
abbrev main_call0_v15 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_cst_14 : Ref sig .tc := ⟨.hbm, 171, rfl⟩
abbrev main_v112 : Ref sig .tc := ⟨.hbm, 172, rfl⟩
abbrev main_v113 : Ref sig .tc := ⟨.hbm, 173, rfl⟩
abbrev main_cst_15 : Ref sig .tc := ⟨.hbm, 174, rfl⟩
abbrev main_v114 : Ref sig .tc := ⟨.hbm, 175, rfl⟩
abbrev main_v115 : Ref sig .tc := ⟨.hbm, 176, rfl⟩
abbrev main_cst_16 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_cst_17 : Ref sig .tc := ⟨.hbm, 183, rfl⟩
abbrev main_v121 : Ref sig .tc := ⟨.hbm, 184, rfl⟩
abbrev main_v122 : Ref sig .tc := ⟨.hbm, 185, rfl⟩
abbrev main_cst_18 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_cst_19 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_cst_20 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_cst_21 : Ref sig .tc := ⟨.hbm, 211, rfl⟩
abbrev main_v145 : Ref sig .tc := ⟨.hbm, 212, rfl⟩
abbrev main_v146 : Ref sig .tc := ⟨.hbm, 213, rfl⟩
abbrev main_values_22 : Ref sig .tc := ⟨.hbm, 214, rfl⟩
abbrev main_indices_23 : Ref sig .tc := ⟨.hbm, 215, rfl⟩
abbrev main_cst_24 : Ref sig .tc := ⟨.hbm, 216, rfl⟩
abbrev main_v147 : Ref sig .tc := ⟨.hbm, 217, rfl⟩
abbrev main_cst_25 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_cst_26 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_v157 : Ref sig .tc := ⟨.hbm, 229, rfl⟩
abbrev main_call1_c : Ref sig .tc := ⟨.hbm, 230, rfl⟩
abbrev main_call1_v0 : Ref sig .tc := ⟨.hbm, 231, rfl⟩
abbrev main_call1_v1 : Ref sig .tc := ⟨.hbm, 232, rfl⟩
abbrev main_call1_c_0 : Ref sig .tc := ⟨.hbm, 233, rfl⟩
abbrev main_call1_v2 : Ref sig .tc := ⟨.hbm, 234, rfl⟩
abbrev main_call1_v3 : Ref sig .tc := ⟨.hbm, 235, rfl⟩
abbrev main_call1_v4 : Ref sig .tc := ⟨.hbm, 236, rfl⟩
abbrev main_call1_v5 : Ref sig .tc := ⟨.hbm, 237, rfl⟩
abbrev main_call1_c_1 : Ref sig .tc := ⟨.hbm, 238, rfl⟩
abbrev main_call1_c_2 : Ref sig .tc := ⟨.hbm, 239, rfl⟩
abbrev main_call1_v6 : Ref sig .tc := ⟨.hbm, 240, rfl⟩
abbrev main_call1_v7 : Ref sig .tc := ⟨.hbm, 241, rfl⟩
abbrev main_call1_v8 : Ref sig .tc := ⟨.hbm, 242, rfl⟩
abbrev main_call1_v9 : Ref sig .tc := ⟨.hbm, 243, rfl⟩
abbrev main_call1_v10 : Ref sig .tc := ⟨.hbm, 244, rfl⟩
abbrev main_call1_v11 : Ref sig .tc := ⟨.hbm, 245, rfl⟩
abbrev main_call1_c_3 : Ref sig .tc := ⟨.hbm, 246, rfl⟩
abbrev main_call1_v12 : Ref sig .tc := ⟨.hbm, 247, rfl⟩
abbrev main_call1_v13 : Ref sig .tc := ⟨.hbm, 248, rfl⟩
abbrev main_call1_v14 : Ref sig .tc := ⟨.hbm, 249, rfl⟩
abbrev main_call1_cst : Ref sig .tc := ⟨.hbm, 250, rfl⟩
abbrev main_call1_v15 : Ref sig .tc := ⟨.hbm, 251, rfl⟩
abbrev main_v158 : Ref sig .tc := ⟨.hbm, 252, rfl⟩
abbrev main_v159 : Ref sig .tc := ⟨.hbm, 253, rfl⟩
abbrev main_v160 : Ref sig .tc := ⟨.hbm, 254, rfl⟩
abbrev main_v161 : Ref sig .tc := ⟨.hbm, 255, rfl⟩
abbrev main_cst_27 : Ref sig .tc := ⟨.hbm, 256, rfl⟩
abbrev main_v162 : Ref sig .tc := ⟨.hbm, 257, rfl⟩
abbrev main_v163 : Ref sig .tc := ⟨.hbm, 258, rfl⟩
abbrev main_v164 : Ref sig .tc := ⟨.hbm, 259, rfl⟩
abbrev main_v165 : Ref sig .tc := ⟨.hbm, 260, rfl⟩
abbrev main_v166 : Ref sig .tc := ⟨.hbm, 261, rfl⟩
abbrev main_v167 : Ref sig .tc := ⟨.hbm, 262, rfl⟩
abbrev main_v168 : Ref sig .tc := ⟨.hbm, 263, rfl⟩
abbrev main_v169 : Ref sig .tc := ⟨.hbm, 264, rfl⟩
abbrev main_cst_28 : Ref sig .tc := ⟨.hbm, 265, rfl⟩
abbrev main_v170 : Ref sig .tc := ⟨.hbm, 266, rfl⟩
abbrev main_v171 : Ref sig .tc := ⟨.hbm, 267, rfl⟩
abbrev main_cst_29 : Ref sig .tc := ⟨.hbm, 268, rfl⟩
abbrev main_v172 : Ref sig .tc := ⟨.hbm, 269, rfl⟩
abbrev main_v173 : Ref sig .tc := ⟨.hbm, 270, rfl⟩
abbrev main_v174 : Ref sig .tc := ⟨.hbm, 271, rfl⟩
abbrev main_cst_30 : Ref sig .tc := ⟨.hbm, 272, rfl⟩
abbrev main_v175 : Ref sig .tc := ⟨.hbm, 273, rfl⟩
abbrev main_v176 : Ref sig .tc := ⟨.hbm, 274, rfl⟩
abbrev main_v177 : Ref sig .tc := ⟨.hbm, 275, rfl⟩
abbrev main_cst_31 : Ref sig .tc := ⟨.hbm, 276, rfl⟩
abbrev main_v178 : Ref sig .tc := ⟨.hbm, 277, rfl⟩
abbrev main_v179 : Ref sig .tc := ⟨.hbm, 278, rfl⟩
abbrev main_v180 : Ref sig .tc := ⟨.hbm, 279, rfl⟩
abbrev main_v181 : Ref sig .tc := ⟨.hbm, 280, rfl⟩
abbrev main_v182 : Ref sig .tc := ⟨.hbm, 281, rfl⟩
abbrev main_v183 : Ref sig .tc := ⟨.hbm, 282, rfl⟩
abbrev main_v184 : Ref sig .tc := ⟨.hbm, 283, rfl⟩
abbrev main_v185 : Ref sig .tc := ⟨.hbm, 284, rfl⟩
abbrev main_v186 : Ref sig .tc := ⟨.hbm, 285, rfl⟩
abbrev main_v187 : Ref sig .tc := ⟨.hbm, 286, rfl⟩

abbrev nD : Nat := 1
abbrev τ : Topo := Topo.v7x

variable {F : FTy → Type} [FloatOps F]
-- ==== Proof.Run.lean ====
/- The kernel's run: its two results as the last boundary holds them, the arguments unchanged. -/
module

public import proofs.«01_k».proof.Proof.Gen.KernelIdeal.Frame

@[expose] public section

set_option maxRecDepth 16384

noncomputable section

namespace Cert.Proof.Run

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with both results at the last boundary's contents and every argument as launched. -/
theorem run : θ_run defs (onTc (τ := τ) (main (F := F))) ⟨m, fun _ => 0, ρ⟩ (fun r => ∀ c : Dev nD,
      r.2.mem ((c.tc : Thread nD τ).loc main_v37) = W9 m ρ c (Proc.devRef .tc main_v37)
      ∧ r.2.mem ((c.tc : Thread nD τ).loc main_v38) = W9 m ρ c (Proc.devRef .tc main_v38)
      ∧r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => fun c =>
      ⟨h c _ (mem_uc main_v37 (by decide)), h c _ (mem_uc main_v38 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c),
       (h c _ (mem_uc main_arg17 (by decide))).trans (W9_main_arg17 m ρ c),
       (h c _ (mem_uc main_arg18 (by decide))).trans (W9_main_arg18 m ρ c),
       (h c _ (mem_uc main_arg19 (by decide))).trans (W9_main_arg19 m ρ c)⟩)

end Cert.Proof.Run

end
-- ==== Proof.Reals.lean ====
/- Extended reals that are coerced reals: sums, quotients, maxima and the softmax that does not depend on its shift. -/
module

public import Idealize.ShloMosaic.Lib.Pointwise
public import Idealize.ShloMosaic.Lib.IdealHost

@[expose] public section

noncomputable section

namespace Cert.Proof

open Idealize.ShloMosaic
open scoped BigOperators

/-- A finite sum of coerced reals is the coerced sum. -/
theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- The ideal quotient of two reals, the divisor not zero, is their real quotient. -/
theorem div_coe_coe (a b : ℝ) (h : b ≠ 0) : Ideal.div (a : EReal) (b : EReal) = ((a / b : ℝ) : EReal) := by
  rw [Ideal.div_coe h, ← EReal.coe_mul]; congr 1; ring

/-- The ideal square root of a real that is not negative. -/
theorem sqrt_coe_nonneg (a : ℝ) (h : 0 ≤ a) : Ideal.sqrt (a : EReal) = ((Real.sqrt a : ℝ) : EReal) := by
  rw [Ideal.sqrt_coe, if_neg (not_lt.mpr h)]

/-- The larger of two coerced reals is the coerced larger one. -/
theorem coe_max (a b : ℝ) : ((max a b : ℝ) : EReal) = max (a : EReal) (b : EReal) :=
  EReal.coe_strictMono.monotone.map_max

/-- A maximum of finitely many reals (at least one), started at `⊥`, is a real. -/
theorem fold_max_real {ι : Type*} [Fintype ι] [Nonempty ι] (f : ι → ℝ) :
    ∃ M : ℝ, Finset.univ.fold max (⊥ : EReal) (fun i => (f i : EReal)) = M := by
  classical
  have key : ∀ s : Finset ι, s.Nonempty → ∃ M : ℝ, s.fold max (⊥ : EReal) (fun i => (f i : EReal)) = M := by
    intro s hs
    induction hs using Finset.Nonempty.cons_induction with
    | singleton a => exact ⟨f a, by simp⟩
    | cons a s ha hs ih =>
      obtain ⟨M, hM⟩ := ih
      exact ⟨max (f a) M, by rw [Finset.fold_cons, hM, coe_max]⟩
  exact key _ Finset.univ_nonempty

/-- An extended real whose absolute value is below `⊤` is a real. -/
theorem coe_toReal_of_abs_lt {x : EReal} (h : max x (-x) < ⊤) : ((x.toReal : ℝ) : EReal) = x := by
  induction x with
  | bot => simp at h
  | coe r => rfl
  | top => simp at h

/-- A weighted mean with exponential weights does not depend on the shift of the exponents. -/
theorem softmax_shift {ι : Type*} [Fintype ι] (l v : ι → ℝ) (M : ℝ) :
    (∑ i, Real.exp (l i - M) * v i) / (∑ i, Real.exp (l i - M)) = (∑ i, Real.exp (l i) * v i) / (∑ i, Real.exp (l i)) := by
  have h1 : ∀ i, Real.exp (l i - M) = Real.exp (l i) * Real.exp (-M) := fun i => by rw [← Real.exp_add]; ring_nf
  have h2 : ∑ i, Real.exp (l i - M) * v i = (∑ i, Real.exp (l i) * v i) * Real.exp (-M) := by
    rw [Finset.sum_mul]; exact Finset.sum_congr rfl fun i _ => by rw [h1]; ring
  have h3 : ∑ i, Real.exp (l i - M) = (∑ i, Real.exp (l i)) * Real.exp (-M) := by
    rw [Finset.sum_mul]; exact Finset.sum_congr rfl fun i _ => h1 i
  rw [h2, h3, mul_div_mul_right _ _ (Real.exp_pos _).ne']

/-- The single weights of a softmax do not depend on the shift either. -/
theorem softmax_weight {ι : Type*} [Fintype ι] (l : ι → ℝ) (M : ℝ) (i : ι) :
    Real.exp (l i - M) / (∑ j, Real.exp (l j - M)) = Real.exp (l i) / (∑ j, Real.exp (l j)) := by
  have h1 : ∀ i, Real.exp (l i - M) = Real.exp (l i) * Real.exp (-M) := fun i => by rw [← Real.exp_add]; ring_nf
  have h3 : ∑ i, Real.exp (l i - M) = (∑ i, Real.exp (l i)) * Real.exp (-M) := by
    rw [Finset.sum_mul]; exact Finset.sum_congr rfl fun i _ => h1 i
  rw [h3, h1, mul_div_mul_right _ _ (Real.exp_pos _).ne']

/-- A sum of exponentials over a nonempty type is positive. -/
theorem sum_exp_pos {ι : Type*} [Fintype ι] [Nonempty ι] (l : ι → ℝ) : 0 < ∑ i, Real.exp (l i) :=
  Finset.sum_pos (fun i _ => Real.exp_pos _) Finset.univ_nonempty

/-- The sum of the normalized weights times values is the weighted mean. -/
theorem sum_weights {ι : Type*} [Fintype ι] (w v : ι → ℝ) (Z : ℝ) :
    ∑ i, w i / Z * v i = (∑ i, w i * v i) / Z := by
  rw [Finset.sum_div]; exact Finset.sum_congr rfl fun i _ => by ring

end Cert.Proof

end
-- ==== Proof.TopSel.lean ====
/- The strict top `K` of a row of reals: a selection of the `K` greatest entries that no tie touches, how a sort yields it,
   and what repeated masked maxima and a threshold make of it. -/
module

public import proofs.«01_k».proof.Proof.Reals

@[expose] public section

noncomputable section

namespace Cert.Proof

open Idealize.ShloMosaic
open scoped BigOperators

/-- `sel` names the `K` greatest entries of `s` in strictly decreasing order, every other entry being strictly less
    than each of them. -/
structure Top {K N : ℕ} (s : Fin N → ℝ) (sel : Fin K → Fin N) : Prop where
  anti : ∀ i j : Fin K, i < j → s (sel j) < s (sel i)
  dom : ∀ n : Fin N, (∃ k, sel k = n) ∨ ∀ k, s n < s (sel k)

variable {K N : ℕ} {s : Fin N → ℝ} {sel : Fin K → Fin N}

/-- The selected scores determine the selected positions. -/
theorem Top.eq_of_score (h : Top s sel) {n : Fin N} {k : Fin K} (e : s n = s (sel k)) : n = sel k := by
  rcases h.dom n with ⟨j, rfl⟩ | hn
  · rcases lt_trichotomy j k with hjk | rfl | hjk
    · exact absurd e (h.anti _ _ hjk).ne'
    · rfl
    · exact absurd e (h.anti _ _ hjk).ne
  · exact absurd e (hn k).ne

theorem Top.injective (h : Top s sel) : Function.Injective sel := by
  intro i j e
  rcases lt_trichotomy i j with hij | rfl | hij
  · exact absurd (congrArg s e) (h.anti _ _ hij).ne'
  · rfl
  · exact absurd (congrArg s e) (h.anti _ _ hij).ne

theorem Top.antitone (h : Top s sel) {i j : Fin K} (hij : i ≤ j) : s (sel j) ≤ s (sel i) := by
  rcases hij.lt_or_eq with hlt | rfl
  · exact (h.anti _ _ hlt).le
  · exact le_rfl

/-- The maximum of all scores is the first selected one. -/
theorem Top.fold_first (h : Top s sel) (k0 : Fin K) (h0 : k0.val = 0) :
    Finset.univ.fold max (⊥ : EReal) (fun n => if ((s n : ℝ) : EReal) < ⊤ then ((s n : ℝ) : EReal) else ⊥) = (s (sel k0) : EReal) := by
  apply le_antisymm
  · rw [Finset.fold_max_le]
    refine ⟨bot_le, fun n _ => ?_⟩
    rw [if_pos (EReal.coe_lt_top _), EReal.coe_le_coe_iff]
    rcases h.dom n with ⟨j, rfl⟩ | hn
    · exact h.antitone (by rw [Fin.le_def]; omega)
    · exact (hn k0).le
  · rw [Finset.le_fold_max]
    exact .inr ⟨sel k0, Finset.mem_univ _, by rw [if_pos (EReal.coe_lt_top _)]⟩

/-- The maximum of the scores strictly below a selected one is the next selected one. -/
theorem Top.fold_next (h : Top s sel) (k k' : Fin K) (hk : k'.val = k.val + 1) :
    Finset.univ.fold max (⊥ : EReal)
      (fun n => if ((s n : ℝ) : EReal) < (s (sel k) : EReal) then ((s n : ℝ) : EReal) else ⊥) = (s (sel k') : EReal) := by
  apply le_antisymm
  · rw [Finset.fold_max_le]
    refine ⟨bot_le, fun n _ => ?_⟩
    split_ifs with hlt
    · rw [EReal.coe_lt_coe_iff] at hlt
      rw [EReal.coe_le_coe_iff]
      rcases h.dom n with ⟨j, rfl⟩ | hn
      · refine h.antitone ?_
        by_contra hj
        rw [Fin.le_def] at hj
        exact absurd (h.antitone (i := j) (j := k) (by rw [Fin.le_def]; omega)) (not_le.mpr hlt)
      · exact (hn k').le
    · exact bot_le
  · rw [Finset.le_fold_max]
    refine .inr ⟨sel k', Finset.mem_univ _, ?_⟩
    rw [if_pos (EReal.coe_lt_coe_iff.mpr (h.anti _ _ (by rw [Fin.lt_def]; omega)))]

/-- The scores at least the last selected one are exactly the selected ones. -/
theorem Top.ge_last_iff (h : Top s sel) (k1 : Fin K) (h1 : k1.val + 1 = K) (n : Fin N) :
    s (sel k1) ≤ s n ↔ ∃ k, sel k = n := by
  constructor
  · intro hle
    rcases h.dom n with hn | hn
    · exact hn
    · exact absurd (hn k1) (not_lt.mpr hle)
  · rintro ⟨k, rfl⟩
    exact h.antitone (by rw [Fin.le_def]; omega)

/-- A sum over all positions whose terms vanish off the selected ones is the sum over the selection. -/
theorem Top.sum_dense (h : Top s sel) (k1 : Fin K) (h1 : k1.val + 1 = K) (f : Fin N → ℝ) :
    ∑ n, (if s (sel k1) ≤ s n then f n else 0) = ∑ k, f (sel k) := by
  classical
  rw [← Finset.sum_filter, ← Finset.sum_image (f := f) (s := Finset.univ) (g := sel) (fun i _ j _ e => h.injective e)]
  refine Finset.sum_congr ?_ fun _ _ => rfl
  ext n
  simp [h.ge_last_iff k1 h1]

/-- Positive multiples of the scores have the same selection. -/
theorem Top.scale (h : Top s sel) (c : ℝ) (hc : 0 < c) : Top (fun n => s n * c) sel :=
  ⟨fun i j hij => mul_lt_mul_of_pos_right (h.anti i j hij) hc,
   fun n => (h.dom n).imp id fun hn k => mul_lt_mul_of_pos_right (hn k) hc⟩

/-- A rearrangement `π` of the positions whose scores never increase and strictly decrease along its first `K + 1`
    places selects, in those first `K` places, the strict top `K`. -/
theorem Top.of_sorted (π : Fin N → Fin N) (hs : Function.Surjective π) (ha : Antitone (s ∘ π)) (hK : K < N)
    (hst : ∀ k : ℕ, ∀ hk : k < K, s (π ⟨k + 1, by omega⟩) < s (π ⟨k, by omega⟩)) :
    Top s (fun k : Fin K => π ⟨k.val, by omega⟩) := by
  have step : ∀ d : ℕ, ∀ i : ℕ, ∀ h : i + d + 1 ≤ K, s (π ⟨i + d + 1, by omega⟩) < s (π ⟨i, by omega⟩) := by
    intro d
    induction d with
    | zero => intro i h; exact hst i (by omega)
    | succ d ih => intro i h; exact (hst (i + d + 1) (by omega)).trans (ih i (by omega))
  refine ⟨fun i j hij => ?_, fun n => ?_⟩
  · have := step (j.val - i.val - 1) i.val (by rw [Fin.lt_def] at hij; omega)
    have e : i.val + (j.val - i.val - 1) + 1 = j.val := by rw [Fin.lt_def] at hij; omega
    simpa only [e] using this
  · obtain ⟨m, rfl⟩ := hs n
    by_cases hm : m.val < K
    · exact .inl ⟨⟨m.val, hm⟩, rfl⟩
    · refine .inr fun k => ?_
      have h1 : s (π m) ≤ s (π ⟨K, hK⟩) := ha (by rw [Fin.le_def]; simpa using hm)
      have h2 := step (K - k.val - 1) k.val (by omega)
      have e : k.val + (K - k.val - 1) + 1 = K := by omega
      simp only [e] at h2
      exact h1.trans_lt h2

/-- Of two rearrangements that sort a row of reals downwards, neither has a smaller entry at any place. -/
theorem sorted_le (π π' : Fin N → Fin N) (hs : Function.Surjective π) (hi' : Function.Injective π')
    (h : Antitone (s ∘ π)) (h' : Antitone (s ∘ π')) (k : Fin N) : s (π' k) ≤ s (π k) := by
  classical
  by_contra hlt
  rw [not_le] at hlt
  have h1 : (Finset.Iic k).image π' ⊆ Finset.univ.filter fun n => s (π' k) ≤ s n := by
    intro n hn
    obtain ⟨i, hi, rfl⟩ := Finset.mem_image.mp hn
    exact Finset.mem_filter.mpr ⟨Finset.mem_univ _, h' (Finset.mem_Iic.mp hi)⟩
  have h2 : (Finset.univ.filter fun n => s (π' k) ≤ s n) ⊆ (Finset.Iio k).image π := by
    intro n hn
    have hn := (Finset.mem_filter.mp hn).2
    obtain ⟨i, rfl⟩ := hs n
    refine Finset.mem_image.mpr ⟨i, Finset.mem_Iio.mpr ?_, rfl⟩
    by_contra hki
    exact absurd (hlt.trans_le hn) (not_lt.mpr (h (not_lt.mp hki)))
  have c := Finset.card_le_card (h1.trans h2)
  rw [Finset.card_image_of_injective _ hi', Fin.card_Iic] at c
  have c2 := c.trans Finset.card_image_le
  rw [Fin.card_Iio] at c2
  omega

/-- Two rearrangements that both sort a row of reals downwards give the same sorted row. -/
theorem sorted_unique (π π' : Fin N → Fin N) (hs : Function.Surjective π) (hs' : Function.Surjective π')
    (hi : Function.Injective π) (hi' : Function.Injective π') (h : Antitone (s ∘ π)) (h' : Antitone (s ∘ π')) (k : Fin N) :
    s (π k) = s (π' k) :=
  le_antisymm (sorted_le π' π hs' hi h' h k) (sorted_le π π' hs hi' h h' k)

end Cert.Proof

end
-- ==== Proof.Spec.lean ====
module

public import Mathlib.Analysis.SpecialFunctions.Exp
public import Mathlib.MeasureTheory.Integral.IntervalIntegral.Basic
public import Idealize.ShloMosaic.PureOps.Ideal
public import proofs.«01_k».proof.Proof.Reals
public import proofs.«01_k».proof.Proof.TopSel

@[expose] public section

noncomputable section

namespace Cert.Proof

open Idealize.ShloMosaic

/-! The layer over the real numbers, one function for each step. Both programs are shown to hold these numbers. -/

/-- The constant added to a variance: the 32-bit number nearest to 1e-5. -/
def eps : ℝ := 10995116 / 2 ^ 40

/-- The 32-bit number nearest to 1/√2. -/
def rsqrt2 : ℝ := 11863283 / 2 ^ 24

/-- The mean of a row. -/
def mean (f : Fin 768 → ℝ) : ℝ := (∑ d, f d) / 768

/-- The mean square distance of a row from its mean. -/
def variance (f : Fin 768 → ℝ) : ℝ := mean fun d => (f d - mean f) * (f d - mean f)

/-- The layer norm of a row with gain `g` and offset `b`. -/
def lnorm (g b f : Fin 768 → ℝ) (d : Fin 768) : ℝ := (f d - mean f) / Real.sqrt (variance f + eps) * g d + b d

/-- The product of a row with a row of a table. -/
def dot {n : ℕ} (f g : Fin n → ℝ) : ℝ := ∑ d, f d * g d

/-- A linear map with offset. -/
def lin {n m : ℕ} (W : Fin m → Fin n → ℝ) (b : Fin m → ℝ) (f : Fin n → ℝ) (e : Fin m) : ℝ := dot f (W e) + b e

/-- The attention of one head: the values weighted by the softmax of the scaled products. -/
def attn (Q K V : Fin 2048 → Fin 64 → ℝ) (s : Fin 2048) (e : Fin 64) : ℝ :=
  (∑ t, Real.exp (dot (Q s) (K t) / 8) * V t e) / ∑ t, Real.exp (dot (Q s) (K t) / 8)

/-- The column of feature `e` of head `h`. -/
def col (h : Fin 12) (e : Fin 64) : Fin 768 := ⟨h.val * 64 + e.val, by omega⟩

/-- The head of a column. -/
def headOf (d : Fin 768) : Fin 12 := ⟨d.val / 64, by omega⟩

/-- The feature of a column within its head. -/
def featOf (d : Fin 768) : Fin 64 := ⟨d.val % 64, by omega⟩

/-- The logit of mixing weight `i` of a token with normed row `f` and context row `c`. -/
def mix (Wp : Fin 2 → Fin 1536 → ℝ) (bp : Fin 2 → ℝ) (f c : Fin 768 → ℝ) (i : Fin 2) : ℝ :=
  (∑ d : Fin 768, f d * Wp i ⟨d.val, by omega⟩) + (∑ d : Fin 768, c d * Wp i ⟨768 + d.val, by omega⟩) + bp i

/-- The mixing weight `i`: the softmax of the two logits. -/
def weight (Wp : Fin 2 → Fin 1536 → ℝ) (bp : Fin 2 → ℝ) (f c : Fin 768 → ℝ) (i : Fin 2) : ℝ :=
  Real.exp (mix Wp bp f c i) / ∑ j, Real.exp (mix Wp bp f c j)

/-- The score of neuron `n`. -/
def scoreOf (nr : Fin 8192 → Fin 768 → ℝ) (Wp : Fin 2 → Fin 1536 → ℝ) (bp : Fin 2 → ℝ) (f c : Fin 768 → ℝ)
    (n : Fin 8192) : ℝ :=
  weight Wp bp f c 0 * dot f (nr n) + weight Wp bp f c 1 * dot c (nr n)

/-- The rows `sel 0, sel 1, …` of a table weighted by the softmax of their scores. -/
def pick {N K M : ℕ} (s : Fin N → ℝ) (sel : Fin K → Fin N) (tab : Fin N → Fin M → ℝ) (d : Fin M) : ℝ :=
  (∑ k, Real.exp (s (sel k)) * tab (sel k) d) / ∑ k, Real.exp (s (sel k))

/-- The score of pattern `p` for the routed row `r`. -/
def patScore (pq : Fin 64 → Fin 768 → ℝ) (r : Fin 768 → ℝ) (p : Fin 64) : ℝ := dot r (pq p) * (Real.sqrt 768)⁻¹

/-- The error function. -/
def erfR (r : ℝ) : ℝ := 2 / Real.sqrt Real.pi * ∫ t in (0 : ℝ)..r, Real.exp (-(t ^ 2))

/-- The Gaussian error unit. -/
def gelu (h : ℝ) : ℝ := 1 / 2 * h * (1 + erfR (h * rsqrt2))

/-- The hidden value `f` of the feed-forward part: the linear map of `n` times the sigmoid of the gate. -/
def hidden (Wu : Fin 3072 → Fin 768 → ℝ) (bu : Fin 3072 → ℝ) (n : Fin 768 → ℝ) (gate : Fin 3072 → ℝ) (f : Fin 3072) : ℝ :=
  lin Wu bu n f * (1 / (1 + Real.exp (-gate f)))

/-- The argument arrays as real numbers. -/
structure Args where
  x : Fin 2048 → Fin 768 → ℝ
  nr : Fin 8192 → Fin 768 → ℝ
  Wq : Fin 768 → Fin 768 → ℝ
  bq : Fin 768 → ℝ
  Wk : Fin 768 → Fin 768 → ℝ
  bk : Fin 768 → ℝ
  Wv : Fin 768 → Fin 768 → ℝ
  bv : Fin 768 → ℝ
  Wp : Fin 2 → Fin 1536 → ℝ
  bp : Fin 2 → ℝ
  pq : Fin 64 → Fin 768 → ℝ
  gates : Fin 64 → Fin 3072 → ℝ
  Wu : Fin 3072 → Fin 768 → ℝ
  bu : Fin 3072 → ℝ
  Wd : Fin 768 → Fin 3072 → ℝ
  bd : Fin 768 → ℝ
  g1 : Fin 768 → ℝ
  b1 : Fin 768 → ℝ
  g2 : Fin 768 → ℝ
  b2 : Fin 768 → ℝ

namespace Args

variable (A : Args)

/-- The normed row of token `t`. -/
def norm (t : Fin 2048) : Fin 768 → ℝ := lnorm A.g1 A.b1 (A.x t)

/-- The query of token `t`, all heads side by side. -/
def q (t : Fin 2048) : Fin 768 → ℝ := lin A.Wq A.bq (A.norm t)

/-- The key of token `t`, all heads side by side. -/
def k (t : Fin 2048) : Fin 768 → ℝ := lin A.Wk A.bk (A.norm t)

/-- The value of token `t`, all heads side by side. -/
def v (t : Fin 2048) : Fin 768 → ℝ := lin A.Wv A.bv (A.norm t)

/-- The attention of head `h` for token `t`. -/
def head (h : Fin 12) : Fin 2048 → Fin 64 → ℝ :=
  attn (fun t e => A.q t (col h e)) (fun t e => A.k t (col h e)) (fun t e => A.v t (col h e))

/-- The context row of token `t`, the heads side by side. -/
def ctx (t : Fin 2048) (d : Fin 768) : ℝ := A.head (headOf d) t (featOf d)

/-- The score of neuron `n` for token `t`. -/
def score (t : Fin 2048) : Fin 8192 → ℝ := scoreOf A.nr A.Wp A.bp (A.norm t) (A.ctx t)

/-- The routed row of token `t`, for a selection of sixteen neurons. -/
def rout (sel : Fin 2048 → Fin 16 → Fin 8192) (t : Fin 2048) : Fin 768 → ℝ := pick (A.score t) (sel t) A.nr

end Args

/-- The output row of a token from its input row `x`, its routed row `r` and its selection `sel` of eight patterns. -/
def ffn (A : Args) (x r : Fin 768 → ℝ) (sel : Fin 8 → Fin 64) (d : Fin 768) : ℝ :=
  x d + r d + dot (fun f => gelu (hidden A.Wu A.bu (lnorm A.g2 A.b2 fun e => x e + r e)
    (pick (patScore A.pq r) sel A.gates) f)) (A.Wd d) + A.bd d

end Cert.Proof
-- ==== Proof.Host.lean ====
/- What the host stretches between the calls leave in the arrays the calls read. -/
module

public import proofs.«01_k».proof.Proof.Gen.KernelIdeal.Frame
public import Idealize.ShloMosaic.Lib.StableHlo.ReadAt
public import proofs.«01_k».proof.Proof.Spec

@[expose] public section

set_option maxRecDepth 16384

noncomputable section

namespace Cert.Proof.Host

open Idealize.ShloMosaic Idealize.ShloMosaic.TcCoe Cert.KernelIdeal Cert.KernelIdeal.Gen

variable (V : Valuation τ sig (Elt Ideal))

/-! The first stretch: tokens as rows, transposed weights, the three offsets stacked. -/

theorem v0 (t : Fin 2048) (d : Fin 768) : StableHlo.after hostOps0 V (Proc.devRef .tc main_v0) (ix2 t d) = V (Proc.devRef .tc main_arg0) (ix3 0 t d) := by
  after_reads_at
theorem v6 (d e : Fin 768) : StableHlo.after hostOps0 V (Proc.devRef .tc main_v6) (ix2 d e) = V (Proc.devRef .tc main_arg2) (ix2 e d) := by
  after_reads_at
theorem v8 (d e : Fin 768) : StableHlo.after hostOps0 V (Proc.devRef .tc main_v8) (ix2 d e) = V (Proc.devRef .tc main_arg4) (ix2 e d) := by
  after_reads_at
theorem v10 (d e : Fin 768) : StableHlo.after hostOps0 V (Proc.devRef .tc main_v10) (ix2 d e) = V (Proc.devRef .tc main_arg6) (ix2 e d) := by
  after_reads_at
theorem v4_0 (d : Fin 768) : StableHlo.after hostOps0 V (Proc.devRef .tc main_v4) (ix2 0 d) = V (Proc.devRef .tc main_arg3) (ix1 d) := by
  after_reads_at
  rw [StableHlo.unary_result']
  after_reads_at
theorem v4_1 (d : Fin 768) : StableHlo.after hostOps0 V (Proc.devRef .tc main_v4) (ix2 1 d) = V (Proc.devRef .tc main_arg5) (ix1 d) := by
  after_reads_at
  rw [StableHlo.unary_result']
  after_reads_at
theorem v4_2 (d : Fin 768) : StableHlo.after hostOps0 V (Proc.devRef .tc main_v4) (ix2 2 d) = V (Proc.devRef .tc main_arg7) (ix1 d) := by
  after_reads_at
  rw [StableHlo.unary_result']
  after_reads_at
theorem v11 (d : Fin 768) : StableHlo.after hostOps0 V (Proc.devRef .tc main_v11) (ix2 0 d) = V (Proc.devRef .tc main_arg16) (ix1 d) := by
  after_reads_at
theorem v12 (d : Fin 768) : StableHlo.after hostOps0 V (Proc.devRef .tc main_v12) (ix2 0 d) = V (Proc.devRef .tc main_arg17) (ix1 d) := by
  after_reads_at

/-! The second stretch: queries, keys and values split into heads. -/

theorem v15 (h : Fin 12) (t : Fin 2048) (e : Fin 64) :
    StableHlo.after hostOps1 V (Proc.devRef .tc main_v15) (ix3 h t e) = V (Proc.devRef .tc main_v13_1) (ix2 t (col h e)) := by
  after_reads_at
  rfl
theorem v17 (h : Fin 12) (t : Fin 2048) (e : Fin 64) :
    StableHlo.after hostOps1 V (Proc.devRef .tc main_v17) (ix3 h t e) = V (Proc.devRef .tc main_v13_2) (ix2 t (col h e)) := by
  after_reads_at
  rfl
theorem v19 (h : Fin 12) (t : Fin 2048) (e : Fin 64) :
    StableHlo.after hostOps1 V (Proc.devRef .tc main_v19) (ix3 h t e) = V (Proc.devRef .tc main_v13_3) (ix2 t (col h e)) := by
  after_reads_at
  rfl

/-! The third stretch: the heads side by side, the neurons, the transposed mixing weights and their offsets. -/

theorem v22 (t : Fin 2048) (d : Fin 768) :
    StableHlo.after hostOps2 V (Proc.devRef .tc main_v22) (ix2 t d) = V (Proc.devRef .tc main_v20) (ix3 (headOf d) t (featOf d)) := by
  after_reads_at
  rfl
theorem v23 (n : Fin 8192) (d : Fin 768) : StableHlo.after hostOps2 V (Proc.devRef .tc main_v23) (ix2 n d) = V (Proc.devRef .tc main_arg1) (ix2 n d) := by
  after_reads_at
theorem v25 (e : Fin 1536) (i : Fin 2) : StableHlo.after hostOps2 V (Proc.devRef .tc main_v25) (ix2 e i) = V (Proc.devRef .tc main_arg8) (ix2 i e) := by
  after_reads_at
theorem v26 (i : Fin 2) : StableHlo.after hostOps2 V (Proc.devRef .tc main_v26) (ix2 0 i) = V (Proc.devRef .tc main_arg9) (ix1 i) := by
  after_reads_at

/-! The fourth stretch: the patterns, the gates and the feed-forward weights. -/

theorem v28 (p : Fin 64) (d : Fin 768) : StableHlo.after hostOps3 V (Proc.devRef .tc main_v28) (ix2 p d) = V (Proc.devRef .tc main_arg10) (ix2 p d) := by
  after_reads_at
theorem v29 (p : Fin 64) (f : Fin 3072) : StableHlo.after hostOps3 V (Proc.devRef .tc main_v29) (ix2 p f) = V (Proc.devRef .tc main_arg11) (ix2 p f) := by
  after_reads_at
theorem v30 (f : Fin 3072) (d : Fin 768) : StableHlo.after hostOps3 V (Proc.devRef .tc main_v30) (ix2 f d) = V (Proc.devRef .tc main_arg12) (ix2 f d) := by
  after_reads_at
theorem v31 (f : Fin 3072) : StableHlo.after hostOps3 V (Proc.devRef .tc main_v31) (ix2 0 f) = V (Proc.devRef .tc main_arg13) (ix1 f) := by
  after_reads_at
theorem v32 (d : Fin 768) (f : Fin 3072) : StableHlo.after hostOps3 V (Proc.devRef .tc main_v32) (ix2 d f) = V (Proc.devRef .tc main_arg14) (ix2 d f) := by
  after_reads_at
theorem v33 (d : Fin 768) : StableHlo.after hostOps3 V (Proc.devRef .tc main_v33) (ix2 0 d) = V (Proc.devRef .tc main_arg15) (ix1 d) := by
  after_reads_at
theorem v34 (d : Fin 768) : StableHlo.after hostOps3 V (Proc.devRef .tc main_v34) (ix2 0 d) = V (Proc.devRef .tc main_arg18) (ix1 d) := by
  after_reads_at
theorem v35 (d : Fin 768) : StableHlo.after hostOps3 V (Proc.devRef .tc main_v35) (ix2 0 d) = V (Proc.devRef .tc main_arg19) (ix1 d) := by
  after_reads_at

/-! The last stretch: both results with a leading axis of extent one. -/

theorem v37 (t : Fin 2048) (d : Fin 768) : StableHlo.after hostOps4 V (Proc.devRef .tc main_v37) (ix3 0 t d) = V (Proc.devRef .tc main_v36) (ix2 t d) := by
  after_reads_at
theorem v38 (t : Fin 2048) (k : Fin 16) : StableHlo.after hostOps4 V (Proc.devRef .tc main_v38) (ix3 0 t k) = V (Proc.devRef .tc main_v27_0) (ix2 t k) := by
  after_reads_at

end Cert.Proof.Host

end
-- ==== Proof.Consts.lean ====
module

public import Idealize.ShloMosaic.PureOps.Ideal
public import Idealize.ShloMosaic.PureOps.Ideal.Laws
public import Idealize.ShloMosaic.Lib.IdealHost
public import proofs.«01_k».proof.Proof.Spec

@[expose] public section

namespace Cert.Proof

open Idealize.ShloMosaic

/-! The constants of the two programs as real numbers. -/

/-- The pattern of 768. -/
theorem bits_768 : Ideal.ofBits .f32 0x44400000#32 = ((768 : ℝ) : EReal) := by
  simp [Ideal.ofBits, Ideal.ieee, -EReal.coe_mul]; norm_num

/-- The pattern of 8. -/
theorem bits_8 : Ideal.ofBits .f32 0x41000000#32 = ((8 : ℝ) : EReal) := by
  simp [Ideal.ofBits, Ideal.ieee, -EReal.coe_mul]; norm_num

/-- The pattern of 1/8. -/
theorem bits_eighth : Ideal.ofBits .f32 0x3E000000#32 = ((1 / 8 : ℝ) : EReal) := by
  simp [Ideal.ofBits, Ideal.ieee, -EReal.coe_mul]; norm_num

/-- The pattern of 1/2. -/
theorem bits_half : Ideal.ofBits .f32 0x3F000000#32 = ((1 / 2 : ℝ) : EReal) := by
  simp [Ideal.ofBits, Ideal.ieee, -EReal.coe_mul]; norm_num

/-- The pattern of 1. -/
theorem bits_one : Ideal.ofBits .f32 0x3F800000#32 = ((1 : ℝ) : EReal) := by
  simp [Ideal.ofBits, Ideal.ieee, -EReal.coe_mul]; try norm_num

/-- The pattern of the constant in the layer norm. -/
theorem bits_eps : Ideal.ofBits .f32 0x3727C5AC#32 = ((eps : ℝ) : EReal) := by
  simp [Ideal.ofBits, Ideal.ieee, -EReal.coe_mul, eps]; norm_num

/-- The pattern of the constant in the error unit. -/
theorem bits_rsqrt2 : Ideal.ofBits .f32 0x3F3504F3#32 = ((rsqrt2 : ℝ) : EReal) := by
  simp [Ideal.ofBits, Ideal.ieee, -EReal.coe_mul, rsqrt2]; norm_num

/-- The pattern of minus infinity. -/
theorem bits_bot : Ideal.ofBits .f32 0xFF800000#32 = ⊥ := by
  simp [Ideal.ofBits, Ideal.ieee]

/-- The pattern of infinity. -/
theorem bits_top : Ideal.ofBits .f32 0x7F800000#32 = ⊤ := by
  simp [Ideal.ofBits, Ideal.ieee]

end Cert.Proof
-- ==== Proof.Steps.lean ====
module

public import Idealize.ShloMosaic.Lib.Pointwise
public import proofs.«01_k».proof.Proof.Consts

@[expose] public section

set_option maxRecDepth 16384

noncomputable section

namespace Cert.Proof

open Idealize.ShloMosaic

/-! The steps of the layer on extended reals that are real numbers. -/

/-- Six partial sums over the slices of 128 entries add up to the sum of all 768. -/
theorem six {M : Type*} [AddCommMonoid M] (f : Fin 768 → M) :
    (∑ x : Fin 128, f ⟨x.val, by omega⟩) + (∑ x : Fin 128, f ⟨128 + x.val, by omega⟩)
      + ((∑ x : Fin 128, f ⟨256 + x.val, by omega⟩) + ∑ x : Fin 128, f ⟨384 + x.val, by omega⟩)
      + ((∑ x : Fin 128, f ⟨512 + x.val, by omega⟩) + ∑ x : Fin 128, f ⟨640 + x.val, by omega⟩) = ∑ d, f d := by
  have e : (∑ p : Fin 6 × Fin 128, f (finProdFinEquiv p)) = ∑ d : Fin 768, f d :=
    Equiv.sum_comp (finProdFinEquiv (m := 6) (n := 128)) f
  rw [← e, Fintype.sum_prod_type, Fin.sum_univ_six]
  have h (c : Fin 6) (k : ℕ) (hk : k = 128 * c.val) (hb : ∀ x : Fin 128, k + x.val < 768) :
      (∑ x : Fin 128, f ⟨k + x.val, hb x⟩) = ∑ x : Fin 128, f (finProdFinEquiv (c, x)) :=
    Finset.sum_congr rfl fun x _ => congrArg f (Fin.ext (by simp [finProdFinEquiv, hk]; omega))
  rw [← h 1 128 rfl (by omega), ← h 2 256 rfl (by omega), ← h 3 384 rfl (by omega), ← h 4 512 rfl (by omega),
    ← h 5 640 rfl (by omega)]
  have h0 : (∑ x : Fin 128, f (finProdFinEquiv ((0 : Fin 6), x))) = ∑ x : Fin 128, f ⟨x.val, by omega⟩ :=
    Finset.sum_congr rfl fun x _ => congrArg f (Fin.ext (by simp [finProdFinEquiv]))
  rw [h0]
  simp only [add_assoc]

/-- The sum of a row times 1/768 is its mean. -/
theorem mean_mul (X : Fin 768 → ℝ) : (∑ d, (X d : EReal)) * ((768⁻¹ : ℝ) : EReal) = ((mean X : ℝ) : EReal) := by
  rw [← coe_sum, ← EReal.coe_mul, mean, div_eq_mul_inv]

/-- The sum of a row divided by 768 is its mean. -/
theorem mean_div (X : Fin 768 → ℝ) : Ideal.div (∑ d, (X d : EReal)) ((768 : ℝ) : EReal) = ((mean X : ℝ) : EReal) := by
  rw [← coe_sum, div_coe_coe _ _ (by norm_num), mean]

/-- The square of a distance from the mean. -/
theorem dev_sq (a m : ℝ) : ((a : EReal) - (m : EReal)) * ((a : EReal) - (m : EReal)) = (((a - m) * (a - m) : ℝ) : EReal) := by
  rw [← EReal.coe_sub, ← EReal.coe_mul]

/-- A variance is not negative. -/
theorem variance_nonneg (X : Fin 768 → ℝ) : 0 ≤ variance X :=
  div_nonneg (Finset.sum_nonneg fun _ _ => mul_self_nonneg _) (by norm_num)

/-- The constant of the layer norm is positive. -/
theorem eps_pos : 0 < eps := by norm_num [eps]

/-- The layer norm of an entry from its row's mean and variance. -/
theorem lnorm_coe (g b X : Fin 768 → ℝ) (d : Fin 768) :
    Ideal.div ((X d : EReal) - (mean X : EReal)) (Ideal.sqrt ((variance X : EReal) + (eps : EReal))) * (g d : EReal) + (b d : EReal)
      = ((lnorm g b X d : ℝ) : EReal) := by
  have h : 0 < variance X + eps := add_pos_of_nonneg_of_pos (variance_nonneg X) eps_pos
  rw [← EReal.coe_add, sqrt_coe_nonneg _ h.le, ← EReal.coe_sub, div_coe_coe _ _ (Real.sqrt_pos.mpr h).ne', ← EReal.coe_mul,
    ← EReal.coe_add, lnorm]

/-- A sum of products of reals. -/
theorem dot_coe {n : ℕ} (f g : Fin n → ℝ) : (∑ d, (f d : EReal) * (g d : EReal)) = ((dot f g : ℝ) : EReal) := by
  simp only [← EReal.coe_mul, ← coe_sum, dot]

/-- A sum of products of reals, with the factors' values given. -/
theorem dot_of {n : ℕ} {F G : Fin n → EReal} (f g : Fin n → ℝ) (hf : ∀ d, F d = (f d : EReal)) (hg : ∀ d, G d = (g d : EReal)) :
    (∑ d, F d * G d) = ((dot f g : ℝ) : EReal) := by
  simp only [hf, hg, dot_coe]

end Cert.Proof
-- ==== Proof.Named.lean ====
module

public import proofs.«01_k».proof.KernelIdeal
public import Idealize.ShloMosaic.PureOps.IdealRules

@[expose] public section

namespace Cert.Proof

open Idealize.ShloMosaic

/-- The kernel's constant `inv_d` is 1/768. -/
theorem inv_d : Named.named (F := Ideal) Cert.KernelIdeal.κ "inv_d" (φ := .f32) 0x3AAAAAAB#32 = ((768⁻¹ : ℝ) : EReal) :=
  IdealRules.named_const.ideal_named_scalar _ _ _ _ rfl

/-- The kernel's constant `inv_sqrt_d` is 1/√768. -/
theorem inv_sqrt_d : Named.named (F := Ideal) Cert.KernelIdeal.κ "inv_sqrt_d" (φ := .f32) 0x3D13CD3A#32 = (((Real.sqrt 768)⁻¹ : ℝ) : EReal) :=
  IdealRules.named_const.ideal_named_scalar _ _ _ _ rfl

end Cert.Proof
-- ==== Proof.LnBlock.lean ====
module

public import proofs.«01_k».proof.Proof.Gen.KernelIdeal.Skeleton
public import proofs.«01_k».proof.Proof.Steps
public import proofs.«01_k».proof.Proof.Named

@[expose] public section

set_option maxRecDepth 16384

noncomputable section

namespace Cert.Proof.LnBlock

open Idealize.ShloMosaic Cert.KernelIdeal Cert.KernelIdeal.Gen

/-! What a block of 512 tokens of the first call computes, from the real numbers its inputs hold. -/

variable (v0 : Vec Ideal S512x768 .f32) (v2 v4 : Vec Ideal S1x768 .f32) (X : Fin 512 → Fin 768 → ℝ) (g b : Fin 768 → ℝ)

/-- The column of row means. -/
theorem pay6 (h : ∀ r d, v0 (ix2 r d) = ((X r d : ℝ) : EReal)) (r : Fin 512) :
    k0_pay6 v0 (ix2 r 0) = ((mean (X r) : ℝ) : EReal) := by
  pointwise [k0_pay6, k0_pay3]
  rw [six fun d => v0 (ix2 r d), inv_d]
  simp only [h, mean_mul]

/-- The squares of the distances from the row mean. -/
theorem pay7 (h : ∀ r d, v0 (ix2 r d) = ((X r d : ℝ) : EReal)) (r : Fin 512) (d : Fin 768) :
    k0_pay7 v0 (ix2 r d) = (((X r d - mean (X r)) * (X r d - mean (X r)) : ℝ) : EReal) := by
  pointwise [k0_pay7, k0_pay3]
  rw [pay6 v0 X h, h, dev_sq]

/-- The normed block. -/
theorem normed (h : ∀ r d, v0 (ix2 r d) = ((X r d : ℝ) : EReal)) (hg : ∀ d, v2 (ix2 0 d) = ((g d : ℝ) : EReal))
    (hb : ∀ d, v4 (ix2 0 d) = ((b d : ℝ) : EReal)) (r : Fin 512) (d : Fin 768) :
    k0_pay11 (k0_pay3 v0) (k0_pay4 v2) (k0_pay5 v4) (k0_pay6 v0) (k0_pay7 v0) (k0_pay8 v0) (k0_pay9 v0) (k0_pay10 v0) (ix2 r d)
      = ((lnorm g b (X r) d : ℝ) : EReal) := by
  pointwise [k0_pay11, k0_pay3, k0_pay4, k0_pay5, k0_pay8, k0_pay9, k0_pay10]
  rw [six fun d => k0_pay7 v0 (ix2 r d), inv_d, pay6 v0 X h, h, hg, hb, bits_eps]
  simp only [pay7 v0 X h]
  rw [mean_mul fun d => (X r d - mean (X r)) * (X r d - mean (X r))]
  exact lnorm_coe g b (X r) d

variable (n : FVec Ideal S512x768 .bf16) (w : Vec Ideal S768x768 .bf16) (v91 : Vec Ideal S1x768 .f32) (N : Fin 512 → Fin 768 → ℝ)
  (W : Fin 768 → Fin 768 → ℝ)

/-- A projected block: the normed rows by a transposed weight, plus a row of offsets. -/
theorem proj (h : ∀ r d, n (ix2 r d) = ((N r d : ℝ) : EReal)) (hw : ∀ d e, w (ix2 d e) = ((W e d : ℝ) : EReal))
    (hb : ∀ d, v91 (ix2 0 d) = ((b d : ℝ) : EReal)) (r : Fin 512) (e : Fin 768) :
    k0_pay2 n w v91 (ix2 r e) = ((lin W b (N r) e : ℝ) : EReal) := by
  pointwise [k0_pay2]
  rw [dot_of (N r) (W e) (fun d => h r d) fun d => hw d e, hb, ← EReal.coe_add, lin]

/-- The query block is a projected block. -/
theorem pay13 (a1 : FVec Ideal S512x768 .f32) (a2 a3 : FVec Ideal S1x768 .f32) (a4 : FVec Ideal S512x1 .f32)
    (a5 : FVec Ideal S512x768 .f32) (a6 a7 a8 : FVec Ideal S512x1 .f32) :
    k0_pay13 a1 a2 a3 a4 a5 a6 a7 a8 w v91 = k0_pay2 (k0_pay12 a1 a2 a3 a4 a5 a6 a7 a8) w v91 := rfl

/-- The key block is a projected block. -/
theorem pay14 (a1 : FVec Ideal S512x768 .f32) (a2 a3 : FVec Ideal S1x768 .f32) (a4 : FVec Ideal S512x1 .f32)
    (a5 : FVec Ideal S512x768 .f32) (a6 a7 a8 : FVec Ideal S512x1 .f32) :
    k0_pay1 (k0_pay14 a1 a2 a3 a4 a5 a6 a7 a8 w) v91 = k0_pay2 (k0_pay12 a1 a2 a3 a4 a5 a6 a7 a8) w v91 := rfl

/-- The narrowed normed block is the normed block. -/
theorem pay12 (a1 : FVec Ideal S512x768 .f32) (a2 a3 : FVec Ideal S1x768 .f32) (a4 : FVec Ideal S512x1 .f32)
    (a5 : FVec Ideal S512x768 .f32) (a6 a7 a8 : FVec Ideal S512x1 .f32) (r : Fin 512) (d : Fin 768) :
    k0_pay12 a1 a2 a3 a4 a5 a6 a7 a8 (ix2 r d) = k0_pay11 a1 a2 a3 a4 a5 a6 a7 a8 (ix2 r d) := rfl

end Cert.Proof.LnBlock
-- ==== Proof.LnArr.lean ====
/- What the first call leaves in its four result arrays: the normed rows, the queries, the keys and the values. -/
module

public import proofs.«01_k».proof.Proof.Gen.KernelIdeal.Frame
public import proofs.«01_k».proof.Proof.LnBlock

@[expose] public section

set_option maxRecDepth 16384

noncomputable section

namespace Cert.Proof.LnArr

open Idealize.ShloMosaic Idealize.ShloMosaic.TcCoe Cert.KernelIdeal Cert.KernelIdeal.Gen LnBlock
open Idealize.ShloMosaic.Pipeline (Dat)

theorem hz : (![0, 0] : Fin 2 → Nat) = fun _ => 0 := funext fun a => by fin_cases a <;> rfl

theorem ld0 (x : Vec Ideal S512x768 .f32) : View.ld x r0_0 = x := View.ld_unit_zero (Val := Elt Ideal) (off := ![0, 0]) hz _ x
theorem ld1 (x : Vec Ideal S1x768 .f32) : View.ld x r0_1 = x := View.ld_unit_zero (Val := Elt Ideal) (off := ![0, 0]) hz _ x
theorem ld2 (x : Vec Ideal S768x768 .bf16) : View.ld x r0_2 = x := View.ld_unit_zero (Val := Elt Ideal) (off := ![0, 0]) hz _ x
theorem ld3 (x : Vec Ideal S3x768 .f32) (d : Fin 768) : View.ld x r0_3 (ix2 0 d) = x (ix2 0 d) := by
  refine congrArg x (funext fun a => Fin.ext ?_)
  fin_cases a
  · rfl
  · show 0 + 1 * d.val = d.val
    omega
theorem ld4 (x : Vec Ideal S3x768 .f32) (d : Fin 768) : View.ld x r0_4 (ix2 0 d) = x (ix2 1 d) := by
  refine congrArg x (funext fun a => Fin.ext ?_)
  fin_cases a
  · rfl
  · show 0 + 1 * d.val = d.val
    omega
theorem ld5 (x : Vec Ideal S3x768 .f32) (d : Fin 768) : View.ld x r0_5 (ix2 0 d) = x (ix2 2 d) := by
  refine congrArg x (funext fun a => Fin.ext ?_)
  fin_cases a
  · rfl
  · show 0 + 1 * d.val = d.val
    omega

/-! The index maps: the rows' block is the point's, the other blocks are whole. -/

theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = 0 ∧ win0_2.index t 1 = 0 := by decide +kernel
theorem idx3 : ∀ t : Fin cfg0.N, win0_3.index t 0 = 0 ∧ win0_3.index t 1 = 0 := by decide +kernel
theorem idx4 : ∀ t : Fin cfg0.N, win0_4.index t 0 = 0 ∧ win0_4.index t 1 = 0 := by decide +kernel
theorem idx5 : ∀ t : Fin cfg0.N, win0_5.index t 0 = 0 ∧ win0_5.index t 1 = 0 := by decide +kernel
theorem idx6 : ∀ t : Fin cfg0.N, win0_6.index t 0 = 0 ∧ win0_6.index t 1 = 0 := by decide +kernel
theorem idx7 : ∀ t : Fin cfg0.N, win0_7.index t 0 = t.val ∧ win0_7.index t 1 = 0 := by decide +kernel
theorem idx8 : ∀ t : Fin cfg0.N, win0_8.index t 0 = t.val ∧ win0_8.index t 1 = 0 := by decide +kernel
theorem idx9 : ∀ t : Fin cfg0.N, win0_9.index t 0 = t.val ∧ win0_9.index t 1 = 0 := by decide +kernel
theorem idx10 : ∀ t : Fin cfg0.N, win0_10.index t 0 = t.val ∧ win0_10.index t 1 = 0 := by decide +kernel

/-- The token of row `r` of block `t`. -/
def row (t : Fin cfg0.N) (r : Fin 512) : Fin 2048 := ⟨t.val * 512 + r.val, by have hN : cfg0.N = 4 := N_0; have := t.isLt; omega⟩

variable (V : (c : Dev nD) → (b : Ref sig .tc) → Buf (Elt Ideal) ((c : Thread nD τ).loc b)) (c : Dev nD)

theorem blk0 (t : Fin cfg0.N) (r : Fin 512) (d : Fin 768) : iblk0 V c 0 t (ix2 r d) = V c main_v0 (ix2 (row t r) d) := by
  refine congrArg (V c main_v0) (funext fun a => Fin.ext ?_)
  fin_cases a
  · show win0_0.index t 0 * 512 + 1 * r.val = t.val * 512 + r.val
    rw [(idx0 t).1, one_mul]
  · show win0_0.index t 1 * 768 + 1 * d.val = d.val
    rw [(idx0 t).2]; omega

theorem blk1 (t : Fin cfg0.N) (r : Fin 768) (d : Fin 768) : iblk0 V c 1 t (ix2 r d) = V c main_v6 (ix2 r d) := by
  refine congrArg (V c main_v6) (funext fun a => Fin.ext ?_)
  fin_cases a
  · show win0_1.index t 0 * 768 + 1 * r.val = r.val
    rw [(idx1 t).1]; omega
  · show win0_1.index t 1 * 768 + 1 * d.val = d.val
    rw [(idx1 t).2]; omega

theorem blk2 (t : Fin cfg0.N) (r : Fin 768) (d : Fin 768) : iblk0 V c 2 t (ix2 r d) = V c main_v8 (ix2 r d) := by
  refine congrArg (V c main_v8) (funext fun a => Fin.ext ?_)
  fin_cases a
  · show win0_2.index t 0 * 768 + 1 * r.val = r.val
    rw [(idx2 t).1]; omega
  · show win0_2.index t 1 * 768 + 1 * d.val = d.val
    rw [(idx2 t).2]; omega

theorem blk3 (t : Fin cfg0.N) (r : Fin 768) (d : Fin 768) : iblk0 V c 3 t (ix2 r d) = V c main_v10 (ix2 r d) := by
  refine congrArg (V c main_v10) (funext fun a => Fin.ext ?_)
  fin_cases a
  · show win0_3.index t 0 * 768 + 1 * r.val = r.val
    rw [(idx3 t).1]; omega
  · show win0_3.index t 1 * 768 + 1 * d.val = d.val
    rw [(idx3 t).2]; omega

theorem blk4 (t : Fin cfg0.N) (r : Fin 3) (d : Fin 768) : iblk0 V c 4 t (ix2 r d) = V c main_v4 (ix2 r d) := by
  refine congrArg (V c main_v4) (funext fun a => Fin.ext ?_)
  fin_cases a
  · show win0_4.index t 0 * 3 + 1 * r.val = r.val
    rw [(idx4 t).1]; omega
  · show win0_4.index t 1 * 768 + 1 * d.val = d.val
    rw [(idx4 t).2]; omega

theorem blk5 (t : Fin cfg0.N) (r : Fin 1) (d : Fin 768) : iblk0 V c 5 t (ix2 r d) = V c main_v11 (ix2 r d) := by
  refine congrArg (V c main_v11) (funext fun a => Fin.ext ?_)
  fin_cases a
  · show win0_5.index t 0 * 1 + 1 * r.val = r.val
    rw [(idx5 t).1]; omega
  · show win0_5.index t 1 * 768 + 1 * d.val = d.val
    rw [(idx5 t).2]; omega

theorem blk6 (t : Fin cfg0.N) (r : Fin 1) (d : Fin 768) : iblk0 V c 6 t (ix2 r d) = V c main_v12 (ix2 r d) := by
  refine congrArg (V c main_v12) (funext fun a => Fin.ext ?_)
  fin_cases a
  · show win0_6.index t 0 * 1 + 1 * r.val = r.val
    rw [(idx6 t).1]; omega
  · show win0_6.index t 1 * 768 + 1 * d.val = d.val
    rw [(idx6 t).2]; omega

theorem emb7 (t : Fin cfg0.N) (r : Fin 512) (d : Fin 768) : (win0_7.rect t).emb (ix2 r d) = ix2 (row t r) d := by
  refine (funext fun a => Fin.ext ?_)
  fin_cases a
  · show win0_7.index t 0 * 512 + 1 * r.val = t.val * 512 + r.val
    rw [(idx7 t).1, one_mul]
  · show win0_7.index t 1 * 768 + 1 * d.val = d.val
    rw [(idx7 t).2]; omega

/-- Every index of the result array lies in the block of its row. -/
theorem cover7 (i : S2048x768.Idx) : ∃ t : Fin cfg0.N, (cfg0.win 7).flush t = true ∧ i ∈ ((cfg0.win 7).blk t).view.set := by
  have h0 : (i 0 : Nat) < 2048 := (i 0).isLt
  have h1 : (i 1 : Nat) < 768 := (i 1).isLt
  have hN : cfg0.N = 4 := N_0
  obtain ⟨t, ht⟩ : ∃ t : Fin cfg0.N, t.val = (i 0 : Nat) / 512 := ⟨⟨(i 0 : Nat) / 512, by omega⟩, rfl⟩
  refine ⟨t, flush0_7 t, ?_⟩
  show i ∈ ((View.whole main_v13_0).slice (win0_7.rect t)).set
  rw [View.set_slice_whole, Rect.mem_set_unit]
  intro a
  fin_cases a
  · show win0_7.index t 0 * 512 ≤ (i 0 : Nat) ∧ (i 0 : Nat) < win0_7.index t 0 * 512 + 512
    rw [(idx7 t).1]; omega
  · show win0_7.index t 1 * 768 ≤ (i 1 : Nat) ∧ (i 1 : Nat) < win0_7.index t 1 * 768 + 768
    rw [(idx7 t).2]; omega

theorem emb8 (t : Fin cfg0.N) (r : Fin 512) (d : Fin 768) : (win0_8.rect t).emb (ix2 r d) = ix2 (row t r) d := by
  refine (funext fun a => Fin.ext ?_)
  fin_cases a
  · show win0_8.index t 0 * 512 + 1 * r.val = t.val * 512 + r.val
    rw [(idx8 t).1, one_mul]
  · show win0_8.index t 1 * 768 + 1 * d.val = d.val
    rw [(idx8 t).2]; omega

/-- Every index of the result array lies in the block of its row. -/
theorem cover8 (i : S2048x768.Idx) : ∃ t : Fin cfg0.N, (cfg0.win 8).flush t = true ∧ i ∈ ((cfg0.win 8).blk t).view.set := by
  have h0 : (i 0 : Nat) < 2048 := (i 0).isLt
  have h1 : (i 1 : Nat) < 768 := (i 1).isLt
  have hN : cfg0.N = 4 := N_0
  obtain ⟨t, ht⟩ : ∃ t : Fin cfg0.N, t.val = (i 0 : Nat) / 512 := ⟨⟨(i 0 : Nat) / 512, by omega⟩, rfl⟩
  refine ⟨t, flush0_8 t, ?_⟩
  show i ∈ ((View.whole main_v13_1).slice (win0_8.rect t)).set
  rw [View.set_slice_whole, Rect.mem_set_unit]
  intro a
  fin_cases a
  · show win0_8.index t 0 * 512 ≤ (i 0 : Nat) ∧ (i 0 : Nat) < win0_8.index t 0 * 512 + 512
    rw [(idx8 t).1]; omega
  · show win0_8.index t 1 * 768 ≤ (i 1 : Nat) ∧ (i 1 : Nat) < win0_8.index t 1 * 768 + 768
    rw [(idx8 t).2]; omega

theorem emb9 (t : Fin cfg0.N) (r : Fin 512) (d : Fin 768) : (win0_9.rect t).emb (ix2 r d) = ix2 (row t r) d := by
  refine (funext fun a => Fin.ext ?_)
  fin_cases a
  · show win0_9.index t 0 * 512 + 1 * r.val = t.val * 512 + r.val
    rw [(idx9 t).1, one_mul]
  · show win0_9.index t 1 * 768 + 1 * d.val = d.val
    rw [(idx9 t).2]; omega

/-- Every index of the result array lies in the block of its row. -/
theorem cover9 (i : S2048x768.Idx) : ∃ t : Fin cfg0.N, (cfg0.win 9).flush t = true ∧ i ∈ ((cfg0.win 9).blk t).view.set := by
  have h0 : (i 0 : Nat) < 2048 := (i 0).isLt
  have h1 : (i 1 : Nat) < 768 := (i 1).isLt
  have hN : cfg0.N = 4 := N_0
  obtain ⟨t, ht⟩ : ∃ t : Fin cfg0.N, t.val = (i 0 : Nat) / 512 := ⟨⟨(i 0 : Nat) / 512, by omega⟩, rfl⟩
  refine ⟨t, flush0_9 t, ?_⟩
  show i ∈ ((View.whole main_v13_2).slice (win0_9.rect t)).set
  rw [View.set_slice_whole, Rect.mem_set_unit]
  intro a
  fin_cases a
  · show win0_9.index t 0 * 512 ≤ (i 0 : Nat) ∧ (i 0 : Nat) < win0_9.index t 0 * 512 + 512
    rw [(idx9 t).1]; omega
  · show win0_9.index t 1 * 768 ≤ (i 1 : Nat) ∧ (i 1 : Nat) < win0_9.index t 1 * 768 + 768
    rw [(idx9 t).2]; omega

theorem emb10 (t : Fin cfg0.N) (r : Fin 512) (d : Fin 768) : (win0_10.rect t).emb (ix2 r d) = ix2 (row t r) d := by
  refine (funext fun a => Fin.ext ?_)
  fin_cases a
  · show win0_10.index t 0 * 512 + 1 * r.val = t.val * 512 + r.val
    rw [(idx10 t).1, one_mul]
  · show win0_10.index t 1 * 768 + 1 * d.val = d.val
    rw [(idx10 t).2]; omega

/-- Every index of the result array lies in the block of its row. -/
theorem cover10 (i : S2048x768.Idx) : ∃ t : Fin cfg0.N, (cfg0.win 10).flush t = true ∧ i ∈ ((cfg0.win 10).blk t).view.set := by
  have h0 : (i 0 : Nat) < 2048 := (i 0).isLt
  have h1 : (i 1 : Nat) < 768 := (i 1).isLt
  have hN : cfg0.N = 4 := N_0
  obtain ⟨t, ht⟩ : ∃ t : Fin cfg0.N, t.val = (i 0 : Nat) / 512 := ⟨⟨(i 0 : Nat) / 512, by omega⟩, rfl⟩
  refine ⟨t, flush0_10 t, ?_⟩
  show i ∈ ((View.whole main_v13_3).slice (win0_10.rect t)).set
  rw [View.set_slice_whole, Rect.mem_set_unit]
  intro a
  fin_cases a
  · show win0_10.index t 0 * 512 ≤ (i 0 : Nat) ∧ (i 0 : Nat) < win0_10.index t 0 * 512 + 512
    rw [(idx10 t).1]; omega
  · show win0_10.index t 1 * 768 ≤ (i 1 : Nat) ∧ (i 1 : Nat) < win0_10.index t 1 * 768 + 768
    rw [(idx10 t).2]; omega

variable (A : Args)

/-- The arrays the call reads hold the layer's arguments. -/
structure Holds : Prop where
  x : ∀ t d, V c main_v0 (ix2 t d) = ((A.x t d : ℝ) : EReal)
  wq : ∀ d e, V c main_v6 (ix2 d e) = ((A.Wq e d : ℝ) : EReal)
  wk : ∀ d e, V c main_v8 (ix2 d e) = ((A.Wk e d : ℝ) : EReal)
  wv : ∀ d e, V c main_v10 (ix2 d e) = ((A.Wv e d : ℝ) : EReal)
  bq : ∀ e, V c main_v4 (ix2 0 e) = ((A.bq e : ℝ) : EReal)
  bk : ∀ e, V c main_v4 (ix2 1 e) = ((A.bk e : ℝ) : EReal)
  bv : ∀ e, V c main_v4 (ix2 2 e) = ((A.bv e : ℝ) : EReal)
  g1 : ∀ d, V c main_v11 (ix2 0 d) = ((A.g1 d : ℝ) : EReal)
  b1 : ∀ d, V c main_v12 (ix2 0 d) = ((A.b1 d : ℝ) : EReal)

/-- An array of rows of reals. -/
def rowsOf (f : Fin 2048 → Fin 768 → ℝ) : FVec Ideal S2048x768 .f32 := fun i => ((f (i 0) (i 1) : ℝ) : EReal)

variable {V c A}

/-- The normed rows of a point's block. -/
theorem Holds.normed (h : Holds V c A) (t : Fin cfg0.N) (r : Fin 512) (d : Fin 768) :
    k0_pay11 (k0_pay3 (iblk0 V c 0 t)) (k0_pay4 (iblk0 V c 5 t)) (k0_pay5 (iblk0 V c 6 t)) (k0_pay6 (iblk0 V c 0 t)) (k0_pay7 (iblk0 V c 0 t))
        (k0_pay8 (iblk0 V c 0 t)) (k0_pay9 (iblk0 V c 0 t)) (k0_pay10 (iblk0 V c 0 t)) (ix2 r d)
      = ((A.norm (row t r) d : ℝ) : EReal) :=
  LnBlock.normed _ _ _ (fun r => A.x (row t r)) A.g1 A.b1 (fun r d => (blk0 V c t r d).trans (h.x _ d))
    (fun d => (blk5 V c t 0 d).trans (h.g1 d)) (fun d => (blk6 V c t 0 d).trans (h.b1 d)) r d

/-- What a point writes back of the normed rows. -/
theorem Holds.flushed7 (h : Holds V c A) (t : Fin cfg0.N) :
    (dat0 V c).flushed 7 t = (win0_7.blk t).view.read (Elt Ideal) (rowsOf A.norm) := by
  show (cfg0.win 7).cut (grid0.coords t) ((dat0 V c).after 7 t) = _
  rw [after0_7]
  funext j
  obtain ⟨r, d, rfl⟩ : ∃ (r : Fin 512) (d : Fin 768), j = ix2 r d := ⟨j 0, j 1, by ext a; fin_cases a <;> rfl⟩
  show out0_7 (iblk0 V c 0 t) (iblk0 V c 1 t) (iblk0 V c 2 t) (iblk0 V c 3 t) (iblk0 V c 4 t) (iblk0 V c 5 t) (iblk0 V c 6 t) (ix2 r d)
    = (rowsOf A.norm) ((win0_7.rect t).emb (ix2 r d))
  rw [emb7]
  unfold_out out0_7
  rw [View.canon_unit_zero hz]
  rw [ld0 (iblk0 V c 0 t), ld1 (iblk0 V c 5 t), ld1 (iblk0 V c 6 t)]
  exact h.normed t r d

/-- The normed rows after the call. -/
theorem Holds.norm (h : Holds V c A) : (dat0 V c).arrAt 7 cfg0.N = (rowsOf A.norm) :=
  (dat0 V c).arrAt_eq_of_cover 7 (rowsOf A.norm) (fun t _ => h.flushed7 t) cover7

/-- What a point writes back of the queries. -/
theorem Holds.flushed8 (h : Holds V c A) (t : Fin cfg0.N) :
    (dat0 V c).flushed 8 t = (win0_8.blk t).view.read (Elt Ideal) (rowsOf A.q) := by
  show (cfg0.win 8).cut (grid0.coords t) ((dat0 V c).after 8 t) = _
  rw [after0_8]
  funext j
  obtain ⟨r, d, rfl⟩ : ∃ (r : Fin 512) (d : Fin 768), j = ix2 r d := ⟨j 0, j 1, by ext a; fin_cases a <;> rfl⟩
  show out0_8 (iblk0 V c 0 t) (iblk0 V c 1 t) (iblk0 V c 2 t) (iblk0 V c 3 t) (iblk0 V c 4 t) (iblk0 V c 5 t) (iblk0 V c 6 t) (ix2 r d)
    = (rowsOf A.q) ((win0_8.rect t).emb (ix2 r d))
  rw [emb8]
  unfold_out out0_8
  rw [View.canon_unit_zero hz]
  rw [ld0 (iblk0 V c 0 t), ld1 (iblk0 V c 5 t), ld1 (iblk0 V c 6 t), ld2 (iblk0 V c 1 t)]
  rw [pay13]
  exact proj A.bq _ _ _ (fun r => A.norm (row t r)) A.Wq (fun r d => (pay12 _ _ _ _ _ _ _ _ r d).trans (h.normed t r d))
    (fun d e => (blk1 V c t d e).trans (h.wq d e)) (fun d => (ld3 _ d).trans ((blk4 V c t _ d).trans (h.bq d))) r d

/-- The queries after the call. -/
theorem Holds.q (h : Holds V c A) : (dat0 V c).arrAt 8 cfg0.N = (rowsOf A.q) :=
  (dat0 V c).arrAt_eq_of_cover 8 (rowsOf A.q) (fun t _ => h.flushed8 t) cover8

/-- What a point writes back of the keys. -/
theorem Holds.flushed9 (h : Holds V c A) (t : Fin cfg0.N) :
    (dat0 V c).flushed 9 t = (win0_9.blk t).view.read (Elt Ideal) (rowsOf A.k) := by
  show (cfg0.win 9).cut (grid0.coords t) ((dat0 V c).after 9 t) = _
  rw [after0_9]
  funext j
  obtain ⟨r, d, rfl⟩ : ∃ (r : Fin 512) (d : Fin 768), j = ix2 r d := ⟨j 0, j 1, by ext a; fin_cases a <;> rfl⟩
  show out0_9 (iblk0 V c 0 t) (iblk0 V c 1 t) (iblk0 V c 2 t) (iblk0 V c 3 t) (iblk0 V c 4 t) (iblk0 V c 5 t) (iblk0 V c 6 t) (ix2 r d)
    = (rowsOf A.k) ((win0_9.rect t).emb (ix2 r d))
  rw [emb9]
  unfold_out out0_9
  rw [View.canon_unit_zero hz]
  rw [ld0 (iblk0 V c 0 t), ld1 (iblk0 V c 5 t), ld1 (iblk0 V c 6 t), ld2 (iblk0 V c 2 t)]
  rw [pay14]
  exact proj A.bk _ _ _ (fun r => A.norm (row t r)) A.Wk (fun r d => (pay12 _ _ _ _ _ _ _ _ r d).trans (h.normed t r d))
    (fun d e => (blk2 V c t d e).trans (h.wk d e)) (fun d => (ld4 _ d).trans ((blk4 V c t _ d).trans (h.bk d))) r d

/-- The keys after the call. -/
theorem Holds.k (h : Holds V c A) : (dat0 V c).arrAt 9 cfg0.N = (rowsOf A.k) :=
  (dat0 V c).arrAt_eq_of_cover 9 (rowsOf A.k) (fun t _ => h.flushed9 t) cover9

/-- What a point writes back of the values. -/
theorem Holds.flushed10 (h : Holds V c A) (t : Fin cfg0.N) :
    (dat0 V c).flushed 10 t = (win0_10.blk t).view.read (Elt Ideal) (rowsOf A.v) := by
  show (cfg0.win 10).cut (grid0.coords t) ((dat0 V c).after 10 t) = _
  rw [after0_10]
  funext j
  obtain ⟨r, d, rfl⟩ : ∃ (r : Fin 512) (d : Fin 768), j = ix2 r d := ⟨j 0, j 1, by ext a; fin_cases a <;> rfl⟩
  show out0_10 (iblk0 V c 0 t) (iblk0 V c 1 t) (iblk0 V c 2 t) (iblk0 V c 3 t) (iblk0 V c 4 t) (iblk0 V c 5 t) (iblk0 V c 6 t) (ix2 r d)
    = (rowsOf A.v) ((win0_10.rect t).emb (ix2 r d))
  rw [emb10]
  unfold_out out0_10
  rw [View.canon_unit_zero hz]
  rw [ld0 (iblk0 V c 0 t), ld1 (iblk0 V c 5 t), ld1 (iblk0 V c 6 t), ld2 (iblk0 V c 3 t)]
  exact proj A.bv _ _ _ (fun r => A.norm (row t r)) A.Wv (fun r d => (pay12 _ _ _ _ _ _ _ _ r d).trans (h.normed t r d))
    (fun d e => (blk3 V c t d e).trans (h.wv d e)) (fun d => (ld5 _ d).trans ((blk4 V c t _ d).trans (h.bv d))) r d

/-- The values after the call. -/
theorem Holds.v (h : Holds V c A) : (dat0 V c).arrAt 10 cfg0.N = (rowsOf A.v) :=
  (dat0 V c).arrAt_eq_of_cover 10 (rowsOf A.v) (fun t _ => h.flushed10 t) cover10

end Cert.Proof.LnArr

end
-- ==== Proof.AttnBlock.lean ====
module

public import proofs.«01_k».proof.Proof.Gen.KernelIdeal.Skeleton
public import proofs.«01_k».proof.Proof.Steps
public import proofs.«01_k».proof.Proof.Named

@[expose] public section

set_option maxRecDepth 16384

noncomputable section

namespace Cert.Proof.AttnBlock

open Idealize.ShloMosaic Cert.KernelIdeal Cert.KernelIdeal.Gen

/-! What one head of the second call computes, from the real numbers its inputs hold. -/

/-- The sum over 2048 tokens is the sum over the first 1024 plus the sum over the last 1024. -/
theorem halves (f : Fin 2048 → ℝ) :
    (∑ x : Fin 1024, f ⟨x.val, by omega⟩) + (∑ x : Fin 1024, f ⟨1024 + x.val, by omega⟩) = ∑ t, f t :=
  (Fin.sum_univ_add (a := 1024) (b := 1024) f).symm

/-- Two halves, each weighted with exponentials shifted by its own number, and the first rescaled, have the quotient of
    the whole. -/
theorem combine (l v : Fin 2048 → ℝ) (M1 M2 : ℝ) :
    ((∑ x : Fin 1024, Real.exp (l ⟨x.val, by omega⟩ - M1) * v ⟨x.val, by omega⟩) * Real.exp (M1 - M2)
        + ∑ x : Fin 1024, Real.exp (l ⟨1024 + x.val, by omega⟩ - M2) * v ⟨1024 + x.val, by omega⟩)
      / ((∑ x : Fin 1024, Real.exp (l ⟨x.val, by omega⟩ - M1)) * Real.exp (M1 - M2)
        + ∑ x : Fin 1024, Real.exp (l ⟨1024 + x.val, by omega⟩ - M2))
      = (∑ t, Real.exp (l t) * v t) / ∑ t, Real.exp (l t) := by
  rw [← softmax_shift l v M2, ← halves fun t => Real.exp (l t - M2) * v t, ← halves fun t => Real.exp (l t - M2),
    Finset.sum_mul, Finset.sum_mul]
  have e (a : ℝ) : Real.exp (a - M1) * Real.exp (M1 - M2) = Real.exp (a - M2) := by rw [← Real.exp_add]; ring_nf
  simp only [mul_right_comm, e]

variable (v0 v5 v8 : Vec Ideal S1x2048x64 .f32) (Q K V : Fin 2048 → Fin 64 → ℝ)

/-- The logit of a pair of tokens. -/
def lg (s t : Fin 2048) : ℝ := dot (Q s) (K t) / 8

/-- The product of a query with a key, scaled, as an extended real. -/
theorem lg_coe (a b : Fin 64 → EReal) (s t : Fin 2048) (ha : ∀ e, a e = ((Q s e : ℝ) : EReal)) (hb : ∀ e, b e = ((K t e : ℝ) : EReal)) :
    (∑ e, a e * b e) * Ideal.ofBits .f32 0x3E000000#32 = ((lg Q K s t : ℝ) : EReal) := by
  rw [dot_of (Q s) (K t) ha hb, bits_eighth, ← EReal.coe_mul, lg, mul_one_div]

/-- The logits of the first half of the keys. -/
theorem pay4 (hq : ∀ s e, v0 (ix3 0 s e) = ((Q s e : ℝ) : EReal)) (hk : ∀ s e, v5 (ix3 0 s e) = ((K s e : ℝ) : EReal))
    (s : Fin 2048) (t : Fin 1024) : k1_pay4 v0 v5 (ix2 s t) = ((lg Q K s ⟨t.val, by omega⟩ : ℝ) : EReal) := by
  pointwise [k1_pay4, k1_pay2]
  exact lg_coe Q K _ _ s _ (fun e => hq s e) fun e => hk _ e

/-- The running maximum after the first half is a real number. -/
theorem pay5 (hq : ∀ s e, v0 (ix3 0 s e) = ((Q s e : ℝ) : EReal)) (hk : ∀ s e, v5 (ix3 0 s e) = ((K s e : ℝ) : EReal))
    (s : Fin 2048) : ∃ M : ℝ, k1_pay5 v0 v5 (ix2 s 0) = (M : EReal) := by
  obtain ⟨M, hM⟩ := fold_max_real fun t : Fin 1024 => lg Q K s ⟨t.val, by omega⟩
  refine ⟨M, ?_⟩
  pointwise [k1_pay5, k1_pay3]
  simp only [bits_bot, pay4 v0 v5 Q K hq hk]
  rw [hM]
  exact max_eq_right bot_le

/-- A weight of the first half. -/
theorem pay7 (hq : ∀ s e, v0 (ix3 0 s e) = ((Q s e : ℝ) : EReal)) (hk : ∀ s e, v5 (ix3 0 s e) = ((K s e : ℝ) : EReal))
    (s : Fin 2048) (x : Fin 1024) (M : ℝ) (hM : k1_pay5 v0 v5 (ix2 s 0) = (M : EReal)) :
    k1_pay7 v0 v5 (ix2 s x) = ((Real.exp (lg Q K s ⟨x.val, by omega⟩ - M) : ℝ) : EReal) := by
  pointwise [k1_pay7]
  rw [pay4 v0 v5 Q K hq hk, hM, ← EReal.coe_sub, Ideal.exp_coe]

/-- The first half's sum of weighted values, by the weights. -/
theorem pay8_sum (s : Fin 2048) (e : Fin 64) : k1_pay8 v0 v5 v8 (ix2 s e)
    = 0 * k1_pay6 v0 v5 (ix2 s 0) + ∑ x : Fin 1024, k1_pay7 v0 v5 (ix2 s x) * v8 (ix3 0 ⟨x.val, by omega⟩ e) := by
  pointwise [k1_pay8]

/-- The first half's sum of weights, by the weights. -/
theorem pay9_sum (s : Fin 2048) : k1_pay9 v0 v5 (ix2 s 0)
    = 0 * k1_pay6 v0 v5 (ix2 s 0) + ∑ x : Fin 1024, k1_pay7 v0 v5 (ix2 s x) := by
  pointwise [k1_pay9]

/-- The first half's sum of weighted values. -/
theorem pay8 (hq : ∀ s e, v0 (ix3 0 s e) = ((Q s e : ℝ) : EReal)) (hk : ∀ s e, v5 (ix3 0 s e) = ((K s e : ℝ) : EReal))
    (hv : ∀ s e, v8 (ix3 0 s e) = ((V s e : ℝ) : EReal)) (s : Fin 2048) (e : Fin 64) (M : ℝ)
    (hM : k1_pay5 v0 v5 (ix2 s 0) = (M : EReal)) :
    k1_pay8 v0 v5 v8 (ix2 s e)
      = ((∑ x : Fin 1024, Real.exp (lg Q K s ⟨x.val, by omega⟩ - M) * V ⟨x.val, by omega⟩ e : ℝ) : EReal) := by
  rw [pay8_sum, zero_mul, zero_add, coe_sum]
  refine Finset.sum_congr rfl fun x _ => ?_
  rw [pay7 v0 v5 Q K hq hk s x M hM, hv, ← EReal.coe_mul]

/-- The first half's sum of weights. -/
theorem pay9 (hq : ∀ s e, v0 (ix3 0 s e) = ((Q s e : ℝ) : EReal)) (hk : ∀ s e, v5 (ix3 0 s e) = ((K s e : ℝ) : EReal))
    (s : Fin 2048) (M : ℝ) (hM : k1_pay5 v0 v5 (ix2 s 0) = (M : EReal)) :
    k1_pay9 v0 v5 (ix2 s 0) = ((∑ x : Fin 1024, Real.exp (lg Q K s ⟨x.val, by omega⟩ - M) : ℝ) : EReal) := by
  rw [pay9_sum, zero_mul, zero_add, coe_sum]
  exact Finset.sum_congr rfl fun x _ => pay7 v0 v5 Q K hq hk s x M hM

section Second

variable (v1 : FVec Ideal S2048x64 .f32) (v18 : FVec Ideal S2048x1 .f32) (v29 : FVec Ideal S2048x64 .f32)
  (v33 : FVec Ideal S2048x1 .f32) (v36 : FVec Ideal S1024x64 .f32) (v37 : Vec Ideal S1x2048x64 .f32)

/-- The second half's logits. -/
def lg2 : FVec Ideal S2048x1024 .f32 :=
  mulf (matmul dot_S2048x64_S1024x64_S2048x1024_1_1_0_0_n_n none (truncf .bf16 v1 bitsLt_bf16_f32)
    (truncf .bf16 v36 bitsLt_bf16_f32) (constant S2048x1024 .f32 0x00000000#32))
    (broadcast S2048x1024 (Scalar.ofBits .f32 0x3E000000#32))

/-- The running maximum after the second half. -/
def mx2 (l : FVec Ideal S2048x1024 .f32) : FVec Ideal S2048x1 .f32 :=
  maximumf v18 (shapeCast S2048x1 (multiReduction .maximumf [1] S2048 l 0xFF800000#32 reduces_S2048x1024_S2048 (.inl rfl) rfl)
    shapeCasts_S2048_S2048x1)

/-- The weighted mean from the first half's sums, the second half's logits and the running maxima. -/
def fin2 (l : FVec Ideal S2048x1024 .f32) (m : FVec Ideal S2048x1 .f32) : FVec Ideal S1x2048x64 .f32 :=
  have c : FVec Ideal S2048x1 .f32 := exp (subf v18 m)
  have p : FVec Ideal S2048x1024 .f32 := exp (subf l (broadcastTo S2048x1024 m broadcasts_S2048x1_S2048x1024))
  shapeCast S1x2048x64 (divf
    (addf (mulf v29 (broadcastTo S2048x64 c broadcasts_S2048x1_S2048x64))
      (matmul dot_S2048x1024_S1024x64_S2048x64_1_0_0_1_n_n none (truncf .bf16 p bitsLt_bf16_f32)
        (truncf .bf16 (extractStridedSlice S1024x64 ![1024, 0] (shapeCast S2048x64 v37 shapeCasts_S1x2048x64_S2048x64)
          slices_S2048x64_o1024_0_S1024x64) bitsLt_bf16_f32) (constant S2048x64 .f32 0x00000000#32)))
    (broadcastTo S2048x64 (addf (mulf v33 c)
      (shapeCast S2048x1 (multiReduction .add [1] S2048 p 0x00000000#32 reduces_S2048x1024_S2048 (.inl rfl) rfl) shapeCasts_S2048_S2048x1))
      broadcasts_S2048x1_S2048x64)) shapeCasts_S2048x64_S1x2048x64

/-- The stored value by these parts. -/
theorem pay1_parts : k1_pay1 v1 v18 v29 v33 v36 v37 = fin2 v18 v29 v33 v37 (lg2 v1 v36) (mx2 v18 (lg2 v1 v36)) := rfl

/-- The weighted mean at an index, for real inputs. -/
theorem fin2_coe (l : FVec Ideal S2048x1024 .f32) (m : FVec Ideal S2048x1 .f32) (s : Fin 2048) (e : Fin 64) (A Z M1 M2 : ℝ) (L W : Fin 1024 → ℝ)
    (h18 : v18 (ix2 s 0) = (M1 : EReal)) (h29 : v29 (ix2 s e) = (A : EReal)) (h33 : v33 (ix2 s 0) = (Z : EReal))
    (hm : m (ix2 s 0) = (M2 : EReal)) (hl : ∀ x, l (ix2 s x) = (L x : EReal))
    (hv : ∀ x : Fin 1024, v37 (ix3 0 ⟨1024 + x.val, by omega⟩ e) = (W x : EReal)) (hZ : 0 ≤ Z) :
    fin2 v18 v29 v33 v37 l m (ix3 0 s e)
      = (((A * Real.exp (M1 - M2) + ∑ x, Real.exp (L x - M2) * W x) / (Z * Real.exp (M1 - M2) + ∑ x, Real.exp (L x - M2)) : ℝ) : EReal) := by
  pointwise [fin2]
  simp only [h18, h29, h33, hm, hl, hv, ← EReal.coe_sub, Ideal.exp_coe, ← EReal.coe_mul, ← coe_sum, ← EReal.coe_add]
  exact div_coe_coe _ _ (add_pos_of_nonneg_of_pos (mul_nonneg hZ (Real.exp_pos _).le) (sum_exp_pos fun x => L x - M2)).ne'

end Second

/-- The stored block is the attention of the head. -/
theorem stored (hq : ∀ s e, v0 (ix3 0 s e) = ((Q s e : ℝ) : EReal)) (hk : ∀ s e, v5 (ix3 0 s e) = ((K s e : ℝ) : EReal))
    (hv : ∀ s e, v8 (ix3 0 s e) = ((V s e : ℝ) : EReal)) (s : Fin 2048) (e : Fin 64) :
    k1_pay1 (k1_pay2 v0) (k1_pay5 v0 v5) (k1_pay8 v0 v5 v8) (k1_pay9 v0 v5) (k1_pay10 v5) v8 (ix3 0 s e)
      = ((attn Q K V s e : ℝ) : EReal) := by
  obtain ⟨M1, h1⟩ := pay5 v0 v5 Q K hq hk s
  have hl (x : Fin 1024) : lg2 (k1_pay2 v0) (k1_pay10 v5) (ix2 s x) = ((lg Q K s ⟨1024 + x.val, by omega⟩ : ℝ) : EReal) := by
    pointwise [lg2, k1_pay2, k1_pay10]
    exact lg_coe Q K _ _ s _ (fun e => hq s e) fun e => hk _ e
  obtain ⟨M, hM⟩ := fold_max_real fun x : Fin 1024 => lg Q K s ⟨1024 + x.val, by omega⟩
  have h2 : mx2 (k1_pay5 v0 v5) (lg2 (k1_pay2 v0) (k1_pay10 v5)) (ix2 s 0) = ((max M1 M : ℝ) : EReal) := by
    pointwise [mx2]
    simp only [hl, bits_bot, h1]
    rw [hM, coe_max]
  refine (congrFun (pay1_parts _ _ _ _ _ _) _).trans ?_
  refine (fin2_coe _ _ _ _ _ _ s e _ _ M1 (max M1 M) (fun x => lg Q K s ⟨1024 + x.val, by omega⟩)
    (fun x => V ⟨1024 + x.val, by omega⟩ e) h1 (pay8 v0 v5 v8 Q K V hq hk hv s e M1 h1) (pay9 v0 v5 Q K hq hk s M1 h1) h2 hl
    (fun x => hv _ e) (sum_exp_pos fun x : Fin 1024 => lg Q K s ⟨x.val, by omega⟩ - M1).le).trans ?_
  exact congrArg _ (combine (lg Q K s) (fun t => V t e) M1 (max M1 M))

end Cert.Proof.AttnBlock
-- ==== Proof.AttnArr.lean ====
/- What the second call leaves in its result array: the attention of the twelve heads. -/
module

public import proofs.«01_k».proof.Proof.Gen.KernelIdeal.Frame
public import proofs.«01_k».proof.Proof.AttnBlock

@[expose] public section

set_option maxRecDepth 16384

noncomputable section

namespace Cert.Proof.AttnArr

open Idealize.ShloMosaic Idealize.ShloMosaic.TcCoe Cert.KernelIdeal Cert.KernelIdeal.Gen AttnBlock
open Idealize.ShloMosaic.Pipeline (Dat)

theorem hz : (![0, 0, 0] : Fin 3 → Nat) = fun _ => 0 := funext fun a => by fin_cases a <;> rfl

theorem ld0 (x : Vec Ideal S1x2048x64 .f32) : View.ld x r1_0 = x := View.ld_unit_zero (Val := Elt Ideal) (off := ![0, 0, 0]) hz _ x

/-! The index maps: a point's block is its head's. -/

theorem idx0 : ∀ t : Fin cfg1.N, win1_0.index t 0 = t.val ∧ win1_0.index t 1 = 0 ∧ win1_0.index t 2 = 0 := by decide +kernel
theorem idx1 : ∀ t : Fin cfg1.N, win1_1.index t 0 = t.val ∧ win1_1.index t 1 = 0 ∧ win1_1.index t 2 = 0 := by decide +kernel
theorem idx2 : ∀ t : Fin cfg1.N, win1_2.index t 0 = t.val ∧ win1_2.index t 1 = 0 ∧ win1_2.index t 2 = 0 := by decide +kernel
theorem idx3 : ∀ t : Fin cfg1.N, win1_3.index t 0 = t.val ∧ win1_3.index t 1 = 0 ∧ win1_3.index t 2 = 0 := by decide +kernel

/-- The head of a point. -/
def head (t : Fin cfg1.N) : Fin 12 := ⟨t.val, by have hN : cfg1.N = 12 := N_1; have := t.isLt; omega⟩

variable (V : (c : Dev nD) → (b : Ref sig .tc) → Buf (Elt Ideal) ((c : Thread nD τ).loc b)) (c : Dev nD)

theorem blk0 (t : Fin cfg1.N) (s : Fin 2048) (e : Fin 64) : iblk1 V c 0 t (ix3 0 s e) = V c main_v15 (ix3 (head t) s e) := by
  refine congrArg (V c main_v15) (funext fun a => Fin.ext ?_)
  fin_cases a
  · show win1_0.index t 0 * 1 + 1 * 0 = t.val
    rw [(idx0 t).1]; omega
  · show win1_0.index t 1 * 2048 + 1 * s.val = s.val
    rw [(idx0 t).2.1]; omega
  · show win1_0.index t 2 * 64 + 1 * e.val = e.val
    rw [(idx0 t).2.2]; omega

theorem blk1 (t : Fin cfg1.N) (s : Fin 2048) (e : Fin 64) : iblk1 V c 1 t (ix3 0 s e) = V c main_v17 (ix3 (head t) s e) := by
  refine congrArg (V c main_v17) (funext fun a => Fin.ext ?_)
  fin_cases a
  · show win1_1.index t 0 * 1 + 1 * 0 = t.val
    rw [(idx1 t).1]; omega
  · show win1_1.index t 1 * 2048 + 1 * s.val = s.val
    rw [(idx1 t).2.1]; omega
  · show win1_1.index t 2 * 64 + 1 * e.val = e.val
    rw [(idx1 t).2.2]; omega

theorem blk2 (t : Fin cfg1.N) (s : Fin 2048) (e : Fin 64) : iblk1 V c 2 t (ix3 0 s e) = V c main_v19 (ix3 (head t) s e) := by
  refine congrArg (V c main_v19) (funext fun a => Fin.ext ?_)
  fin_cases a
  · show win1_2.index t 0 * 1 + 1 * 0 = t.val
    rw [(idx2 t).1]; omega
  · show win1_2.index t 1 * 2048 + 1 * s.val = s.val
    rw [(idx2 t).2.1]; omega
  · show win1_2.index t 2 * 64 + 1 * e.val = e.val
    rw [(idx2 t).2.2]; omega

theorem emb3 (t : Fin cfg1.N) (s : Fin 2048) (e : Fin 64) : (win1_3.rect t).emb (ix3 0 s e) = ix3 (head t) s e := by
  refine (funext fun a => Fin.ext ?_)
  fin_cases a
  · show win1_3.index t 0 * 1 + 1 * 0 = t.val
    rw [(idx3 t).1]; omega
  · show win1_3.index t 1 * 2048 + 1 * s.val = s.val
    rw [(idx3 t).2.1]; omega
  · show win1_3.index t 2 * 64 + 1 * e.val = e.val
    rw [(idx3 t).2.2]; omega

/-- Every index of the result array lies in the block of its head. -/
theorem cover3 (i : S12x2048x64.Idx) : ∃ t : Fin cfg1.N, (cfg1.win 3).flush t = true ∧ i ∈ ((cfg1.win 3).blk t).view.set := by
  have h0 : (i 0 : Nat) < 12 := (i 0).isLt
  have h1 : (i 1 : Nat) < 2048 := (i 1).isLt
  have h2 : (i 2 : Nat) < 64 := (i 2).isLt
  have hN : cfg1.N = 12 := N_1
  obtain ⟨t, ht⟩ : ∃ t : Fin cfg1.N, t.val = (i 0 : Nat) := ⟨⟨(i 0 : Nat), by omega⟩, rfl⟩
  refine ⟨t, flush1_3 t, ?_⟩
  show i ∈ ((View.whole main_v20).slice (win1_3.rect t)).set
  rw [View.set_slice_whole, Rect.mem_set_unit]
  intro a
  fin_cases a
  · show win1_3.index t 0 * 1 ≤ (i 0 : Nat) ∧ (i 0 : Nat) < win1_3.index t 0 * 1 + 1
    rw [(idx3 t).1]; omega
  · show win1_3.index t 1 * 2048 ≤ (i 1 : Nat) ∧ (i 1 : Nat) < win1_3.index t 1 * 2048 + 2048
    rw [(idx3 t).2.1]; omega
  · show win1_3.index t 2 * 64 ≤ (i 2 : Nat) ∧ (i 2 : Nat) < win1_3.index t 2 * 64 + 64
    rw [(idx3 t).2.2]; omega

variable (A : Args)

/-- The arrays the call reads hold the heads' queries, keys and values. -/
structure Holds : Prop where
  q : ∀ h t e, V c main_v15 (ix3 h t e) = ((A.q t (col h e) : ℝ) : EReal)
  k : ∀ h t e, V c main_v17 (ix3 h t e) = ((A.k t (col h e) : ℝ) : EReal)
  v : ∀ h t e, V c main_v19 (ix3 h t e) = ((A.v t (col h e) : ℝ) : EReal)

/-- The attention array after the call. -/
def headArr : FVec Ideal S12x2048x64 .f32 := fun i => ((A.head (i 0) (i 1) (i 2) : ℝ) : EReal)

variable {V c A}

/-- What a point writes back of the attention. -/
theorem Holds.flushed3 (h : Holds V c A) (t : Fin cfg1.N) :
    (dat1 V c).flushed 3 t = (win1_3.blk t).view.read (Elt Ideal) (headArr A) := by
  show (cfg1.win 3).cut (grid1.coords t) ((dat1 V c).after 3 t) = _
  rw [after1_3]
  funext j
  obtain ⟨s, e, rfl⟩ : ∃ (s : Fin 2048) (e : Fin 64), j = ix3 0 s e :=
    ⟨j 1, j 2, by ext a; fin_cases a <;> first | rfl | exact congrArg Fin.val (Subsingleton.elim (α := Fin 1) (j 0) 0)⟩
  show out1_3 (iblk1 V c 0 t) (iblk1 V c 1 t) (iblk1 V c 2 t) (ix3 0 s e) = headArr A ((win1_3.rect t).emb (ix3 0 s e))
  rw [emb3]
  unfold out1_3
  rw [View.canon_unit_zero hz, ld0 (iblk1 V c 0 t), ld0 (iblk1 V c 1 t), ld0 (iblk1 V c 2 t)]
  exact stored _ _ _ (fun t' e => A.q t' (col (head t) e)) (fun t' e => A.k t' (col (head t) e)) (fun t' e => A.v t' (col (head t) e))
    (fun s e => (blk0 V c t s e).trans (h.q _ s e)) (fun s e => (blk1 V c t s e).trans (h.k _ s e))
    (fun s e => (blk2 V c t s e).trans (h.v _ s e)) s e

/-- The attention array after the call. -/
theorem Holds.head (h : Holds V c A) : (dat1 V c).arrAt 3 cfg1.N = headArr A :=
  (dat1 V c).arrAt_eq_of_cover 3 (headArr A) (fun t _ => h.flushed3 t) cover3

end Cert.Proof.AttnArr

end
-- ==== Proof.RouterBlock.lean ====
/- What one block of 128 tokens of the third call computes, from the real numbers its inputs hold: the mixed scores of the
   8192 neurons, the values and positions of the sixteen greatest, and the softmax-weighted sum of their rows. -/
module

public import proofs.«01_k».proof.Proof.Gen.KernelIdeal.Skeleton
public import proofs.«01_k».proof.Proof.Steps
public import proofs.«01_k».proof.Proof.TopSel
public import Idealize.ShloMosaic.Lib.Pipeline.Value

@[expose] public section

set_option maxRecDepth 16384

noncomputable section

namespace Cert.Proof.RouterBlock

open Idealize.ShloMosaic Cert.KernelIdeal Cert.KernelIdeal.Gen

/-- The signed value of the smaller word is the smaller signed value. -/
theorem toInt_minsi (a b : BitVec 32) : (IntOp.minsi a b).toInt = min a.toInt b.toInt := by
  simp only [IntOp.minsi, BitVec.slt, decide_eq_true_eq]
  split_ifs with h
  · exact (min_eq_left h.le).symm
  · exact (min_eq_right (not_lt.mp h)).symm

/-- The signed value of a small number's word. -/
theorem toInt_small (n : ℕ) (h : n ≤ 8192) : (BitVec.ofNat 32 n).toInt = n := by
  rw [BitVec.toInt_eq_toNat_of_lt] <;> rw [BitVec.toNat_ofNat, Nat.mod_eq_of_lt (by omega)]
  omega

/-- The least position holding the value, when exactly one holds it. -/
theorem fold_index (n0 : Fin 8192) (P : Fin 8192 → Prop) [DecidablePred P] (h0 : P n0) (h : ∀ n, P n → n = n0) :
    Finset.fold IntOp.minsi (2147483647#32) (fun n : Fin 8192 => if P n then BitVec.ofNat 32 n.val else 8192#32) Finset.univ
      = BitVec.ofNat 32 n0.val := by
  apply BitVec.eq_of_toInt_eq
  rw [← Finset.fold_hom (op' := min) toInt_minsi, toInt_small _ n0.isLt.le]
  apply le_antisymm
  · rw [Finset.fold_min_le]
    exact .inr ⟨n0, Finset.mem_univ _, by rw [if_pos h0, toInt_small _ n0.isLt.le]⟩
  · rw [Finset.le_fold_min]
    refine ⟨?_, fun n _ => ?_⟩
    · have : (2147483647#32).toInt = 2147483647 := by decide
      rw [this]; have := n0.isLt; omega
    · split_ifs with hn
      · rw [h n hn, toInt_small _ n0.isLt.le]
      · have := toInt_small 8192 le_rfl
        rw [this]; have := n0.isLt; omega

/-- Sixteen columns side by side, read at column `k`. -/
theorem columns {α : Type} (f : Fin 16 → S128x1.Idx → α) (r : Fin 128) (k : Fin 16) :
  concatenate S128x16 1 [⟨S128x1, f 0⟩, ⟨S128x1, f 1⟩, ⟨S128x1, f 2⟩, ⟨S128x1, f 3⟩, ⟨S128x1, f 4⟩, ⟨S128x1, f 5⟩, ⟨S128x1, f 6⟩, ⟨S128x1, f 7⟩, ⟨S128x1, f 8⟩, ⟨S128x1, f 9⟩, ⟨S128x1, f 10⟩, ⟨S128x1, f 11⟩, ⟨S128x1, f 12⟩, ⟨S128x1, f 13⟩, ⟨S128x1, f 14⟩, ⟨S128x1, f 15⟩] concatenates_S128x1_S128x1_S128x1_S128x1_S128x1_S128x1_S128x1_S128x1_S128x1_S128x1_S128x1_S128x1_S128x1_S128x1_S128x1_S128x1_S128x16_d1 (ix2 r k) = f k (ix2 r 0) := by
  refine concatenate_ofFn_unit_apply (s₁ := S128x1) (t := S128x16) 1 f concatenates_S128x1_S128x1_S128x1_S128x1_S128x1_S128x1_S128x1_S128x1_S128x1_S128x1_S128x1_S128x1_S128x1_S128x1_S128x1_S128x1_S128x16_d1 rfl rfl _ k rfl (ix2 r 0) ?_
  intro b hb
  fin_cases b
  · rfl
  · exact absurd rfl hb

variable (v0 v2 : Vec Ideal S128x768 .f32) (v4 : Vec Ideal S8192x768 .bf16) (v11 : Vec Ideal S1536x2 .bf16) (v15 : Vec Ideal S1x2 .f32)

/-- The two mixing logits of each token. -/
def logits : FVec Ideal S128x2 .f32 :=
  have v1 : FVec Ideal S128x768 .f32 := shapeCast S128x768 v0 shapeCasts_S128x768_S128x768
  have v3 : FVec Ideal S128x768 .f32 := shapeCast S128x768 v2 shapeCasts_S128x768_S128x768
  addf (matmul (φ₁ := .bf16) (φ₂ := .bf16) dot_S128x1536_S1536x2_S128x2_1_0_0_1_n_n none
      (truncf .bf16 (concatenate S128x1536 1 [⟨S128x768, v1⟩, ⟨S128x768, v3⟩] concatenates_S128x768_S128x768_S128x1536_d1) bitsLt_bf16_f32)
      (shapeCast S1536x2 v11 shapeCasts_S1536x2_S1536x2 : FVec Ideal S1536x2 .bf16) (constant S128x2 .f32 0x00000000#32))
    (broadcastTo S128x2 (shapeCast S1x2 v15 shapeCasts_S1x2_S1x2) broadcasts_S1x2_S128x2)

/-- The exponentials of the logits shifted by the greater of the two. -/
def expo (l : FVec Ideal S128x2 .f32) : FVec Ideal S128x2 .f32 :=
  exp (subf l (broadcastTo S128x2 (shapeCast S128x1
    (multiReduction .maximumf [1] S128 l 0xFF800000#32 reduces_S128x2_S128 (.inl rfl) rfl) shapeCasts_S128_S128x1) broadcasts_S128x1_S128x2))

/-- The mixing weights. -/
def weights (p : FVec Ideal S128x2 .f32) : FVec Ideal S128x2 .f32 :=
  divf p (broadcastTo S128x2 (shapeCast S128x1
    (multiReduction .add [1] S128 p 0x00000000#32 reduces_S128x2_S128 (.inl rfl) rfl) shapeCasts_S128_S128x1) broadcasts_S128x1_S128x2)

/-- The mixed scores from the weights. -/
def mixed (w : FVec Ideal S128x2 .f32) : FVec Ideal S128x8192 .f32 :=
  addf (mulf (broadcastTo S128x8192 (extractStridedSlice S128x1 ![0, 0] w slices_S128x2_o0_0_S128x1) broadcasts_S128x1_S128x8192)
      (matmul dot_S128x768_S8192x768_S128x8192_1_1_0_0_n_n none (truncf .bf16 (shapeCast S128x768 v0 shapeCasts_S128x768_S128x768) bitsLt_bf16_f32) (k2_pay5 v4) (constant S128x8192 .f32 0x00000000#32)))
    (mulf (broadcastTo S128x8192 (extractStridedSlice S128x1 ![0, 1] w slices_S128x2_o0_1_S128x1) broadcasts_S128x1_S128x8192)
      (matmul dot_S128x768_S8192x768_S128x8192_1_1_0_0_n_n none (truncf .bf16 (shapeCast S128x768 v2 shapeCasts_S128x768_S128x768) bitsLt_bf16_f32) (k2_pay5 v4) (constant S128x8192 .f32 0x00000000#32)))

/-- The scores by these parts. -/
theorem pay6_parts : k2_pay6 v0 v2 v4 v11 v15 = mixed v0 v2 v4 (weights (expo (logits v0 v2 v11 v15))) := rfl

variable (f c : Fin 768 → ℝ) (nr : Fin 8192 → Fin 768 → ℝ) (Wp : Fin 2 → Fin 1536 → ℝ) (bp : Fin 2 → ℝ) (r : Fin 128)

/-- A mixing logit. -/
theorem logits_coe (h0 : ∀ d, v0 (ix2 r d) = (f d : EReal)) (h2 : ∀ d, v2 (ix2 r d) = (c d : EReal))
    (h11 : ∀ e i, v11 (ix2 e i) = (Wp i e : EReal)) (h15 : ∀ i, v15 (ix2 0 i) = (bp i : EReal)) (i : Fin 2) :
    logits v0 v2 v11 v15 (ix2 r i) = ((mix Wp bp f c i : ℝ) : EReal) := by
  pointwise [logits]
  simp only [h0, h2, h11, h15]
  rw [dot_coe f (fun x => Wp i ⟨x.val, by omega⟩), dot_coe c (fun x => Wp i ⟨768 + x.val, by omega⟩), ← EReal.coe_add, ← EReal.coe_add]
  rfl

/-- A shifted exponential, for real logits. -/
theorem expo_coe (l : FVec Ideal S128x2 .f32) (L : Fin 2 → ℝ) (hl : ∀ i, l (ix2 r i) = (L i : EReal)) :
    ∃ M : ℝ, ∀ i, expo l (ix2 r i) = ((Real.exp (L i - M) : ℝ) : EReal) := by
  obtain ⟨M, hM⟩ := fold_max_real L
  refine ⟨M, fun i => ?_⟩
  pointwise [expo]
  simp only [bits_bot, hl]
  rw [hM, ← EReal.coe_sub, Ideal.exp_coe]

/-- A mixing weight. -/
theorem weights_coe (l : FVec Ideal S128x2 .f32) (L : Fin 2 → ℝ) (hl : ∀ i, l (ix2 r i) = (L i : EReal)) (i : Fin 2) :
    weights (expo l) (ix2 r i) = ((Real.exp (L i) / ∑ j, Real.exp (L j) : ℝ) : EReal) := by
  obtain ⟨M, hM⟩ := expo_coe r l L hl
  pointwise [weights]
  simp only [hM]
  rw [← coe_sum, div_coe_coe _ _ (sum_exp_pos fun j => L j - M).ne', softmax_weight]

/-- A score, from the block's rows. -/
theorem scores (h0 : ∀ d, v0 (ix2 r d) = (f d : EReal)) (h2 : ∀ d, v2 (ix2 r d) = (c d : EReal))
    (h4 : ∀ n d, v4 (ix2 n d) = (nr n d : EReal))
    (h11 : ∀ e i, v11 (ix2 e i) = (Wp i e : EReal)) (h15 : ∀ i, v15 (ix2 0 i) = (bp i : EReal)) (n : Fin 8192) :
    k2_pay6 v0 v2 v4 v11 v15 (ix2 r n) = ((scoreOf nr Wp bp f c n : ℝ) : EReal) := by
  rw [pay6_parts]
  have hw := weights_coe r (logits v0 v2 v11 v15) (mix Wp bp f c) (logits_coe v0 v2 v11 v15 f c Wp bp r h0 h2 h11 h15)
  pointwise [mixed, k2_pay5]
  rw [hw, hw, dot_of f (nr n) h0 (h4 n), dot_of c (nr n) h2 (h4 n), ← EReal.coe_mul, ← EReal.coe_mul, ← EReal.coe_add]
  rfl

/-- The maximum of each row. -/
def mx (v : FVec Ideal S128x8192 .f32) : FVec Ideal S128x1 .f32 :=
  shapeCast S128x1 (multiReduction .maximumf [1] S128 v 0xFF800000#32 reduces_S128x8192_S128 (.inl rfl) rfl) shapeCasts_S128_S128x1

/-- The maximum of each row's scores strictly below a given one. -/
def nxt (v34 : FVec Ideal S128x8192 .f32) (m : FVec Ideal S128x1 .f32) : FVec Ideal S128x1 .f32 :=
  mx (select (cmpf .olt v34 (broadcastTo S128x8192 m broadcasts_S128x1_S128x8192)) v34
    (broadcast S128x8192 (Scalar.ofBits .f32 0xFF800000#32)))

/-- The positions' table. -/
def posns : IVec S128x8192 32 := iota .tc S128x8192 32 [1] iota_S128x8192_d1_w32

/-- The least position of each row holding a given score. -/
def idxOf (v34 : FVec Ideal S128x8192 .f32) (m : FVec Ideal S128x1 .f32) : IVec S128x1 32 :=
  shapeCast S128x1 (multiReductionI .minsi [1] S128
    (select (cmpf .oeq v34 (broadcastTo S128x8192 m broadcasts_S128x1_S128x8192)) posns (broadcast S128x8192 8192#32))
    2147483647#32 reduces_S128x8192_S128 rfl) shapeCasts_S128_S128x1

/-- The successive greatest scores, for a table of scores and its first maximum. -/
def vals (v34 : FVec Ideal S128x8192 .f32) (m : FVec Ideal S128x1 .f32) : ℕ → FVec Ideal S128x1 .f32
  | 0 => m
  | k + 1 => nxt v34 (vals v34 m k)

/-- The first maximum. -/
def first : FVec Ideal S128x1 .f32 := mx (k2_pay7 v0 v2 v4 v11 v15)

section Rounds

variable (v34 : FVec Ideal S128x8192 .f32) (s : Fin 8192 → ℝ) (sel : Fin 16 → Fin 8192)

/-- Each successive maximum is the score of the selected neuron. -/
theorem vals_coe (m : FVec Ideal S128x1 .f32) (hs : ∀ n, v34 (ix2 r n) = (s n : EReal)) (ht : Top s sel)
    (hm : m (ix2 r 0) = ((s (sel 0) : ℝ) : EReal)) (k : ℕ) (hk : k < 16) :
    vals v34 m k (ix2 r 0) = ((s (sel ⟨k, hk⟩) : ℝ) : EReal) := by
  induction k with
  | zero => exact hm
  | succ k ih =>
    have ih := ih (by omega)
    pointwise [vals, nxt, mx]
    simp only [bits_bot, hs, ih]
    exact ht.fold_next ⟨k, by omega⟩ ⟨k + 1, hk⟩ rfl

/-- The position found for each successive maximum is the selected one. -/
theorem idxOf_coe (m : FVec Ideal S128x1 .f32) (hs : ∀ n, v34 (ix2 r n) = (s n : EReal)) (ht : Top s sel) (k : Fin 16)
    (hm : m (ix2 r 0) = ((s (sel k) : ℝ) : EReal)) :
    idxOf v34 m (ix2 r 0) = BitVec.ofNat 32 (sel k).val := by
  pointwise [idxOf, posns]
  simp only [hs, hm, EReal.coe_eq_coe_iff]
  exact fold_index (sel k) (fun n => s n = s (sel k)) rfl fun n e => ht.eq_of_score e

/-- The weighted sum of the selected rows. -/
theorem routed (v5 : FVec Ideal S8192x768 .bf16) (v229 : FVec Ideal S128x16 .f32) (hs : ∀ n, v34 (ix2 r n) = (s n : EReal))
    (ht : Top s sel) (h229 : ∀ k, v229 (ix2 r k) = ((s (sel k) : ℝ) : EReal)) (h5 : ∀ n d, v5 (ix2 n d) = (nr n d : EReal))
    (d : Fin 768) : k2_pay4 v5 v34 v229 (ix2 r d) = ((pick s sel nr d : ℝ) : EReal) := by
  pointwise [k2_pay4]
  simp only [hs, h229, h5, ← EReal.coe_sub, Ideal.exp_coe, EReal.coe_le_coe_iff]
  have e : ∀ n, (if s (sel 15) ≤ s n then ((Real.exp (s n - s (sel 0)) : ℝ) : EReal) else 0) * ((nr n d : ℝ) : EReal)
      = ((if s (sel 15) ≤ s n then Real.exp (s n - s (sel 0)) * nr n d else 0 : ℝ) : EReal) := fun n => by
    split_ifs
    · rw [← EReal.coe_mul]
    · rw [zero_mul, EReal.coe_zero]
  simp only [e, ← coe_sum]
  rw [ht.sum_dense 15 rfl fun n => Real.exp (s n - s (sel 0)) * nr n d,
    div_coe_coe _ _ (sum_exp_pos fun k => s (sel k) - s (sel 0)).ne',
    softmax_shift (fun k => s (sel k)) (fun k => nr (sel k) d)]
  rfl

end Rounds

/-- The first maximum is the score of the first selected neuron. -/
theorem first_coe (s : Fin 8192 → ℝ) (sel : Fin 16 → Fin 8192) (hs : ∀ n, k2_pay6 v0 v2 v4 v11 v15 (ix2 r n) = (s n : EReal))
    (ht : Top s sel) : first v0 v2 v4 v11 v15 (ix2 r 0) = ((s (sel 0) : ℝ) : EReal) := by
  pointwise [first, mx, k2_pay7]
  simp only [bits_bot, bits_top, hs]
  exact ht.fold_first 0 rfl

end Cert.Proof.RouterBlock

end
-- ==== Proof.RouterArr.lean ====
/- What the third call leaves in its two result arrays: for each token the sixteen selected neurons and the routed row. -/
module

public import proofs.«01_k».proof.Proof.Gen.KernelIdeal.Frame
public import proofs.«01_k».proof.Proof.RouterBlock

@[expose] public section

set_option maxRecDepth 16384

noncomputable section

namespace Cert.Proof.RouterArr

open Idealize.ShloMosaic Idealize.ShloMosaic.TcCoe Cert.KernelIdeal Cert.KernelIdeal.Gen RouterBlock
open Idealize.ShloMosaic.Pipeline (Dat)

theorem hz : (![0, 0] : Fin 2 → Nat) = fun _ => 0 := funext fun a => by fin_cases a <;> rfl

theorem ld0 (x : Vec Ideal S128x768 .f32) : View.ld x r2_0 = x := View.ld_unit_zero (Val := Elt Ideal) (off := ![0, 0]) hz _ x
theorem ld1 (x : Vec Ideal S8192x768 .bf16) : View.ld x r2_1 = x := View.ld_unit_zero (Val := Elt Ideal) (off := ![0, 0]) hz _ x
theorem ld2 (x : Vec Ideal S1536x2 .bf16) : View.ld x r2_2 = x := View.ld_unit_zero (Val := Elt Ideal) (off := ![0, 0]) hz _ x
theorem ld3 (x : Vec Ideal S1x2 .f32) : View.ld x r2_3 = x := View.ld_unit_zero (Val := Elt Ideal) (off := ![0, 0]) hz _ x

variable (x0 x1 : Vec Ideal S128x768 .f32) (x2 : Vec Ideal S8192x768 .bf16) (x3 : Vec Ideal S1536x2 .bf16) (x4 : Vec Ideal S1x2 .f32)

/-! The value and position payloads by the maxima's steps. -/

section Steps

variable (a b : FVec Ideal S128x8192 .f32) (w : IVec S128x8192 1) (m : FVec Ideal S128x1 .f32)

theorem s8 : k2_pay8 b = mx b := rfl
theorem s10 : k2_pay10 a b = nxt a (k2_pay8 b) := rfl
theorem s12 : k2_pay12 a b = nxt a (k2_pay10 a b) := rfl
theorem s14 : k2_pay14 a b = nxt a (k2_pay12 a b) := rfl
theorem s17 : k2_pay17 a (k2_pay16 a b) = nxt a (k2_pay14 a b) := rfl
theorem s19 : k2_pay19 a w = nxt a (k2_pay17 a w) := rfl
theorem s21 : k2_pay21 a w = nxt a (k2_pay19 a w) := rfl
theorem s23 : k2_pay23 a w = nxt a (k2_pay21 a w) := rfl
theorem s26 : k2_pay26 a m = nxt a m := rfl
theorem s28 : k2_pay28 a m = nxt a (k2_pay26 a m) := rfl
theorem s30 : k2_pay30 a m = nxt a (k2_pay28 a m) := rfl
theorem s32 : k2_pay32 a m = nxt a (k2_pay30 a m) := rfl
theorem s35 : k2_pay35 a m = nxt a m := rfl
theorem s37 : k2_pay37 a m = nxt a (k2_pay35 a m) := rfl
theorem s39 : k2_pay39 a m = nxt a (k2_pay37 a m) := rfl
theorem s41 : k2_pay1 (k2_pay41 a m) = nxt a (k2_pay39 a m) := rfl

end Steps

/-- The block of positions: sixteen columns, each the positions of the successive maxima. -/
theorem out5 (r : Fin 128) (k : Fin 16) : out2_5 x0 x1 x2 x3 x4 (ix2 r k)
    = idxOf (k2_pay6 x0 x1 x2 x3 x4) (vals (k2_pay6 x0 x1 x2 x3 x4) (first x0 x1 x2 x3 x4) k.val) (ix2 r 0) := by
  unfold_out out2_5
  rw [View.canon_unit_zero hz]
  rw [ld0 x0, ld0 x1, ld1 x2, ld2 x3, ld3 x4]
  exact columns (fun k => idxOf (k2_pay6 x0 x1 x2 x3 x4) (vals (k2_pay6 x0 x1 x2 x3 x4) (first x0 x1 x2 x3 x4) k.val)) r k

/-- The table of the successive maxima. -/
def table : FVec Ideal S128x16 .f32 :=
  concatenate S128x16 1 [⟨S128x1, vals (k2_pay6 x0 x1 x2 x3 x4) (first x0 x1 x2 x3 x4) 0⟩, ⟨S128x1, vals (k2_pay6 x0 x1 x2 x3 x4) (first x0 x1 x2 x3 x4) 1⟩, ⟨S128x1, vals (k2_pay6 x0 x1 x2 x3 x4) (first x0 x1 x2 x3 x4) 2⟩, ⟨S128x1, vals (k2_pay6 x0 x1 x2 x3 x4) (first x0 x1 x2 x3 x4) 3⟩, ⟨S128x1, vals (k2_pay6 x0 x1 x2 x3 x4) (first x0 x1 x2 x3 x4) 4⟩, ⟨S128x1, vals (k2_pay6 x0 x1 x2 x3 x4) (first x0 x1 x2 x3 x4) 5⟩, ⟨S128x1, vals (k2_pay6 x0 x1 x2 x3 x4) (first x0 x1 x2 x3 x4) 6⟩, ⟨S128x1, vals (k2_pay6 x0 x1 x2 x3 x4) (first x0 x1 x2 x3 x4) 7⟩, ⟨S128x1, vals (k2_pay6 x0 x1 x2 x3 x4) (first x0 x1 x2 x3 x4) 8⟩, ⟨S128x1, vals (k2_pay6 x0 x1 x2 x3 x4) (first x0 x1 x2 x3 x4) 9⟩, ⟨S128x1, vals (k2_pay6 x0 x1 x2 x3 x4) (first x0 x1 x2 x3 x4) 10⟩, ⟨S128x1, vals (k2_pay6 x0 x1 x2 x3 x4) (first x0 x1 x2 x3 x4) 11⟩, ⟨S128x1, vals (k2_pay6 x0 x1 x2 x3 x4) (first x0 x1 x2 x3 x4) 12⟩, ⟨S128x1, vals (k2_pay6 x0 x1 x2 x3 x4) (first x0 x1 x2 x3 x4) 13⟩, ⟨S128x1, vals (k2_pay6 x0 x1 x2 x3 x4) (first x0 x1 x2 x3 x4) 14⟩, ⟨S128x1, vals (k2_pay6 x0 x1 x2 x3 x4) (first x0 x1 x2 x3 x4) 15⟩] concatenates_S128x1_S128x1_S128x1_S128x1_S128x1_S128x1_S128x1_S128x1_S128x1_S128x1_S128x1_S128x1_S128x1_S128x1_S128x1_S128x1_S128x16_d1

/-- Column `k` of the table. -/
theorem table_apply (r : Fin 128) (k : Fin 16) :
    table x0 x1 x2 x3 x4 (ix2 r k) = vals (k2_pay6 x0 x1 x2 x3 x4) (first x0 x1 x2 x3 x4) k.val (ix2 r 0) :=
  columns (fun k => vals (k2_pay6 x0 x1 x2 x3 x4) (first x0 x1 x2 x3 x4) k.val) r k

/-- The block of routed rows, from the table of the successive maxima. -/
theorem out6 : out2_6 x0 x1 x2 x3 x4 = k2_pay4 (k2_pay5 x2) (k2_pay6 x0 x1 x2 x3 x4) (table x0 x1 x2 x3 x4) := by
  unfold_out out2_6
  rw [View.canon_unit_zero hz]
  rw [ld0 x0, ld0 x1, ld1 x2, ld2 x3, ld3 x4]
  simp only [s8, s10, s12, s14, s17, s19, s21, s23, s26, s28, s30, s32, s35, s37, s39, s41, table, vals, first]

variable (V : (c : Dev nD) → (b : Ref sig .tc) → Buf (Elt Ideal) ((c : Thread nD τ).loc b)) (c : Dev nD)

theorem idx0 : ∀ t : Fin cfg2.N, win2_0.index t 0 = t.val ∧ win2_0.index t 1 = 0 := by decide +kernel
theorem idx1 : ∀ t : Fin cfg2.N, win2_1.index t 0 = t.val ∧ win2_1.index t 1 = 0 := by decide +kernel
theorem idx2 : ∀ t : Fin cfg2.N, win2_2.index t 0 = 0 ∧ win2_2.index t 1 = 0 := by decide +kernel
theorem idx3 : ∀ t : Fin cfg2.N, win2_3.index t 0 = 0 ∧ win2_3.index t 1 = 0 := by decide +kernel
theorem idx4 : ∀ t : Fin cfg2.N, win2_4.index t 0 = 0 ∧ win2_4.index t 1 = 0 := by decide +kernel
theorem idx5 : ∀ t : Fin cfg2.N, win2_5.index t 0 = t.val ∧ win2_5.index t 1 = 0 := by decide +kernel
theorem idx6 : ∀ t : Fin cfg2.N, win2_6.index t 0 = t.val ∧ win2_6.index t 1 = 0 := by decide +kernel

/-- Row `r` of point `t`'s block. -/
def row (t : Fin cfg2.N) (r : Fin 128) : Fin 2048 := ⟨t.val * 128 + r.val, by have : t.val < 16 := t.isLt; omega⟩

/-! The blocks of the five inputs, read off their arrays. -/

theorem blk0 (t : Fin cfg2.N) (r : Fin 128) (d : Fin 768) : iblk2 V c 0 t (ix2 r d) = V c main_v13_0 (ix2 (row t r) d) := by
  refine congrArg (V c main_v13_0) (funext fun a => Fin.ext ?_)
  fin_cases a
  · show win2_0.index t 0 * 128 + 1 * r.val = t.val * 128 + r.val
    rw [(idx0 t).1, one_mul]
  · show win2_0.index t 1 * 768 + 1 * d.val = d.val
    rw [(idx0 t).2]; omega

theorem blk1 (t : Fin cfg2.N) (r : Fin 128) (d : Fin 768) : iblk2 V c 1 t (ix2 r d) = V c main_v22 (ix2 (row t r) d) := by
  refine congrArg (V c main_v22) (funext fun a => Fin.ext ?_)
  fin_cases a
  · show win2_1.index t 0 * 128 + 1 * r.val = t.val * 128 + r.val
    rw [(idx1 t).1, one_mul]
  · show win2_1.index t 1 * 768 + 1 * d.val = d.val
    rw [(idx1 t).2]; omega

theorem blk2 (t : Fin cfg2.N) (n : Fin 8192) (d : Fin 768) : iblk2 V c 2 t (ix2 n d) = V c main_v23 (ix2 n d) := by
  refine congrArg (V c main_v23) (funext fun a => Fin.ext ?_)
  fin_cases a
  · show win2_2.index t 0 * 8192 + 1 * n.val = n.val
    rw [(idx2 t).1]; omega
  · show win2_2.index t 1 * 768 + 1 * d.val = d.val
    rw [(idx2 t).2]; omega

theorem blk3 (t : Fin cfg2.N) (e : Fin 1536) (i : Fin 2) : iblk2 V c 3 t (ix2 e i) = V c main_v25 (ix2 e i) := by
  refine congrArg (V c main_v25) (funext fun a => Fin.ext ?_)
  fin_cases a
  · show win2_3.index t 0 * 1536 + 1 * e.val = e.val
    rw [(idx3 t).1]; omega
  · show win2_3.index t 1 * 2 + 1 * i.val = i.val
    rw [(idx3 t).2]; omega

theorem blk4 (t : Fin cfg2.N) (z : Fin 1) (i : Fin 2) : iblk2 V c 4 t (ix2 z i) = V c main_v26 (ix2 z i) := by
  refine congrArg (V c main_v26) (funext fun a => Fin.ext ?_)
  fin_cases a
  · show win2_4.index t 0 * 1 + 1 * z.val = z.val
    rw [(idx4 t).1]; omega
  · show win2_4.index t 1 * 2 + 1 * i.val = i.val
    rw [(idx4 t).2]; omega

theorem emb5 (t : Fin cfg2.N) (r : Fin 128) (k : Fin 16) : (win2_5.rect t).emb (ix2 r k) = ix2 (row t r) k := by
  refine funext fun a => Fin.ext ?_
  fin_cases a
  · show win2_5.index t 0 * 128 + 1 * r.val = t.val * 128 + r.val
    rw [(idx5 t).1, one_mul]
  · show win2_5.index t 1 * 16 + 1 * k.val = k.val
    rw [(idx5 t).2]; omega

/-- Every index of the result array lies in the block of its row. -/
theorem cover5 (i : S2048x16.Idx) : ∃ t : Fin cfg2.N, (cfg2.win 5).flush t = true ∧ i ∈ ((cfg2.win 5).blk t).view.set := by
  have h0 : (i 0 : Nat) < 2048 := (i 0).isLt
  have h1 : (i 1 : Nat) < 16 := (i 1).isLt
  have hN : cfg2.N = 16 := N_2
  obtain ⟨t, ht⟩ : ∃ t : Fin cfg2.N, t.val = (i 0 : Nat) / 128 := ⟨⟨(i 0 : Nat) / 128, by omega⟩, rfl⟩
  refine ⟨t, flush2_5 t, ?_⟩
  show i ∈ ((View.whole main_v27_0).slice (win2_5.rect t)).set
  rw [View.set_slice_whole, Rect.mem_set_unit]
  intro a
  fin_cases a
  · show win2_5.index t 0 * 128 ≤ (i 0 : Nat) ∧ (i 0 : Nat) < win2_5.index t 0 * 128 + 128
    rw [(idx5 t).1]; omega
  · show win2_5.index t 1 * 16 ≤ (i 1 : Nat) ∧ (i 1 : Nat) < win2_5.index t 1 * 16 + 16
    rw [(idx5 t).2]; omega

theorem emb6 (t : Fin cfg2.N) (r : Fin 128) (d : Fin 768) : (win2_6.rect t).emb (ix2 r d) = ix2 (row t r) d := by
  refine funext fun a => Fin.ext ?_
  fin_cases a
  · show win2_6.index t 0 * 128 + 1 * r.val = t.val * 128 + r.val
    rw [(idx6 t).1, one_mul]
  · show win2_6.index t 1 * 768 + 1 * d.val = d.val
    rw [(idx6 t).2]; omega

/-- Every index of the result array lies in the block of its row. -/
theorem cover6 (i : S2048x768.Idx) : ∃ t : Fin cfg2.N, (cfg2.win 6).flush t = true ∧ i ∈ ((cfg2.win 6).blk t).view.set := by
  have h0 : (i 0 : Nat) < 2048 := (i 0).isLt
  have h1 : (i 1 : Nat) < 768 := (i 1).isLt
  have hN : cfg2.N = 16 := N_2
  obtain ⟨t, ht⟩ : ∃ t : Fin cfg2.N, t.val = (i 0 : Nat) / 128 := ⟨⟨(i 0 : Nat) / 128, by omega⟩, rfl⟩
  refine ⟨t, flush2_6 t, ?_⟩
  show i ∈ ((View.whole main_v27_1).slice (win2_6.rect t)).set
  rw [View.set_slice_whole, Rect.mem_set_unit]
  intro a
  fin_cases a
  · show win2_6.index t 0 * 128 ≤ (i 0 : Nat) ∧ (i 0 : Nat) < win2_6.index t 0 * 128 + 128
    rw [(idx6 t).1]; omega
  · show win2_6.index t 1 * 768 ≤ (i 1 : Nat) ∧ (i 1 : Nat) < win2_6.index t 1 * 768 + 768
    rw [(idx6 t).2]; omega

variable (f q : Fin 2048 → Fin 768 → ℝ) (nr : Fin 8192 → Fin 768 → ℝ) (Wp : Fin 2 → Fin 1536 → ℝ) (bp : Fin 2 → ℝ)
  (sel : Fin 2048 → Fin 16 → Fin 8192)

/-- The arrays the call reads hold real numbers, and each token's sixteen greatest scores are untied. -/
structure Holds : Prop where
  hf : ∀ t d, V c main_v13_0 (ix2 t d) = ((f t d : ℝ) : EReal)
  hq : ∀ t d, V c main_v22 (ix2 t d) = ((q t d : ℝ) : EReal)
  hnr : ∀ n d, V c main_v23 (ix2 n d) = ((nr n d : ℝ) : EReal)
  hWp : ∀ e i, V c main_v25 (ix2 e i) = ((Wp i e : ℝ) : EReal)
  hbp : ∀ i, V c main_v26 (ix2 0 i) = ((bp i : ℝ) : EReal)
  top : ∀ t, Top (scoreOf nr Wp bp (f t) (q t)) (sel t)

variable {V c f q nr Wp bp sel}

/-- The scores of a point's block. -/
theorem Holds.score (h : Holds V c f q nr Wp bp sel) (t : Fin cfg2.N) (r : Fin 128) (n : Fin 8192) :
    k2_pay6 (iblk2 V c 0 t) (iblk2 V c 1 t) (iblk2 V c 2 t) (iblk2 V c 3 t) (iblk2 V c 4 t) (ix2 r n)
      = ((scoreOf nr Wp bp (f (row t r)) (q (row t r)) n : ℝ) : EReal) :=
  scores _ _ _ _ _ _ _ _ _ _ r (fun d => (blk0 V c t r d).trans (h.hf _ d)) (fun d => (blk1 V c t r d).trans (h.hq _ d))
    (fun n d => (blk2 V c t n d).trans (h.hnr n d)) (fun e i => (blk3 V c t e i).trans (h.hWp e i))
    (fun i => (blk4 V c t 0 i).trans (h.hbp i)) n

/-- The successive maxima of a point's block. -/
theorem Holds.max (h : Holds V c f q nr Wp bp sel) (t : Fin cfg2.N) (r : Fin 128) (k : Fin 16) :
    vals (k2_pay6 (iblk2 V c 0 t) (iblk2 V c 1 t) (iblk2 V c 2 t) (iblk2 V c 3 t) (iblk2 V c 4 t))
      (first (iblk2 V c 0 t) (iblk2 V c 1 t) (iblk2 V c 2 t) (iblk2 V c 3 t) (iblk2 V c 4 t)) k.val (ix2 r 0)
      = ((scoreOf nr Wp bp (f (row t r)) (q (row t r)) (sel (row t r) k) : ℝ) : EReal) :=
  vals_coe r _ _ _ _ (h.score t r) (h.top _) (first_coe _ _ _ _ _ r _ _ (h.score t r) (h.top _)) k.val k.isLt

/-- The positions' array after the call. -/
def posArr (sel : Fin 2048 → Fin 16 → Fin 8192) : IVec S2048x16 32 := fun i => BitVec.ofNat 32 (sel (i 0) (i 1)).val

/-- The routed rows' array after the call. -/
def rowArr (f q : Fin 2048 → Fin 768 → ℝ) (nr : Fin 8192 → Fin 768 → ℝ) (Wp : Fin 2 → Fin 1536 → ℝ) (bp : Fin 2 → ℝ)
    (sel : Fin 2048 → Fin 16 → Fin 8192) : FVec Ideal S2048x768 .f32 :=
  fun i => ((pick (scoreOf nr Wp bp (f (i 0)) (q (i 0))) (sel (i 0)) nr (i 1) : ℝ) : EReal)

/-- What a point writes back of the positions. -/
theorem Holds.flushed5 (h : Holds V c f q nr Wp bp sel) (t : Fin cfg2.N) :
    (dat2 V c).flushed 5 t = (win2_5.blk t).view.read (Elt Ideal) (posArr sel) := by
  show (cfg2.win 5).cut (grid2.coords t) ((dat2 V c).after 5 t) = _
  rw [after2_5]
  funext j
  obtain ⟨r, k, rfl⟩ : ∃ (r : Fin 128) (k : Fin 16), j = ix2 r k := ⟨j 0, j 1, by ext a; fin_cases a <;> rfl⟩
  show out2_5 (iblk2 V c 0 t) (iblk2 V c 1 t) (iblk2 V c 2 t) (iblk2 V c 3 t) (iblk2 V c 4 t) (ix2 r k) = posArr sel ((win2_5.rect t).emb (ix2 r k))
  rw [emb5, out5]
  exact idxOf_coe r _ _ _ _ (h.score t r) (h.top _) k (h.max t r k)

/-- What a point writes back of the routed rows. -/
theorem Holds.flushed6 (h : Holds V c f q nr Wp bp sel) (t : Fin cfg2.N) :
    (dat2 V c).flushed 6 t = (win2_6.blk t).view.read (Elt Ideal) (rowArr f q nr Wp bp sel) := by
  show (cfg2.win 6).cut (grid2.coords t) ((dat2 V c).after 6 t) = _
  rw [after2_6]
  funext j
  obtain ⟨r, d, rfl⟩ : ∃ (r : Fin 128) (d : Fin 768), j = ix2 r d := ⟨j 0, j 1, by ext a; fin_cases a <;> rfl⟩
  show out2_6 (iblk2 V c 0 t) (iblk2 V c 1 t) (iblk2 V c 2 t) (iblk2 V c 3 t) (iblk2 V c 4 t) (ix2 r d)
    = rowArr f q nr Wp bp sel ((win2_6.rect t).emb (ix2 r d))
  rw [emb6, out6]
  exact routed nr r _ _ _ _ _ (h.score t r) (h.top _) (fun k => (table_apply _ _ _ _ _ r k).trans (h.max t r k))
    (fun n d => by pointwise [k2_pay5]; exact (blk2 V c t n d).trans (h.hnr n d)) d

/-- The positions' array after the call. -/
theorem Holds.pos (h : Holds V c f q nr Wp bp sel) : (dat2 V c).arrAt 5 cfg2.N = posArr sel :=
  (dat2 V c).arrAt_eq_of_cover 5 (posArr sel) (fun t _ => h.flushed5 t) cover5

/-- The routed rows' array after the call. -/
theorem Holds.rows (h : Holds V c f q nr Wp bp sel) : (dat2 V c).arrAt 6 cfg2.N = rowArr f q nr Wp bp sel :=
  (dat2 V c).arrAt_eq_of_cover 6 (rowArr f q nr Wp bp sel) (fun t _ => h.flushed6 t) cover6

end Cert.Proof.RouterArr

end
-- ==== Proof.FfnBlock.lean ====
/- What one block of 256 tokens of the fourth call computes, from the real numbers its inputs hold: the second layer norm,
   the pattern scores, the gate of the eight greatest, the hidden row, and the output row. -/
module

public import proofs.«01_k».proof.Proof.Gen.KernelIdeal.Skeleton
public import proofs.«01_k».proof.Proof.Steps
public import proofs.«01_k».proof.Proof.Named
public import proofs.«01_k».proof.Proof.TopSel
public import Idealize.ShloMosaic.Lib.Pipeline.Value

@[expose] public section

set_option maxRecDepth 16384

noncomputable section

namespace Cert.Proof.FfnBlock

open Idealize.ShloMosaic Cert.KernelIdeal Cert.KernelIdeal.Gen

/-! ## The layer norm of the sum of the input row and the routed row -/

section Norm

variable (v0 v2 : Vec Ideal S256x768 .f32) (v5 v7 : Vec Ideal S1x768 .f32) (x y g b : Fin 768 → ℝ) (r : Fin 256)

/-- The sum of the two rows. -/
theorem pay2 (h0 : ∀ d, v0 (ix2 r d) = (x d : EReal)) (h2 : ∀ d, v2 (ix2 r d) = (y d : EReal)) (d : Fin 768) :
    k3_pay2 v0 v2 (ix2 r d) = ((x d + y d : ℝ) : EReal) := by
  pointwise [k3_pay2]
  rw [h0, h2, EReal.coe_add]

/-- The mean of the sum. -/
theorem pay5 (h0 : ∀ d, v0 (ix2 r d) = (x d : EReal)) (h2 : ∀ d, v2 (ix2 r d) = (y d : EReal)) :
    k3_pay5 v0 v2 (ix2 r 0) = ((mean (fun d => x d + y d) : ℝ) : EReal) := by
  pointwise [k3_pay5]
  rw [six fun d => k3_pay2 v0 v2 (ix2 r d), inv_d]
  simp only [pay2 v0 v2 x y r h0 h2]
  exact mean_mul fun d => x d + y d

/-- The squares of the distances from the mean. -/
theorem pay6 (h0 : ∀ d, v0 (ix2 r d) = (x d : EReal)) (h2 : ∀ d, v2 (ix2 r d) = (y d : EReal)) (d : Fin 768) :
    k3_pay6 v0 v2 (ix2 r d)
      = (((x d + y d - mean (fun d => x d + y d)) * (x d + y d - mean (fun d => x d + y d)) : ℝ) : EReal) := by
  pointwise [k3_pay6]
  rw [pay5 v0 v2 x y r h0 h2, pay2 v0 v2 x y r h0 h2, dev_sq]

/-- The normed block. -/
theorem normed (h0 : ∀ d, v0 (ix2 r d) = (x d : EReal)) (h2 : ∀ d, v2 (ix2 r d) = (y d : EReal))
    (hg : ∀ d, v5 (ix2 0 d) = (g d : EReal)) (hb : ∀ d, v7 (ix2 0 d) = (b d : EReal)) (d : Fin 768) :
    k3_pay9 (k3_pay2 v0 v2) (k3_pay3 v5) (k3_pay4 v7) (k3_pay5 v0 v2) (k3_pay6 v0 v2) (k3_pay7 v0 v2) (k3_pay8 v0 v2) (ix2 r d)
      = ((lnorm g b (fun d => x d + y d) d : ℝ) : EReal) := by
  pointwise [k3_pay9, k3_pay3, k3_pay4, k3_pay7, k3_pay8]
  rw [six fun d => k3_pay6 v0 v2 (ix2 r d), inv_d, pay5 v0 v2 x y r h0 h2, pay2 v0 v2 x y r h0 h2, hg, hb, bits_eps]
  simp only [pay6 v0 v2 x y r h0 h2]
  rw [mean_mul fun d => (x d + y d - mean (fun d => x d + y d)) * (x d + y d - mean (fun d => x d + y d))]
  exact lnorm_coe g b (fun d => x d + y d) d

end Norm

/-! ## The pattern scores and their eight greatest -/

/-- Eight columns side by side, read at column `k`. -/
theorem columns {α : Type} (f : Fin 8 → S256x1.Idx → α) (r : Fin 256) (k : Fin 8) :
    concatenate S256x8 1 [⟨S256x1, f 0⟩, ⟨S256x1, f 1⟩, ⟨S256x1, f 2⟩, ⟨S256x1, f 3⟩, ⟨S256x1, f 4⟩, ⟨S256x1, f 5⟩, ⟨S256x1, f 6⟩,
      ⟨S256x1, f 7⟩] concatenates_S256x1_S256x1_S256x1_S256x1_S256x1_S256x1_S256x1_S256x1_S256x8_d1 (ix2 r k) = f k (ix2 r 0) := by
  refine concatenate_ofFn_unit_apply (s₁ := S256x1) (t := S256x8) 1 f
    concatenates_S256x1_S256x1_S256x1_S256x1_S256x1_S256x1_S256x1_S256x1_S256x8_d1 rfl rfl _ k rfl (ix2 r 0) ?_
  intro b hb
  fin_cases b
  · rfl
  · exact absurd rfl hb

/-- A pattern score. -/
theorem pay10 (v73 : Vec Ideal S256x768 .f32) (v75 : Vec Ideal S64x768 .bf16) (y : Fin 768 → ℝ) (pq : Fin 64 → Fin 768 → ℝ) (r : Fin 256)
    (h : ∀ d, v73 (ix2 r d) = (y d : EReal)) (hp : ∀ p d, v75 (ix2 p d) = (pq p d : EReal)) (p : Fin 64) :
    k3_pay10 v73 v75 (ix2 r p) = ((patScore pq y p : ℝ) : EReal) := by
  pointwise [k3_pay10]
  rw [dot_of y (pq p) h (hp p), inv_sqrt_d, ← EReal.coe_mul]
  rfl

/-- The maximum of each row's scores strictly below a given one. -/
def nxt (v80 : FVec Ideal S256x64 .f32) (m : FVec Ideal S256x1 .f32) : FVec Ideal S256x1 .f32 :=
  shapeCast S256x1 (multiReduction .maximumf [1] S256
    (select (cmpf .olt v80 (broadcastTo S256x64 m broadcasts_S256x1_S256x64)) v80
      (broadcast S256x64 (Scalar.ofBits .f32 0xFF800000#32))) 0xFF800000#32 reduces_S256x64_S256 (.inl rfl) rfl) shapeCasts_S256_S256x1

/-- The successive greatest scores, for a table of scores and its first maximum. -/
def vals (v80 : FVec Ideal S256x64 .f32) (m : FVec Ideal S256x1 .f32) : ℕ → FVec Ideal S256x1 .f32
  | 0 => m
  | k + 1 => nxt v80 (vals v80 m k)

/-- The first maximum as a column. -/
def first (v86 : FVec Ideal S256 .f32) : FVec Ideal S256x1 .f32 := shapeCast S256x1 v86 shapeCasts_S256_S256x1

/-- The table of the eight greatest holds the successive maxima. -/
theorem pay12 (v80 : FVec Ideal S256x64 .f32) (v86 : FVec Ideal S256 .f32) (r : Fin 256) (k : Fin 8) :
    k3_pay12 v80 v86 (ix2 r k) = vals v80 (first v86) k.val (ix2 r 0) :=
  columns (fun k => vals v80 (first v86) k.val) r k

section Rounds

variable (v80 : FVec Ideal S256x64 .f32) (v86 : FVec Ideal S256 .f32) (s : Fin 64 → ℝ) (sel : Fin 8 → Fin 64) (r : Fin 256)

/-- Each successive maximum is the score of the selected pattern. -/
theorem vals_coe (m : FVec Ideal S256x1 .f32) (hs : ∀ n, v80 (ix2 r n) = (s n : EReal)) (ht : Top s sel)
    (hm : m (ix2 r 0) = ((s (sel 0) : ℝ) : EReal)) (k : ℕ) (hk : k < 8) :
    vals v80 m k (ix2 r 0) = ((s (sel ⟨k, hk⟩) : ℝ) : EReal) := by
  induction k with
  | zero => exact hm
  | succ k ih =>
    have ih := ih (by omega)
    pointwise [vals, nxt]
    simp only [bits_bot, hs, ih]
    exact ht.fold_next ⟨k, by omega⟩ ⟨k + 1, hk⟩ rfl

/-- The first maximum is the score of the first selected pattern. -/
theorem first_coe (v73 : Vec Ideal S256x768 .f32) (v75 : Vec Ideal S64x768 .bf16)
    (hs : ∀ n, k3_pay10 v73 v75 (ix2 r n) = (s n : EReal)) (ht : Top s sel) :
    first (k3_pay11 v73 v75) (ix2 r 0) = ((s (sel 0) : ℝ) : EReal) := by
  pointwise [first, k3_pay11]
  simp only [bits_bot, bits_top, hs]
  exact ht.fold_first 0 rfl

end Rounds

/-! ## The gate, the hidden row and the output -/

/-- The gate: the selected rows weighted by the softmax of their scores. -/
def gateOf (v80 : FVec Ideal S256x64 .f32) (v130 : FVec Ideal S256x8 .f32) (v131 v132 : FVec Ideal S256x1 .f32)
    (v145 : Vec Ideal S64x3072 .bf16) : FVec Ideal S256x3072 .f32 :=
  divf (matmul (φ₁ := .bf16) (φ₂ := .bf16) dot_S256x64_S64x3072_S256x3072_1_0_0_1_n_n none
      (truncf .bf16 (select (cmpf .oge v80 (broadcastTo S256x64 v132 broadcasts_S256x1_S256x64))
        (exp (subf v80 (broadcastTo S256x64 v131 broadcasts_S256x1_S256x64)))
        (broadcast S256x64 (Scalar.ofBits .f32 0x00000000#32))) bitsLt_bf16_f32)
      (shapeCast S64x3072 v145 shapeCasts_S64x3072_S64x3072 : FVec Ideal S64x3072 .bf16) (constant S256x3072 .f32 0x00000000#32))
    (broadcastTo S256x3072 (shapeCast S256x1 (multiReduction .add [1] S256
      (exp (subf v130 (broadcastTo S256x8 v131 broadcasts_S256x1_S256x8))) 0x00000000#32 reduces_S256x8_S256 (.inl rfl) rfl)
      shapeCasts_S256_S256x1) broadcasts_S256x1_S256x3072)

/-- The hidden row: the linear map of the normed row times the sigmoid of the gate. -/
def hiddenOf (v72 : FVec Ideal S256x768 .f32) (v150 : FVec Ideal S256x3072 .f32) (v151 : Vec Ideal S3072x768 .bf16)
    (v155 : Vec Ideal S1x3072 .f32) : FVec Ideal S256x3072 .f32 :=
  mulf (addf (matmul (φ₁ := .bf16) (φ₂ := .bf16) dot_S256x768_S3072x768_S256x3072_1_1_0_0_n_n none (truncf .bf16 v72 bitsLt_bf16_f32)
      (shapeCast S3072x768 v151 shapeCasts_S3072x768_S3072x768 : FVec Ideal S3072x768 .bf16) (constant S256x3072 .f32 0x00000000#32))
      (broadcastTo S256x3072 (shapeCast S1x3072 v155 shapeCasts_S1x3072_S1x3072) broadcasts_S1x3072_S256x3072))
    (divf (broadcast S256x3072 (Scalar.ofBits .f32 0x3F800000#32))
      (addf (broadcast S256x3072 (Scalar.ofBits .f32 0x3F800000#32))
        (exp (subf (broadcast S256x3072 (Scalar.ofBits .f32 0x00000000#32)) v150))))

/-- The Gaussian error unit of a hidden row. -/
def geluOf (v166 : FVec Ideal S256x3072 .f32) : FVec Ideal S256x3072 .f32 :=
  mulf (mulf (broadcast S256x3072 (Scalar.ofBits .f32 0x3F000000#32)) v166)
    (addf (broadcast S256x3072 (Scalar.ofBits .f32 0x3F800000#32))
      (erf (mulf v166 (broadcast S256x3072 (Scalar.ofBits .f32 0x3F3504F3#32)))))

/-- The hidden activations by these parts. -/
theorem pay15_parts (v72 : FVec Ideal S256x768 .f32) (v80 : FVec Ideal S256x64 .f32) (v130 : FVec Ideal S256x8 .f32)
    (v131 v132 : FVec Ideal S256x1 .f32) (v145 : Vec Ideal S64x3072 .bf16) (v151 : Vec Ideal S3072x768 .bf16)
    (v155 : Vec Ideal S1x3072 .f32) :
    k3_pay15 v72 v80 v130 v131 v132 v145 v151 v155 = geluOf (hiddenOf v72 (gateOf v80 v130 v131 v132 v145) v151 v155) := rfl

/-- The gate of the eight selected patterns. -/
theorem gateOf_coe (v80 : FVec Ideal S256x64 .f32) (v130 : FVec Ideal S256x8 .f32) (v131 v132 : FVec Ideal S256x1 .f32)
    (v145 : Vec Ideal S64x3072 .bf16) (s : Fin 64 → ℝ) (sel : Fin 8 → Fin 64) (ga : Fin 64 → Fin 3072 → ℝ) (r : Fin 256)
    (hs : ∀ n, v80 (ix2 r n) = (s n : EReal)) (ht : Top s sel) (h130 : ∀ k, v130 (ix2 r k) = ((s (sel k) : ℝ) : EReal))
    (h131 : v131 (ix2 r 0) = ((s (sel 0) : ℝ) : EReal)) (h132 : v132 (ix2 r 0) = ((s (sel 7) : ℝ) : EReal))
    (h145 : ∀ p f, v145 (ix2 p f) = (ga p f : EReal)) (f : Fin 3072) :
    gateOf v80 v130 v131 v132 v145 (ix2 r f) = ((pick s sel ga f : ℝ) : EReal) := by
  pointwise [gateOf]
  simp only [hs, h130, h131, h132, h145, ← EReal.coe_sub, Ideal.exp_coe, EReal.coe_le_coe_iff]
  have e : ∀ n, (if s (sel 7) ≤ s n then ((Real.exp (s n - s (sel 0)) : ℝ) : EReal) else 0) * ((ga n f : ℝ) : EReal)
      = ((if s (sel 7) ≤ s n then Real.exp (s n - s (sel 0)) * ga n f else 0 : ℝ) : EReal) := fun n => by
    split_ifs
    · rw [← EReal.coe_mul]
    · rw [zero_mul, EReal.coe_zero]
  simp only [e, ← coe_sum]
  rw [ht.sum_dense 7 rfl fun n => Real.exp (s n - s (sel 0)) * ga n f,
    div_coe_coe _ _ (sum_exp_pos fun k => s (sel k) - s (sel 0)).ne',
    softmax_shift (fun k => s (sel k)) (fun k => ga (sel k) f)]
  rfl

/-- The hidden value. -/
theorem hiddenOf_coe (v72 : FVec Ideal S256x768 .f32) (v150 : FVec Ideal S256x3072 .f32) (v151 : Vec Ideal S3072x768 .bf16)
    (v155 : Vec Ideal S1x3072 .f32) (n : Fin 768 → ℝ) (gt : Fin 3072 → ℝ) (Wu : Fin 3072 → Fin 768 → ℝ) (bu : Fin 3072 → ℝ) (r : Fin 256)
    (h72 : ∀ d, v72 (ix2 r d) = (n d : EReal)) (h150 : ∀ f, v150 (ix2 r f) = (gt f : EReal))
    (h151 : ∀ f d, v151 (ix2 f d) = (Wu f d : EReal)) (h155 : ∀ f, v155 (ix2 0 f) = (bu f : EReal)) (f : Fin 3072) :
    hiddenOf v72 v150 v151 v155 (ix2 r f) = ((hidden Wu bu n gt f : ℝ) : EReal) := by
  pointwise [hiddenOf]
  rw [dot_of n (Wu f) h72 (h151 f), h155, h150, ← EReal.coe_one, zero_sub, ← EReal.coe_neg, Ideal.exp_coe, ← EReal.coe_add, ← EReal.coe_add,
    div_coe_coe _ _ (by positivity), ← EReal.coe_mul]
  rfl

/-- The Gaussian error unit of a real. -/
theorem geluOf_coe (v166 : FVec Ideal S256x3072 .f32) (h : Fin 3072 → ℝ) (r : Fin 256) (hh : ∀ f, v166 (ix2 r f) = (h f : EReal))
    (f : Fin 3072) : geluOf v166 (ix2 r f) = ((gelu (h f) : ℝ) : EReal) := by
  pointwise [geluOf]
  rw [hh, ← EReal.coe_one, bits_half, bits_rsqrt2, ← EReal.coe_mul, ← EReal.coe_mul]
  refine (congrArg (fun z => ((1 / 2 * h f : ℝ) : EReal) * (((1 : ℝ) : EReal) + z)) (Ideal.erf_coe (h f * rsqrt2))).trans ?_
  rw [← EReal.coe_add, ← EReal.coe_mul]
  rfl

/-- The output value. -/
theorem pay1 (v4 : FVec Ideal S256x768 .f32) (v174 : FVec Ideal S256x3072 .f32) (v175 : Vec Ideal S768x3072 .bf16)
    (v180 : Vec Ideal S1x768 .f32) (z : Fin 768 → ℝ) (u : Fin 3072 → ℝ) (Wd : Fin 768 → Fin 3072 → ℝ) (bd : Fin 768 → ℝ) (r : Fin 256)
    (h4 : ∀ d, v4 (ix2 r d) = (z d : EReal)) (h174 : ∀ f, v174 (ix2 r f) = (u f : EReal))
    (h175 : ∀ d f, v175 (ix2 d f) = (Wd d f : EReal)) (h180 : ∀ d, v180 (ix2 0 d) = (bd d : EReal)) (d : Fin 768) :
    k3_pay1 v4 v174 v175 v180 (ix2 r d) = ((z d + dot u (Wd d) + bd d : ℝ) : EReal) := by
  pointwise [k3_pay1]
  rw [dot_of u (Wd d) h174 (h175 d), h4, h180, ← EReal.coe_add, ← EReal.coe_add]

end Cert.Proof.FfnBlock

end
-- ==== Proof.FfnArr.lean ====
/- What the fourth call leaves in its result array: the layer's output rows. -/
module

public import proofs.«01_k».proof.Proof.Gen.KernelIdeal.Frame
public import proofs.«01_k».proof.Proof.FfnBlock

@[expose] public section

set_option maxRecDepth 16384

noncomputable section

namespace Cert.Proof.FfnArr

open Idealize.ShloMosaic Idealize.ShloMosaic.TcCoe Cert.KernelIdeal Cert.KernelIdeal.Gen FfnBlock
open Idealize.ShloMosaic.Pipeline (Dat)

theorem hz : (![0, 0] : Fin 2 → Nat) = fun _ => 0 := funext fun a => by fin_cases a <;> rfl

theorem ld0 (x : Vec Ideal S256x768 .f32) : View.ld x r3_0 = x := View.ld_unit_zero (Val := Elt Ideal) (off := ![0, 0]) hz _ x
theorem ld1 (x : Vec Ideal S1x768 .f32) : View.ld x r3_1 = x := View.ld_unit_zero (Val := Elt Ideal) (off := ![0, 0]) hz _ x
theorem ld2 (x : Vec Ideal S64x768 .bf16) : View.ld x r3_2 = x := View.ld_unit_zero (Val := Elt Ideal) (off := ![0, 0]) hz _ x
theorem ld3 (x : Vec Ideal S64x3072 .bf16) : View.ld x r3_3 = x := View.ld_unit_zero (Val := Elt Ideal) (off := ![0, 0]) hz _ x
theorem ld4 (x : Vec Ideal S3072x768 .bf16) : View.ld x r3_4 = x := View.ld_unit_zero (Val := Elt Ideal) (off := ![0, 0]) hz _ x
theorem ld5 (x : Vec Ideal S1x3072 .f32) : View.ld x r3_5 = x := View.ld_unit_zero (Val := Elt Ideal) (off := ![0, 0]) hz _ x
theorem ld6 (x : Vec Ideal S768x3072 .bf16) : View.ld x r3_6 = x := View.ld_unit_zero (Val := Elt Ideal) (off := ![0, 0]) hz _ x

/-! The index maps: the rows' block is the point's, the other blocks are whole. -/

theorem idx0 : ∀ t : Fin cfg3.N, win3_0.index t 0 = t.val ∧ win3_0.index t 1 = 0 := by decide +kernel
theorem idx1 : ∀ t : Fin cfg3.N, win3_1.index t 0 = t.val ∧ win3_1.index t 1 = 0 := by decide +kernel
theorem idx2 : ∀ t : Fin cfg3.N, win3_2.index t 0 = 0 ∧ win3_2.index t 1 = 0 := by decide +kernel
theorem idx3 : ∀ t : Fin cfg3.N, win3_3.index t 0 = 0 ∧ win3_3.index t 1 = 0 := by decide +kernel
theorem idx4 : ∀ t : Fin cfg3.N, win3_4.index t 0 = 0 ∧ win3_4.index t 1 = 0 := by decide +kernel
theorem idx5 : ∀ t : Fin cfg3.N, win3_5.index t 0 = 0 ∧ win3_5.index t 1 = 0 := by decide +kernel
theorem idx6 : ∀ t : Fin cfg3.N, win3_6.index t 0 = 0 ∧ win3_6.index t 1 = 0 := by decide +kernel
theorem idx7 : ∀ t : Fin cfg3.N, win3_7.index t 0 = 0 ∧ win3_7.index t 1 = 0 := by decide +kernel
theorem idx8 : ∀ t : Fin cfg3.N, win3_8.index t 0 = 0 ∧ win3_8.index t 1 = 0 := by decide +kernel
theorem idx9 : ∀ t : Fin cfg3.N, win3_9.index t 0 = 0 ∧ win3_9.index t 1 = 0 := by decide +kernel
theorem idx10 : ∀ t : Fin cfg3.N, win3_10.index t 0 = t.val ∧ win3_10.index t 1 = 0 := by decide +kernel

/-- The greatest score is column 0 of the table. -/
theorem pay13 (v80 : FVec Ideal S256x64 .f32) (v86 : FVec Ideal S256 .f32) (r : Fin 256) :
    k3_pay13 v80 v86 (ix2 r 0) = k3_pay12 v80 v86 (ix2 r 0) := by
  pointwise [k3_pay13]

/-- The threshold is column 7 of the table. -/
theorem pay14 (v80 : FVec Ideal S256x64 .f32) (v86 : FVec Ideal S256 .f32) (r : Fin 256) :
    k3_pay14 v80 v86 (ix2 r 0) = k3_pay12 v80 v86 (ix2 r 7) := by
  pointwise [k3_pay14]

/-- The token of row `r` of block `t`. -/
def row (t : Fin cfg3.N) (r : Fin 256) : Fin 2048 := ⟨t.val * 256 + r.val, by have hN : cfg3.N = 8 := N_3; have := t.isLt; omega⟩

variable (V : (c : Dev nD) → (b : Ref sig .tc) → Buf (Elt Ideal) ((c : Thread nD τ).loc b)) (c : Dev nD)

theorem blk0 (t : Fin cfg3.N) (r : Fin 256) (d : Fin 768) : iblk3 V c 0 t (ix2 r d) = V c main_v0 (ix2 (row t r) d) := by
  refine congrArg (V c main_v0) (funext fun a => Fin.ext ?_)
  fin_cases a
  · show win3_0.index t 0 * 256 + 1 * r.val = t.val * 256 + r.val
    rw [(idx0 t).1, one_mul]
  · show win3_0.index t 1 * 768 + 1 * d.val = d.val
    rw [(idx0 t).2]; omega

theorem blk1 (t : Fin cfg3.N) (r : Fin 256) (d : Fin 768) : iblk3 V c 1 t (ix2 r d) = V c main_v27_1 (ix2 (row t r) d) := by
  refine congrArg (V c main_v27_1) (funext fun a => Fin.ext ?_)
  fin_cases a
  · show win3_1.index t 0 * 256 + 1 * r.val = t.val * 256 + r.val
    rw [(idx1 t).1, one_mul]
  · show win3_1.index t 1 * 768 + 1 * d.val = d.val
    rw [(idx1 t).2]; omega

theorem blk2 (t : Fin cfg3.N) (r : Fin 64) (d : Fin 768) : iblk3 V c 2 t (ix2 r d) = V c main_v28 (ix2 r d) := by
  refine congrArg (V c main_v28) (funext fun a => Fin.ext ?_)
  fin_cases a
  · show win3_2.index t 0 * 64 + 1 * r.val = r.val
    rw [(idx2 t).1]; omega
  · show win3_2.index t 1 * 768 + 1 * d.val = d.val
    rw [(idx2 t).2]; omega

theorem blk3 (t : Fin cfg3.N) (r : Fin 64) (d : Fin 3072) : iblk3 V c 3 t (ix2 r d) = V c main_v29 (ix2 r d) := by
  refine congrArg (V c main_v29) (funext fun a => Fin.ext ?_)
  fin_cases a
  · show win3_3.index t 0 * 64 + 1 * r.val = r.val
    rw [(idx3 t).1]; omega
  · show win3_3.index t 1 * 3072 + 1 * d.val = d.val
    rw [(idx3 t).2]; omega

theorem blk4 (t : Fin cfg3.N) (r : Fin 3072) (d : Fin 768) : iblk3 V c 4 t (ix2 r d) = V c main_v30 (ix2 r d) := by
  refine congrArg (V c main_v30) (funext fun a => Fin.ext ?_)
  fin_cases a
  · show win3_4.index t 0 * 3072 + 1 * r.val = r.val
    rw [(idx4 t).1]; omega
  · show win3_4.index t 1 * 768 + 1 * d.val = d.val
    rw [(idx4 t).2]; omega

theorem blk5 (t : Fin cfg3.N) (r : Fin 1) (d : Fin 3072) : iblk3 V c 5 t (ix2 r d) = V c main_v31 (ix2 r d) := by
  refine congrArg (V c main_v31) (funext fun a => Fin.ext ?_)
  fin_cases a
  · show win3_5.index t 0 * 1 + 1 * r.val = r.val
    rw [(idx5 t).1]; omega
  · show win3_5.index t 1 * 3072 + 1 * d.val = d.val
    rw [(idx5 t).2]; omega

theorem blk6 (t : Fin cfg3.N) (r : Fin 768) (d : Fin 3072) : iblk3 V c 6 t (ix2 r d) = V c main_v32 (ix2 r d) := by
  refine congrArg (V c main_v32) (funext fun a => Fin.ext ?_)
  fin_cases a
  · show win3_6.index t 0 * 768 + 1 * r.val = r.val
    rw [(idx6 t).1]; omega
  · show win3_6.index t 1 * 3072 + 1 * d.val = d.val
    rw [(idx6 t).2]; omega

theorem blk7 (t : Fin cfg3.N) (r : Fin 1) (d : Fin 768) : iblk3 V c 7 t (ix2 r d) = V c main_v33 (ix2 r d) := by
  refine congrArg (V c main_v33) (funext fun a => Fin.ext ?_)
  fin_cases a
  · show win3_7.index t 0 * 1 + 1 * r.val = r.val
    rw [(idx7 t).1]; omega
  · show win3_7.index t 1 * 768 + 1 * d.val = d.val
    rw [(idx7 t).2]; omega

theorem blk8 (t : Fin cfg3.N) (r : Fin 1) (d : Fin 768) : iblk3 V c 8 t (ix2 r d) = V c main_v34 (ix2 r d) := by
  refine congrArg (V c main_v34) (funext fun a => Fin.ext ?_)
  fin_cases a
  · show win3_8.index t 0 * 1 + 1 * r.val = r.val
    rw [(idx8 t).1]; omega
  · show win3_8.index t 1 * 768 + 1 * d.val = d.val
    rw [(idx8 t).2]; omega

theorem blk9 (t : Fin cfg3.N) (r : Fin 1) (d : Fin 768) : iblk3 V c 9 t (ix2 r d) = V c main_v35 (ix2 r d) := by
  refine congrArg (V c main_v35) (funext fun a => Fin.ext ?_)
  fin_cases a
  · show win3_9.index t 0 * 1 + 1 * r.val = r.val
    rw [(idx9 t).1]; omega
  · show win3_9.index t 1 * 768 + 1 * d.val = d.val
    rw [(idx9 t).2]; omega

theorem emb10 (t : Fin cfg3.N) (r : Fin 256) (d : Fin 768) : (win3_10.rect t).emb (ix2 r d) = ix2 (row t r) d := by
  refine (funext fun a => Fin.ext ?_)
  fin_cases a
  · show win3_10.index t 0 * 256 + 1 * r.val = t.val * 256 + r.val
    rw [(idx10 t).1, one_mul]
  · show win3_10.index t 1 * 768 + 1 * d.val = d.val
    rw [(idx10 t).2]; omega

/-- Every index of the result array lies in the block of its row. -/
theorem cover10 (i : S2048x768.Idx) : ∃ t : Fin cfg3.N, (cfg3.win 10).flush t = true ∧ i ∈ ((cfg3.win 10).blk t).view.set := by
  have h0 : (i 0 : Nat) < 2048 := (i 0).isLt
  have h1 : (i 1 : Nat) < 768 := (i 1).isLt
  have hN : cfg3.N = 8 := N_3
  obtain ⟨t, ht⟩ : ∃ t : Fin cfg3.N, t.val = (i 0 : Nat) / 256 := ⟨⟨(i 0 : Nat) / 256, by omega⟩, rfl⟩
  refine ⟨t, flush3_10 t, ?_⟩
  show i ∈ ((View.whole main_v36).slice (win3_10.rect t)).set
  rw [View.set_slice_whole, Rect.mem_set_unit]
  intro a
  fin_cases a
  · show win3_10.index t 0 * 256 ≤ (i 0 : Nat) ∧ (i 0 : Nat) < win3_10.index t 0 * 256 + 256
    rw [(idx10 t).1]; omega
  · show win3_10.index t 1 * 768 ≤ (i 1 : Nat) ∧ (i 1 : Nat) < win3_10.index t 1 * 768 + 768
    rw [(idx10 t).2]; omega

variable (A : Args) (y : Fin 2048 → Fin 768 → ℝ) (sel : Fin 2048 → Fin 8 → Fin 64)

/-- The arrays the call reads hold the layer's arguments and the routed rows, and each token's eight greatest pattern scores are untied. -/
structure Holds : Prop where
  x : ∀ t d, V c main_v0 (ix2 t d) = ((A.x t d : ℝ) : EReal)
  hy : ∀ t d, V c main_v27_1 (ix2 t d) = ((y t d : ℝ) : EReal)
  pq : ∀ p d, V c main_v28 (ix2 p d) = ((A.pq p d : ℝ) : EReal)
  gates : ∀ p f, V c main_v29 (ix2 p f) = ((A.gates p f : ℝ) : EReal)
  Wu : ∀ f d, V c main_v30 (ix2 f d) = ((A.Wu f d : ℝ) : EReal)
  bu : ∀ f, V c main_v31 (ix2 0 f) = ((A.bu f : ℝ) : EReal)
  Wd : ∀ d f, V c main_v32 (ix2 d f) = ((A.Wd d f : ℝ) : EReal)
  bd : ∀ d, V c main_v33 (ix2 0 d) = ((A.bd d : ℝ) : EReal)
  g2 : ∀ d, V c main_v34 (ix2 0 d) = ((A.g2 d : ℝ) : EReal)
  b2 : ∀ d, V c main_v35 (ix2 0 d) = ((A.b2 d : ℝ) : EReal)
  top : ∀ t, Top (patScore A.pq (y t)) (sel t)

/-- The output array after the call. -/
def outArr : FVec Ideal S2048x768 .f32 := fun i => ((ffn A (A.x (i 0)) (y (i 0)) (sel (i 0)) (i 1) : ℝ) : EReal)

variable {V c A y sel}

/-- The pattern scores of a point's block. -/
theorem Holds.score (h : Holds V c A y sel) (t : Fin cfg3.N) (r : Fin 256) (p : Fin 64) :
    k3_pay10 (iblk3 V c 1 t) (iblk3 V c 2 t) (ix2 r p) = ((patScore A.pq (y (row t r)) p : ℝ) : EReal) :=
  pay10 _ _ _ A.pq r (fun d => (blk1 V c t r d).trans (h.hy _ d)) (fun p d => (blk2 V c t p d).trans (h.pq p d)) p

/-- The successive greatest pattern scores of a point's block. -/
theorem Holds.max (h : Holds V c A y sel) (t : Fin cfg3.N) (r : Fin 256) (k : ℕ) (hk : k < 8) :
    vals (k3_pay10 (iblk3 V c 1 t) (iblk3 V c 2 t)) (first (k3_pay11 (iblk3 V c 1 t) (iblk3 V c 2 t))) k (ix2 r 0)
      = ((patScore A.pq (y (row t r)) (sel (row t r) ⟨k, hk⟩) : ℝ) : EReal) :=
  vals_coe _ _ _ r _ (h.score t r) (h.top _) (first_coe _ _ r _ _ (h.score t r) (h.top _)) k hk

/-- What a point writes back of the output rows. -/
theorem Holds.flushed10 (h : Holds V c A y sel) (t : Fin cfg3.N) :
    (dat3 V c).flushed 10 t = (win3_10.blk t).view.read (Elt Ideal) (outArr A y sel) := by
  show (cfg3.win 10).cut (grid3.coords t) ((dat3 V c).after 10 t) = _
  rw [after3_10]
  funext j
  obtain ⟨r, d, rfl⟩ : ∃ (r : Fin 256) (d : Fin 768), j = ix2 r d := ⟨j 0, j 1, by ext a; fin_cases a <;> rfl⟩
  show out3_10 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (ix2 r d)
    = (outArr A y sel) ((win3_10.rect t).emb (ix2 r d))
  rw [emb10]
  unfold_out out3_10
  rw [View.canon_unit_zero hz]
  rw [ld0 (iblk3 V c 0 t), ld0 (iblk3 V c 1 t), ld2 (iblk3 V c 2 t), ld3 (iblk3 V c 3 t), ld4 (iblk3 V c 4 t), ld5 (iblk3 V c 5 t),
    ld6 (iblk3 V c 6 t), ld1 (iblk3 V c 7 t), ld1 (iblk3 V c 8 t), ld1 (iblk3 V c 9 t)]
  have hx : ∀ d, iblk3 V c 0 t (ix2 r d) = ((A.x (row t r) d : ℝ) : EReal) := fun d => (blk0 V c t r d).trans (h.x _ d)
  have hy : ∀ d, iblk3 V c 1 t (ix2 r d) = ((y (row t r) d : ℝ) : EReal) := fun d => (blk1 V c t r d).trans (h.hy _ d)
  refine FfnBlock.pay1 _ _ _ _ (fun d => A.x (row t r) d + y (row t r) d) _ A.Wd A.bd r (pay2 _ _ _ _ r hx hy) (fun f => ?_)
    (fun d f => (blk6 V c t d f).trans (h.Wd d f)) (fun d => (blk7 V c t 0 d).trans (h.bd d)) d
  rw [pay15_parts]
  refine geluOf_coe _ _ r (hiddenOf_coe _ _ _ _ _ _ A.Wu A.bu r ?_ ?_ (fun f d => (blk4 V c t f d).trans (h.Wu f d))
    (fun f => (blk5 V c t 0 f).trans (h.bu f))) f
  · exact FfnBlock.normed _ _ _ _ _ _ A.g2 A.b2 r hx hy (fun d => (blk8 V c t 0 d).trans (h.g2 d)) (fun d => (blk9 V c t 0 d).trans (h.b2 d))
  · exact gateOf_coe _ _ _ _ _ _ (sel (row t r)) A.gates r (h.score t r) (h.top _)
      (fun k => (FfnBlock.pay12 _ _ r k).trans (h.max t r k.val k.isLt)) ((pay13 _ _ r).trans ((FfnBlock.pay12 _ _ r 0).trans (h.max t r 0 (by omega))))
      ((pay14 _ _ r).trans ((FfnBlock.pay12 _ _ r 7).trans (h.max t r 7 (by omega))))
      (fun p f => (blk3 V c t p f).trans (h.gates p f))

/-- The output rows after the call. -/
theorem Holds.out (h : Holds V c A y sel) : (dat3 V c).arrAt 10 cfg3.N = (outArr A y sel) :=
  (dat3 V c).arrAt_eq_of_cover 10 (outArr A y sel) (fun t _ => h.flushed10 t) cover10

end Cert.Proof.FfnArr

end
-- ==== Proof.KernelValue.lean ====
/- The kernel's two results as functions of the real numbers its arguments hold. -/
module

public import proofs.«01_k».proof.Proof.Host
public import proofs.«01_k».proof.Proof.LnArr
public import proofs.«01_k».proof.Proof.AttnArr
public import proofs.«01_k».proof.Proof.RouterArr
public import proofs.«01_k».proof.Proof.FfnArr

@[expose] public section

set_option maxRecDepth 16384

noncomputable section

namespace Cert.Proof.KernelValue

open Idealize.ShloMosaic Idealize.ShloMosaic.TcCoe Cert.KernelIdeal Cert.KernelIdeal.Gen

/-- The arguments hold the real numbers `A`. -/
structure Holds (V : Valuation τ sig (Elt Ideal)) (A : Args) : Prop where
  x : ∀ t d, V (Proc.devRef .tc main_arg0) (ix3 0 t d) = ((A.x t d : ℝ) : EReal)
  nr : ∀ n d, V (Proc.devRef .tc main_arg1) (ix2 n d) = ((A.nr n d : ℝ) : EReal)
  Wq : ∀ e d, V (Proc.devRef .tc main_arg2) (ix2 e d) = ((A.Wq e d : ℝ) : EReal)
  bq : ∀ e, V (Proc.devRef .tc main_arg3) (ix1 e) = ((A.bq e : ℝ) : EReal)
  Wk : ∀ e d, V (Proc.devRef .tc main_arg4) (ix2 e d) = ((A.Wk e d : ℝ) : EReal)
  bk : ∀ e, V (Proc.devRef .tc main_arg5) (ix1 e) = ((A.bk e : ℝ) : EReal)
  Wv : ∀ e d, V (Proc.devRef .tc main_arg6) (ix2 e d) = ((A.Wv e d : ℝ) : EReal)
  bv : ∀ e, V (Proc.devRef .tc main_arg7) (ix1 e) = ((A.bv e : ℝ) : EReal)
  Wp : ∀ i e, V (Proc.devRef .tc main_arg8) (ix2 i e) = ((A.Wp i e : ℝ) : EReal)
  bp : ∀ i, V (Proc.devRef .tc main_arg9) (ix1 i) = ((A.bp i : ℝ) : EReal)
  pq : ∀ p d, V (Proc.devRef .tc main_arg10) (ix2 p d) = ((A.pq p d : ℝ) : EReal)
  gates : ∀ p f, V (Proc.devRef .tc main_arg11) (ix2 p f) = ((A.gates p f : ℝ) : EReal)
  Wu : ∀ f d, V (Proc.devRef .tc main_arg12) (ix2 f d) = ((A.Wu f d : ℝ) : EReal)
  bu : ∀ f, V (Proc.devRef .tc main_arg13) (ix1 f) = ((A.bu f : ℝ) : EReal)
  Wd : ∀ d f, V (Proc.devRef .tc main_arg14) (ix2 d f) = ((A.Wd d f : ℝ) : EReal)
  bd : ∀ d, V (Proc.devRef .tc main_arg15) (ix1 d) = ((A.bd d : ℝ) : EReal)
  g1 : ∀ d, V (Proc.devRef .tc main_arg16) (ix1 d) = ((A.g1 d : ℝ) : EReal)
  b1 : ∀ d, V (Proc.devRef .tc main_arg17) (ix1 d) = ((A.b1 d : ℝ) : EReal)
  g2 : ∀ d, V (Proc.devRef .tc main_arg18) (ix1 d) = ((A.g2 d : ℝ) : EReal)
  b2 : ∀ d, V (Proc.devRef .tc main_arg19) (ix1 d) = ((A.b2 d : ℝ) : EReal)

variable {m : (ℓ : Loc nD τ sig) → Buf (Elt Ideal) ℓ} {ρ : Dev nD → PrngReg} {c : Dev nD} {A : Args}

/-- The first call's arrays. -/
theorem Holds.ln (h : Holds (W0 m ρ c) A) : LnArr.Holds (V1 m ρ) c A where
  x t d := (Host.v0 _ t d).trans (h.x t d)
  wq d e := (Host.v6 _ d e).trans (h.Wq e d)
  wk d e := (Host.v8 _ d e).trans (h.Wk e d)
  wv d e := (Host.v10 _ d e).trans (h.Wv e d)
  bq e := (Host.v4_0 _ e).trans (h.bq e)
  bk e := (Host.v4_1 _ e).trans (h.bk e)
  bv e := (Host.v4_2 _ e).trans (h.bv e)
  g1 d := (Host.v11 _ d).trans (h.g1 d)
  b1 d := (Host.v12 _ d).trans (h.b1 d)

/-- The second call's arrays. -/
theorem Holds.attn (h : Holds (W0 m ρ c) A) : AttnArr.Holds (V3 m ρ) c A where
  q h' t e := (Host.v15 _ h' t e).trans (congrFun ((W2_arr m ρ c 8).trans h.ln.q) _)
  k h' t e := (Host.v17 _ h' t e).trans (congrFun ((W2_arr m ρ c 9).trans h.ln.k) _)
  v h' t e := (Host.v19 _ h' t e).trans (congrFun ((W2_arr m ρ c 10).trans h.ln.v) _)

/-- The normed rows reach the third call. -/
theorem normed_kept : W5 m ρ c (Proc.devRef .tc main_v13_0) = W2 m ρ c (Proc.devRef .tc main_v13_0) :=
  (W5_of m ρ c main_v13_0 (by decide)).trans ((W4_of m ρ c main_v13_0 (by decide)).trans (W3_of m ρ c main_v13_0 (by decide)))

variable {sel : Fin 2048 → Fin 16 → Fin 8192} {selP : Fin 2048 → Fin 8 → Fin 64}

/-- The third call's arrays. -/
theorem Holds.router (h : Holds (W0 m ρ c) A) (ht : ∀ t, Top (A.score t) (sel t)) :
    RouterArr.Holds (V5 m ρ) c A.norm A.ctx A.nr A.Wp A.bp sel where
  hf t d := congrFun (normed_kept.trans ((W2_arr m ρ c 7).trans h.ln.norm)) _
  hq t d := (Host.v22 _ t d).trans (congrFun ((W4_arr m ρ c 3).trans h.attn.head) _)
  hnr n d := (Host.v23 _ n d).trans ((congrFun (W4_args m ρ c main_arg1 (by decide)) _).trans (h.nr n d))
  hWp e i := (Host.v25 _ e i).trans ((congrFun (W4_args m ρ c main_arg8 (by decide)) _).trans (h.Wp i e))
  hbp i := (Host.v26 _ i).trans ((congrFun (W4_args m ρ c main_arg9 (by decide)) _).trans (h.bp i))
  top := ht

/-- The token rows reach the fourth call. -/
theorem rows_kept : W7 m ρ c (Proc.devRef .tc main_v0) = W1 m ρ c (Proc.devRef .tc main_v0) :=
  (W7_of m ρ c main_v0 (by decide)).trans ((W6_of m ρ c main_v0 (by decide)).trans ((W5_of m ρ c main_v0 (by decide)).trans
    ((W4_of m ρ c main_v0 (by decide)).trans ((W3_of m ρ c main_v0 (by decide)).trans (W2_of m ρ c main_v0 (by decide))))))

/-- The fourth call's arrays. -/
theorem Holds.ffn (h : Holds (W0 m ρ c) A) (ht : ∀ t, Top (A.score t) (sel t)) (hp : ∀ t, Top (patScore A.pq (A.rout sel t)) (selP t)) :
    FfnArr.Holds (V7 m ρ) c A (A.rout sel) selP where
  x t d := (congrFun rows_kept _).trans (h.ln.x t d)
  hy t d := congrFun ((W7_of m ρ c main_v27_1 (by decide)).trans ((W6_arr m ρ c 6).trans (h.router ht).rows)) _
  pq p d := (Host.v28 _ p d).trans ((congrFun (W6_args m ρ c main_arg10 (by decide)) _).trans (h.pq p d))
  gates p f := (Host.v29 _ p f).trans ((congrFun (W6_args m ρ c main_arg11 (by decide)) _).trans (h.gates p f))
  Wu f d := (Host.v30 _ f d).trans ((congrFun (W6_args m ρ c main_arg12 (by decide)) _).trans (h.Wu f d))
  bu f := (Host.v31 _ f).trans ((congrFun (W6_args m ρ c main_arg13 (by decide)) _).trans (h.bu f))
  Wd d f := (Host.v32 _ d f).trans ((congrFun (W6_args m ρ c main_arg14 (by decide)) _).trans (h.Wd d f))
  bd d := (Host.v33 _ d).trans ((congrFun (W6_args m ρ c main_arg15 (by decide)) _).trans (h.bd d))
  g2 d := (Host.v34 _ d).trans ((congrFun (W6_args m ρ c main_arg18 (by decide)) _).trans (h.g2 d))
  b2 d := (Host.v35 _ d).trans ((congrFun (W6_args m ρ c main_arg19 (by decide)) _).trans (h.b2 d))
  top := hp

/-- The first result: the layer's output rows. -/
theorem Holds.result0 (h : Holds (W0 m ρ c) A) (ht : ∀ t, Top (A.score t) (sel t)) (hp : ∀ t, Top (patScore A.pq (A.rout sel t)) (selP t))
    (t : Fin 2048) (d : Fin 768) :
    W9 m ρ c (Proc.devRef .tc main_v37) (ix3 0 t d) = ((Cert.Proof.ffn A (A.x t) (A.rout sel t) (selP t) d : ℝ) : EReal) :=
  (Host.v37 _ t d).trans (congrFun ((W8_arr m ρ c 10).trans (h.ffn ht hp).out) _)

/-- The second result: the selected neurons. -/
theorem Holds.result1 (h : Holds (W0 m ρ c) A) (ht : ∀ t, Top (A.score t) (sel t)) (t : Fin 2048) (k : Fin 16) :
    W9 m ρ c (Proc.devRef .tc main_v38) (ix3 0 t k) = BitVec.ofNat 32 (sel t k).val :=
  (Host.v38 _ t k).trans (congrFun ((W8_of m ρ c main_v27_0 (by decide)).trans ((W7_of m ρ c main_v27_0 (by decide)).trans
    ((W6_arr m ρ c 5).trans (h.router ht).pos))) _)

end Cert.Proof.KernelValue

end
-- ==== Proof.RefLn.lean ====
/- The reference's normed rows. -/
module

public import proofs.«01_k».proof.Proof.Gen.ReferenceIdeal.Run
public import Idealize.ShloMosaic.Lib.StableHlo.ReadAt
public import proofs.«01_k».proof.Proof.Steps

@[expose] public section

set_option maxRecDepth 16384

noncomputable section

namespace Cert.Proof.Ref

open Idealize.ShloMosaic Idealize.ShloMosaic.TcCoe Cert.ReferenceIdeal Cert.ReferenceIdeal.Value

/-- The arguments hold the real numbers `A`. -/
structure Holds (V : Valuation τ sig (Elt Ideal)) (A : Args) : Prop where
  x : ∀ t d, V (Proc.devRef .tc main_arg0) (ix3 0 t d) = ((A.x t d : ℝ) : EReal)
  nr : ∀ n d, V (Proc.devRef .tc main_arg1) (ix2 n d) = ((A.nr n d : ℝ) : EReal)
  Wq : ∀ e d, V (Proc.devRef .tc main_arg2) (ix2 e d) = ((A.Wq e d : ℝ) : EReal)
  bq : ∀ e, V (Proc.devRef .tc main_arg3) (ix1 e) = ((A.bq e : ℝ) : EReal)
  Wk : ∀ e d, V (Proc.devRef .tc main_arg4) (ix2 e d) = ((A.Wk e d : ℝ) : EReal)
  bk : ∀ e, V (Proc.devRef .tc main_arg5) (ix1 e) = ((A.bk e : ℝ) : EReal)
  Wv : ∀ e d, V (Proc.devRef .tc main_arg6) (ix2 e d) = ((A.Wv e d : ℝ) : EReal)
  bv : ∀ e, V (Proc.devRef .tc main_arg7) (ix1 e) = ((A.bv e : ℝ) : EReal)
  Wp : ∀ i e, V (Proc.devRef .tc main_arg8) (ix2 i e) = ((A.Wp i e : ℝ) : EReal)
  bp : ∀ i, V (Proc.devRef .tc main_arg9) (ix1 i) = ((A.bp i : ℝ) : EReal)
  pq : ∀ p d, V (Proc.devRef .tc main_arg10) (ix2 p d) = ((A.pq p d : ℝ) : EReal)
  gates : ∀ p f, V (Proc.devRef .tc main_arg11) (ix2 p f) = ((A.gates p f : ℝ) : EReal)
  Wu : ∀ f d, V (Proc.devRef .tc main_arg12) (ix2 f d) = ((A.Wu f d : ℝ) : EReal)
  bu : ∀ f, V (Proc.devRef .tc main_arg13) (ix1 f) = ((A.bu f : ℝ) : EReal)
  Wd : ∀ d f, V (Proc.devRef .tc main_arg14) (ix2 d f) = ((A.Wd d f : ℝ) : EReal)
  bd : ∀ d, V (Proc.devRef .tc main_arg15) (ix1 d) = ((A.bd d : ℝ) : EReal)
  g1 : ∀ d, V (Proc.devRef .tc main_arg16) (ix1 d) = ((A.g1 d : ℝ) : EReal)
  b1 : ∀ d, V (Proc.devRef .tc main_arg17) (ix1 d) = ((A.b1 d : ℝ) : EReal)
  g2 : ∀ d, V (Proc.devRef .tc main_arg18) (ix1 d) = ((A.g2 d : ℝ) : EReal)
  b2 : ∀ d, V (Proc.devRef .tc main_arg19) (ix1 d) = ((A.b2 d : ℝ) : EReal)

variable {V : Valuation τ sig (Elt Ideal)} {A : Args}

/-- The mean of a token's row. -/
theorem Holds.v3 (h : Holds V A) (t : Fin 2048) : res_main_v3 V (ix3 0 t 0) = ((mean (A.x t) : ℝ) : EReal) := by
  unfold res_main_v3
  clean_types
  pointwise
  simp only [h.x]
  rw [bits_768]
  exact mean_div (A.x t)

/-- The distance from the mean. -/
theorem Holds.v5 (h : Holds V A) (t : Fin 2048) (d : Fin 768) : res_main_v5 V (ix3 0 t d) = ((A.x t d - mean (A.x t) : ℝ) : EReal) := by
  unfold res_main_v5
  clean_types
  pointwise
  rw [h.v3, h.x, EReal.coe_sub]

/-- The normed rows. -/
theorem Holds.v23 (h : Holds V A) (t : Fin 2048) (d : Fin 768) : res_main_v23 V (ix3 0 t d) = ((A.norm t d : ℝ) : EReal) := by
  unfold res_main_v23
  clean_types
  pointwise
  simp only [h.v5, ← EReal.coe_mul]
  rw [bits_768, bits_eps, mean_div fun d => (A.x t d - mean (A.x t)) * (A.x t d - mean (A.x t)), h.v3, h.x, h.g1, h.b1]
  exact lnorm_coe A.g1 A.b1 (A.x t) d

end Cert.Proof.Ref

end
-- ==== Proof.RefSoft.lean ====
/- The reference's attention. -/
module

public import proofs.«01_k».proof.Proof.RefLn

@[expose] public section

set_option maxRecDepth 16384

noncomputable section

namespace Cert.Proof.Ref

open Idealize.ShloMosaic Idealize.ShloMosaic.TcCoe Cert.ReferenceIdeal Cert.ReferenceIdeal.Gen Cert.ReferenceIdeal.Value

variable {V : Valuation τ sig (Elt Ideal)} {A : Args}

/-- A maximum along the last of four axes, from a constant. -/
theorem rowMax {a b n l : ℕ} (x : FVec Ideal (⟨4, ![a, b, n, l]⟩ : Shape) .f32) (w : BitVec 32)
    (h : (⟨4, ![a, b, n, l]⟩ : Shape).ReducesTo [3] (⟨3, ![a, b, n]⟩ : Shape)) (hu : 0 < (⟨0, ![]⟩ : Shape).numel) (i : Fin a) (k : Fin b) (s : Fin n) :
    Host.reduce FloatOps.maximumf x (constant (⟨0, ![]⟩ : Shape) .f32 w) h hu (ix3 i k s) = Finset.univ.fold max (Ideal.ofBits .f32 w) fun t : Fin l => x (ix4 i k s t) := by
  pointwise

/-- A maximum along the last of three axes, from a constant. -/
theorem rowMax3 {a b n : ℕ} (x : FVec Ideal (⟨3, ![a, b, n]⟩ : Shape) .f32) (w : BitVec 32)
    (h : (⟨3, ![a, b, n]⟩ : Shape).ReducesTo [2] (⟨2, ![a, b]⟩ : Shape)) (hu : 0 < (⟨0, ![]⟩ : Shape).numel) (i : Fin a) (k : Fin b) :
    Host.reduce FloatOps.maximumf x (constant (⟨0, ![]⟩ : Shape) .f32 w) h hu (ix2 i k) = Finset.univ.fold max (Ideal.ofBits .f32 w) fun t : Fin n => x (ix3 i k t) := by
  pointwise

/-- The exponential of an array of scores shifted by numbers of its rows, none under -∞. -/
def shifted8 (X : FVec Ideal S1x2048x8 .f32) (R : FVec Ideal S1x2048 .f32) : FVec Ideal S1x2048x8 .f32 :=
  Host.exp (subf X (broadcastInDim S1x2048x8 ![0, 1, 2] bcast_S1x2048x1_S1x2048x8_0_1_2 (broadcastInDim S1x2048x1 ![0, 1] bcast_S1x2048_S1x2048x1_0_1 (maximumf (broadcastInDim S1x2048 ![] bcast_S_S1x2048 (constant S_ .f32 0xFF800000#32)) R))))

/-- An entry of it. -/
theorem shifted8_apply (X : FVec Ideal S1x2048x8 .f32) (R : FVec Ideal S1x2048 .f32) (t : Fin 2048) (k : Fin 8) :
    shifted8 X R (ix3 0 t k) = Ideal.exp (X (ix3 0 t k) - max (Ideal.ofBits .f32 0xFF800000#32) (R (ix2 0 t))) := by
  pointwise [shifted8]

/-- The exponential of an array of products shifted by numbers of its rows, none under -∞. -/
def shifted (X : FVec Ideal S1x12x2048x2048 .f32) (R : FVec Ideal S1x12x2048 .f32) : FVec Ideal S1x12x2048x2048 .f32 :=
  Host.exp (subf X (broadcastInDim S1x12x2048x2048 ![0, 1, 2, 3] bcast_S1x12x2048x1_S1x12x2048x2048_0_1_2_3 (broadcastInDim S1x12x2048x1 ![0, 1, 2] bcast_S1x12x2048_S1x12x2048x1_0_1_2 (maximumf (broadcastInDim S1x12x2048 ![] bcast_S_S1x12x2048 (constant S_ .f32 0xFF800000#32)) R))))

/-- An entry of it. -/
theorem shifted_apply (X : FVec Ideal S1x12x2048x2048 .f32) (R : FVec Ideal S1x12x2048 .f32) (k : Fin 12) (s t : Fin 2048) :
    shifted X R (ix4 0 k s t) = Ideal.exp (X (ix4 0 k s t) - max (Ideal.ofBits .f32 0xFF800000#32) (R (ix3 0 k s))) := by
  pointwise [shifted]

end Cert.Proof.Ref

end
-- ==== Proof.RefDots.lean ====
/- The reference's attention. -/
module

public import proofs.«01_k».proof.Proof.RefLn

@[expose] public section

set_option maxRecDepth 16384

noncomputable section

namespace Cert.Proof.Ref

open Idealize.ShloMosaic Idealize.ShloMosaic.TcCoe Cert.ReferenceIdeal Cert.ReferenceIdeal.Value

variable {V : Valuation τ sig (Elt Ideal)} {A : Args}

/-- The scaled product of a query and a key. -/
theorem Holds.v51 (h : Holds V A) (k : Fin 12) (s t : Fin 2048) :
    res_main_v51 V (ix4 0 k s t) = ((dot (fun e => A.q s (col k e)) (fun e => A.k t (col k e)) / 8 : ℝ) : EReal) := by
  unfold res_main_v51
  clean_types
  pointwise
  simp only [h.v23, h.Wq, h.bq, h.Wk, h.bk, dot_coe, ← EReal.coe_add, bits_8]
  rw [div_coe_coe _ _ (by norm_num)]
  rfl

end Cert.Proof.Ref

end
-- ==== Proof.RefAttn.lean ====
/- The reference's attention. -/
module

public import proofs.«01_k».proof.Proof.RefSoft
public import proofs.«01_k».proof.Proof.RefDots

@[expose] public section

set_option maxRecDepth 16384

noncomputable section

namespace Cert.Proof.Ref

open Idealize.ShloMosaic Idealize.ShloMosaic.TcCoe Cert.ReferenceIdeal Cert.ReferenceIdeal.Gen Cert.ReferenceIdeal.Value

variable {V : Valuation τ sig (Elt Ideal)} {A : Args}

/-- The exponential of a shifted product. -/
theorem Holds.v58 (h : Holds V A) (k : Fin 12) (s : Fin 2048) : ∃ M : ℝ, ∀ t,
    res_main_v58 V (ix4 0 k s t) = ((Real.exp (dot (fun e => A.q s (col k e)) (fun e => A.k t (col k e)) / 8 - M) : ℝ) : EReal) := by
  obtain ⟨M, hM⟩ := fold_max_real fun t : Fin 2048 => dot (fun e => A.q s (col k e)) (fun e => A.k t (col k e)) / 8
  refine ⟨M, fun t => ?_⟩
  have e : (fun x => res_main_v51 V (ix4 0 k s x)) = fun t : Fin 2048 => ((dot (fun e => A.q s (col k e)) (fun e => A.k t (col k e)) / 8 : ℝ) : EReal) :=
    funext fun x => h.v51 k s x
  have f : Host.reduce FloatOps.maximumf (res_main_v51 V) (constant S_ .f32 0xFF800000#32) reducesTo_S1x12x2048x2048_S1x12x2048_d3 h_S_ (ix3 0 k s) = (M : EReal) := by
    refine (rowMax (res_main_v51 V) _ _ _ 0 k s).trans ?_
    rw [e, bits_bot, hM]
  rw [show res_main_v58 V = shifted (res_main_v51 V) (Host.reduce FloatOps.maximumf (res_main_v51 V) (constant S_ .f32 0xFF800000#32) reducesTo_S1x12x2048x2048_S1x12x2048_d3 h_S_) from rfl,
    shifted_apply, f, bits_bot, h.v51, max_eq_right bot_le, ← EReal.coe_sub, Ideal.exp_coe]

/-- The context rows. -/
theorem Holds.v68 (h : Holds V A) (t : Fin 2048) (d : Fin 768) : res_main_v68 V (ix3 0 t d) = ((A.ctx t d : ℝ) : EReal) := by
  obtain ⟨M, hM⟩ := h.v58 (headOf d) t
  have hd : (⟨d.val / 64, by omega⟩ : Fin 12) = headOf d := rfl
  have hc : d = col (headOf d) (featOf d) := Fin.ext (by show d.val = d.val / 64 * 64 + d.val % 64; omega)
  unfold res_main_v68
  clean_types
  pointwise
  simp only [hd, hM, h.v23, h.Wv, h.bv, dot_coe, ← EReal.coe_add, ← coe_sum]
  rw [Finset.sum_congr rfl fun x _ => congrArg (· * _) (div_coe_coe _ _ (sum_exp_pos _).ne')]
  simp only [← EReal.coe_mul, ← coe_sum]
  rw [sum_weights, softmax_shift, show A.ctx t d = (∑ i, Real.exp (dot (fun e => A.q t (col (headOf d) e)) (fun e => A.k i (col (headOf d) e)) / 8)
    * A.v i (col (headOf d) (featOf d))) / ∑ i, Real.exp (dot (fun e => A.q t (col (headOf d) e)) (fun e => A.k i (col (headOf d) e)) / 8) from rfl, ← hc]
  rfl

end Cert.Proof.Ref

end
-- ==== Proof.RefScore.lean ====
/- The reference's mixing weights and scores. -/
module

public import proofs.«01_k».proof.Proof.RefAttn

@[expose] public section

set_option maxRecDepth 16384

noncomputable section

namespace Cert.Proof.Ref

open Idealize.ShloMosaic Idealize.ShloMosaic.TcCoe Cert.ReferenceIdeal Cert.ReferenceIdeal.Value

variable {V : Valuation τ sig (Elt Ideal)} {A : Args}

/-- A mixing logit. -/
theorem Holds.v78 (h : Holds V A) (t : Fin 2048) (i : Fin 2) :
    res_main_v78 V (ix3 0 t i) = ((mix A.Wp A.bp (A.norm t) (A.ctx t) i : ℝ) : EReal) := by
  unfold res_main_v78
  clean_types
  pointwise
  simp only [h.v23, h.v68, h.Wp, h.bp, ← EReal.coe_mul, ← coe_sum, ← EReal.coe_add]
  rfl

/-- The exponential of a shifted mixing logit. -/
theorem Holds.v85 (h : Holds V A) (t : Fin 2048) : ∃ M : ℝ, ∀ i,
    res_main_v85 V (ix3 0 t i) = ((Real.exp (mix A.Wp A.bp (A.norm t) (A.ctx t) i - M) : ℝ) : EReal) := by
  obtain ⟨M, hM⟩ := fold_max_real fun i : Fin 2 => mix A.Wp A.bp (A.norm t) (A.ctx t) i
  refine ⟨M, fun i => ?_⟩
  unfold res_main_v85
  clean_types
  pointwise
  simp only [h.v78, bits_bot, hM]
  rw [max_eq_right bot_le, ← EReal.coe_sub, Ideal.exp_coe]

/-- The mixing weights. -/
theorem Holds.v89 (h : Holds V A) (t : Fin 2048) (i : Fin 2) :
    res_main_v89 V (ix3 0 t i) = ((weight A.Wp A.bp (A.norm t) (A.ctx t) i : ℝ) : EReal) := by
  obtain ⟨M, hM⟩ := h.v85 t
  unfold res_main_v89
  clean_types
  pointwise
  simp only [hM, ← coe_sum]
  rw [div_coe_coe _ _ (sum_exp_pos _).ne', softmax_weight]
  rfl

/-- The scores. -/
theorem Holds.v96 (h : Holds V A) (t : Fin 2048) (n : Fin 8192) : res_main_v96 V (ix3 0 t n) = ((A.score t n : ℝ) : EReal) := by
  unfold res_main_v96
  clean_types
  pointwise
  simp only [h.v23, h.v68, h.v89, h.nr, dot_coe, ← EReal.coe_mul, ← EReal.coe_add]
  rfl

end Cert.Proof.Ref

end
-- ==== Proof.RefSort.lean ====
/- The greatest entries of each row of an array, by their positions, and rows of a table taken by position. -/
module

public import Idealize.ShloMosaic.Lib.Pointwise
public import Idealize.ShloMosaic.Lib.SortFacts
public import proofs.«01_k».proof.Proof.TopSel

@[expose] public section

noncomputable section

namespace Cert.Proof

open Idealize.ShloMosaic

variable {n N K : ℕ}

/-- The positions of a row from the greatest entry to the least, equal entries in the order of their positions. -/
def order (f : Fin N → EReal) : Fin N → Fin N :=
  sortedFrom fun k k' => FloatOps.cmpfTotal (F := Ideal) (φ := .f32) .gt (f k) (f k') == 1#1

theorem order_bijective (f : Fin N → EReal) : Function.Bijective (order f) := ⟨sortedFrom_injective _, sortedFrom_surjective _⟩

/-- The comparison of two entries. -/
theorem before_iff (a b : EReal) : (FloatOps.cmpfTotal (F := Ideal) (φ := .f32) .gt a b == 1#1) = decide (b < a) := by
  rw [Ideal.cmpfTotal_def]
  show (BitVec.ofBool (decide (b < a)) == 1#1) = _
  by_cases h : b < a <;> simp [h]

/-- Along these positions the entries never increase. -/
theorem order_antitone (s : Fin N → ℝ) : Antitone (s ∘ order fun j => ((s j : ℝ) : EReal)) := by
  intro i j hij
  rcases hij.lt_or_eq with hlt | rfl
  · have h := sortedFrom_noInversion (fun k k' => decide (s k' < s k))
      (fun k k' => FloatOps.cmpfTotal (F := Ideal) (φ := .f32) .gt ((s k : ℝ) : EReal) ((s k' : ℝ) : EReal) == 1#1)
      (fun a b h => by rw [before_iff] at h; simp at h ⊢; exact h.le)
      (fun a b h => by rw [before_iff]; simp at h ⊢; exact h)
      (fun a b c h1 h2 => by simp at h1 h2 ⊢; exact h1.trans h2) i j hlt
    simp only [decide_eq_false_iff_not, not_lt] at h
    exact h
  · exact le_rfl

/-- An index of the first entries of the rows, read in the whole array. -/
theorem slice_ix (h : (⟨3, ![1, n, N]⟩ : Shape).Slices (fun _ => 0) (⟨3, ![1, n, K]⟩ : Shape)) (hK : K ≤ N) (t : Fin n) (k : Fin K) (a : Fin N) :
    Shape.Idx.along (s := (⟨3, ![1, n, N]⟩ : Shape)) (ix3 0 t ⟨k.val, by omega⟩) 2 a = ix3 0 t a := by
  funext b
  match b with
  | ⟨0, _⟩ => rfl
  | ⟨1, _⟩ => rfl
  | ⟨2, _⟩ => rfl

/-- The greatest entries of a row. -/
theorem topK_values (x : FVec Ideal (⟨3, ![1, n, N]⟩ : Shape) .f32) (h : (⟨3, ![1, n, N]⟩ : Shape).Slices (fun _ => 0) (⟨3, ![1, n, K]⟩ : Shape))
    (hK : K ≤ N) (t : Fin n) (k : Fin K) :
    (Host.topK (⟨3, ![1, n, K]⟩ : Shape) 2 (FloatOps.cmpfTotal .gt) x h).1 (ix3 0 t k)
      = x (ix3 0 t (order (fun j => x (ix3 0 t j)) ⟨k.val, by omega⟩)) := by
  have hI : (extractStridedSlice (⟨3, ![1, n, K]⟩ : Shape) (fun _ => 0) (fun i : (⟨3, ![1, n, N]⟩ : Shape).Idx => i) h) (ix3 0 t k)
      = ix3 0 t ⟨k.val, by omega⟩ := by
    funext b
    match b with
    | ⟨0, _⟩ => exact Fin.ext (Nat.zero_add _)
    | ⟨1, _⟩ => exact Fin.ext (Nat.zero_add _)
    | ⟨2, _⟩ => exact Fin.ext (Nat.zero_add _)
  show (Host.sort2 (⟨3, ![1, n, N]⟩ : Shape) 2 (fun l r => FloatOps.cmpfTotal .gt l.1 r.1) x (iotaInDim _ 32 2)).1
    ((extractStridedSlice (⟨3, ![1, n, K]⟩ : Shape) (fun _ => 0) (fun i : (⟨3, ![1, n, N]⟩ : Shape).Idx => i) h) (ix3 0 t k)) = _
  rw [hI]
  refine (congrArg x (slice_ix h hK t k _)).trans ?_
  refine congrArg (fun R : Fin N → Fin N → Bool => x (ix3 0 t (sortedFrom R ⟨k.val, by omega⟩))) (funext fun a => funext fun b => ?_)
  exact congrArg₂ (fun p q => FloatOps.cmpfTotal (F := Ideal) (φ := .f32) .gt (x p) (x q) == 1#1) (slice_ix h hK t k a) (slice_ix h hK t k b)

/-- Their positions. -/
theorem topK_indices (x : FVec Ideal (⟨3, ![1, n, N]⟩ : Shape) .f32) (h : (⟨3, ![1, n, N]⟩ : Shape).Slices (fun _ => 0) (⟨3, ![1, n, K]⟩ : Shape))
    (hK : K ≤ N) (t : Fin n) (k : Fin K) :
    (Host.topK (⟨3, ![1, n, K]⟩ : Shape) 2 (FloatOps.cmpfTotal .gt) x h).2 (ix3 0 t k)
      = BitVec.ofNat 32 (order (fun j => x (ix3 0 t j)) ⟨k.val, by omega⟩).val := by
  have hI : (extractStridedSlice (⟨3, ![1, n, K]⟩ : Shape) (fun _ => 0) (fun i : (⟨3, ![1, n, N]⟩ : Shape).Idx => i) h) (ix3 0 t k)
      = ix3 0 t ⟨k.val, by omega⟩ := by
    funext b
    match b with
    | ⟨0, _⟩ => exact Fin.ext (Nat.zero_add _)
    | ⟨1, _⟩ => exact Fin.ext (Nat.zero_add _)
    | ⟨2, _⟩ => exact Fin.ext (Nat.zero_add _)
  show (Host.sort2 (⟨3, ![1, n, N]⟩ : Shape) 2 (fun l r => FloatOps.cmpfTotal .gt l.1 r.1) x (iotaInDim _ 32 2)).2
    ((extractStridedSlice (⟨3, ![1, n, K]⟩ : Shape) (fun _ => 0) (fun i : (⟨3, ![1, n, N]⟩ : Shape).Idx => i) h) (ix3 0 t k)) = _
  rw [hI]
  refine (congrArg (iotaInDim (⟨3, ![1, n, N]⟩ : Shape) 32 2) (slice_ix h hK t k _)).trans ?_
  refine congrArg (fun R : Fin N → Fin N → Bool => BitVec.ofNat 32 (sortedFrom R ⟨k.val, by omega⟩).val) (funext fun a => funext fun b => ?_)
  exact congrArg₂ (fun p q => FloatOps.cmpfTotal (F := Ideal) (φ := .f32) .gt (x p) (x q) == 1#1) (slice_ix h hK t k a) (slice_ix h hK t k b)

end Cert.Proof

end
-- ==== Proof.RefTake.lean ====
/- Rows of a table taken by position. -/
module

public import Idealize.ShloMosaic.Lib.Pointwise
public import Idealize.ShloMosaic.Lib.Routing.Ops
public import Idealize.ShloMosaic.Lib.WordCmp

@[expose] public section

noncomputable section

namespace Cert.Proof

open Idealize.ShloMosaic

/-- The dimensions of a gather that takes, for each token and each of its places, one row of a table. -/
abbrev takeDims (nb B n K : ℕ) (wf : GatherDims.WF (⟨2, ![nb, B]⟩ : Shape) (⟨4, ![1, n, K, 1]⟩ : Shape) (⟨4, ![1, n, K, B]⟩ : Shape) [3] [0] [] [0] [] 3 ![1, B]) :
    GatherDims (⟨2, ![nb, B]⟩ : Shape) (⟨4, ![1, n, K, 1]⟩ : Shape) (⟨4, ![1, n, K, B]⟩ : Shape) where
  offsetDims := [3]
  collapsedSliceDims := [0]
  operandBatchingDims := []
  startIndicesBatchingDims := []
  startIndexMap := [0]
  indexVectorDim := 3
  sliceSizes := ![1, B]
  wf := wf

/-- Such a gather at an index: the entry of the row that the index word names. -/
theorem take_row {α : Type} {nb B n K : ℕ} (wf) (x : (⟨2, ![nb, B]⟩ : Shape).Idx → α) (idx : IVec (⟨4, ![1, n, K, 1]⟩ : Shape) 32)
    (t : Fin n) (k : Fin K) (y : Fin B) (b : Fin nb) (hb : idx (ix4 0 t k 0) = BitVec.ofNat 32 b.val) (hnb : nb < 2 ^ 31) :
    Host.gather (takeDims nb B n K wf) x idx (ix4 0 t k y) = x (ix2 b y) := by
  unfold Host.gather
  refine congrArg x (funext fun a => Fin.ext ?_)
  match a with
  | ⟨0, _⟩ =>
    have hsi : (takeDims nb B n K wf).siIdx (ix4 0 t k y) ⟨0, Nat.one_pos⟩ = ix4 0 t k 0 := by
      funext b'
      match b' with
      | ⟨0, _⟩ => rfl
      | ⟨1, _⟩ => rfl
      | ⟨2, _⟩ => rfl
      | ⟨3, _⟩ => rfl
    show min ((idx ((takeDims nb B n K wf).siIdx (ix4 0 t k y) ⟨0, Nat.one_pos⟩)).toInt.toNat) (nb - 1) + 0 + 0 = b.val
    have hbl := b.isLt
    rw [hsi, hb, StableHlo.Predicate.toInt_ofNat_small _ (by omega)]
    omega
  | ⟨1, _⟩ =>
    show 0 + 0 + y.val = y.val
    omega

/-- A position that is not negative stays as it is. -/
theorem place_word {b : ℕ} (hb : b < 2 ^ 31) (c : BitVec 32) :
    Scalar.select (IntOp.cmpi .slt (BitVec.ofNat 32 b) 0#32) c (BitVec.ofNat 32 b) = BitVec.ofNat 32 b := by
  rw [show IntOp.cmpi .slt (BitVec.ofNat 32 b) 0#32 = 0#1 from ?_]
  · rfl
  · rw [WordCmp.cmpi_slt_eq, StableHlo.Predicate.toInt_ofNat_small _ hb]
    simp only [BitVec.toInt_zero, decide_eq_false (not_lt.mpr (Int.natCast_nonneg b))]
    rfl

/-- A position within the table passes the test of its bounds. -/
theorem mask_word (g : Fin 1 → BitVec 32) {b m : ℕ} (hg : ∀ i, g i = BitVec.ofNat 32 b) (hb : b ≤ m) (hm : m < 2 ^ 31) :
    Finset.fold IntOp.andi (1#1) (fun i => IntOp.andi (IntOp.cmpi .sge (g i) 0#32) (IntOp.cmpi .sle (g i) (BitVec.ofNat 32 m))) Finset.univ = 1#1 := by
  have e1 : IntOp.cmpi .sge (BitVec.ofNat 32 b) 0#32 = 1#1 := by
    rw [WordCmp.cmpi_sge_eq, StableHlo.Predicate.toInt_ofNat_small b (by omega)]
    simp only [BitVec.toInt_zero, decide_eq_true (Int.natCast_nonneg b)]
    rfl
  have e2 : IntOp.cmpi .sle (BitVec.ofNat 32 b) (BitVec.ofNat 32 m) = 1#1 := by
    rw [WordCmp.cmpi_sle_eq, StableHlo.Predicate.toInt_ofNat_small b (by omega), StableHlo.Predicate.toInt_ofNat_small _ hm]
    simp only [decide_eq_true (Int.ofNat_le.mpr hb)]
    rfl
  simp only [hg, e1, e2]
  rfl

end Cert.Proof

end
-- ==== Proof.RefRout.lean ====
/- The reference's selection of neurons and its routed rows. -/
module

public import proofs.«01_k».proof.Proof.RefScore
public import proofs.«01_k».proof.Proof.RefSort
public import proofs.«01_k».proof.Proof.RefTake

@[expose] public section

set_option maxRecDepth 16384

noncomputable section

namespace Cert.Proof.Ref

open Idealize.ShloMosaic Idealize.ShloMosaic.TcCoe Cert.ReferenceIdeal Cert.ReferenceIdeal.Gen Cert.ReferenceIdeal.Value

variable {V : Valuation τ sig (Elt Ideal)} {A : Args}

/-- The sixteen neurons of a token: the first of its neurons from the greatest score to the least. -/
def sel (A : Args) (t : Fin 2048) (k : Fin 16) : Fin 8192 := order (fun n => ((A.score t n : ℝ) : EReal)) ⟨k.val, by omega⟩

/-- The scores of a token as a row. -/
theorem Holds.row (h : Holds V A) (t : Fin 2048) : (fun n => res_main_v96 V (ix3 0 t n)) = fun n => ((A.score t n : ℝ) : EReal) :=
  funext fun n => h.v96 t n

/-- The selected scores. -/
theorem Holds.values (h : Holds V A) (t : Fin 2048) (k : Fin 16) : res_main_values V (ix3 0 t k) = ((A.score t (sel A t k) : ℝ) : EReal) := by
  unfold res_main_values
  refine (topK_values (res_main_v96 V) _ (by norm_num) t k).trans ?_
  rw [h.row, h.v96]
  rfl

/-- The selected positions. -/
theorem Holds.indices (h : Holds V A) (t : Fin 2048) (k : Fin 16) : res_main_indices V (ix3 0 t k) = BitVec.ofNat 32 (sel A t k).val := by
  unfold res_main_indices
  refine (topK_indices (res_main_v96 V) _ (by norm_num) t k).trans ?_
  rw [h.row]
  rfl

/-- The exponential of a shifted selected score. -/
theorem Holds.v103 (h : Holds V A) (t : Fin 2048) : ∃ M : ℝ, ∀ k,
    res_main_v103 V (ix3 0 t k) = ((Real.exp (A.score t (sel A t k) - M) : ℝ) : EReal) := by
  obtain ⟨M, hM⟩ := fold_max_real fun k : Fin 16 => A.score t (sel A t k)
  refine ⟨M, fun k => ?_⟩
  unfold res_main_v103
  clean_types
  pointwise
  simp only [h.values, bits_bot, hM]
  rw [max_eq_right bot_le, ← EReal.coe_sub, Ideal.exp_coe]

/-- The weight of a selected neuron. -/
theorem Holds.v107 (h : Holds V A) (t : Fin 2048) (k : Fin 16) :
    res_main_v107 V (ix3 0 t k) = ((Real.exp (A.score t (sel A t k)) / ∑ j, Real.exp (A.score t (sel A t j)) : ℝ) : EReal) := by
  obtain ⟨M, hM⟩ := h.v103 t
  unfold res_main_v107
  clean_types
  pointwise
  simp only [hM, ← coe_sum]
  rw [div_coe_coe _ _ (sum_exp_pos _).ne', softmax_weight fun j => A.score t (sel A t j)]

/-- The position a row is taken from. -/
theorem Holds.place (h : Holds V A) (t : Fin 2048) (k : Fin 16) : res_main_call0_v5 V (ix4 0 t k 0) = BitVec.ofNat 32 (sel A t k).val := by
  unfold res_main_call0_v5
  clean_types
  pointwise
  simp only [h.indices]
  exact place_word (by have := (sel A t k).isLt; omega) _

/-- A row taken. -/
theorem Holds.v108 (h : Holds V A) (t : Fin 2048) (k : Fin 16) (d : Fin 768) : res_main_v108 V (ix4 0 t k d) = ((A.nr (sel A t k) d : ℝ) : EReal) := by
  have hp : ∀ i : Fin 1, res_main_call0_v5 V (ix4 0 t k i) = BitVec.ofNat 32 (sel A t k).val := fun i => by
    rw [Subsingleton.elim i 0]; exact h.place t k
  have hg : Host.gather gather_S8192x768_S1x2048x16x1_S1x2048x16x768_3_0_n_n_0_3_1768 (V (Proc.devRef .tc main_arg1)) (res_main_call0_v5 V) (ix4 0 t k d)
      = V (Proc.devRef .tc main_arg1) (ix2 (sel A t k) d) :=
    take_row _ (V (Proc.devRef .tc main_arg1)) (res_main_call0_v5 V) t k d (sel A t k) (h.place t k) (by norm_num)
  unfold res_main_v108
  clean_types
  pointwise
  rw [mask_word (fun i => res_main_call0_v5 V (ix4 0 t k i)) hp (Nat.le_of_lt_succ (sel A t k).isLt) (by norm_num), hg, h.nr]
  rfl

/-- The input row plus the routed row. -/
theorem Holds.v113 (h : Holds V A) (t : Fin 2048) (d : Fin 768) : res_main_v113 V (ix3 0 t d) = ((A.x t d + A.rout (sel A) t d : ℝ) : EReal) := by
  unfold res_main_v113
  clean_types
  pointwise
  simp only [h.x, h.v107, h.v108, ← EReal.coe_mul, ← coe_sum, ← EReal.coe_add]
  rw [sum_weights]
  rfl

end Cert.Proof.Ref

end
-- ==== Proof.RefFfn.lean ====
/- The reference's patterns and its feed-forward part. -/
module

public import proofs.«01_k».proof.Proof.RefRout

@[expose] public section

set_option maxRecDepth 16384

noncomputable section

namespace Cert.Proof.Ref

open Idealize.ShloMosaic Idealize.ShloMosaic.TcCoe Cert.ReferenceIdeal Cert.ReferenceIdeal.Gen Cert.ReferenceIdeal.Value

variable {V : Valuation τ sig (Elt Ideal)} {A : Args}

/-- The row that the feed-forward part starts from. -/
def mid (A : Args) (t : Fin 2048) (d : Fin 768) : ℝ := A.x t d + A.rout (sel A) t d

/-- The array of these rows. -/
theorem Holds.row113 (h : Holds V A) (t : Fin 2048) (d : Fin 768) : res_main_v113 V (ix3 0 t d) = ((mid A t d : ℝ) : EReal) := h.v113 t d

/-- Its mean. -/
theorem Holds.v117 (h : Holds V A) (t : Fin 2048) : res_main_v117 V (ix3 0 t 0) = ((mean (mid A t) : ℝ) : EReal) := by
  unfold res_main_v117
  clean_types
  pointwise
  simp only [h.row113, bits_768]
  exact mean_div (mid A t)

/-- A centred entry. -/
theorem Holds.v119 (h : Holds V A) (t : Fin 2048) (d : Fin 768) : res_main_v119 V (ix3 0 t d) = ((mid A t d - mean (mid A t) : ℝ) : EReal) := by
  unfold res_main_v119
  clean_types
  pointwise
  rw [h.row113, h.v117, ← EReal.coe_sub]

/-- A weighted sum of scaled products is the scaled product of the weighted sum. -/
theorem products (s : Fin 16 → ℝ) (tab : Fin 16 → Fin 768 → ℝ) (q : Fin 768 → ℝ) (Z c : ℝ) :
    ∑ k, (∑ d, q d * tab k d) / c * (s k / Z) = (∑ d, (∑ k, s k * tab k d) / Z * q d) * c⁻¹ := by
  simp only [Finset.sum_div, Finset.sum_mul]
  rw [Finset.sum_comm]
  exact Finset.sum_congr rfl fun d _ => Finset.sum_congr rfl fun k _ => by simp only [div_eq_mul_inv]; ring

/-- A pattern's score. -/
theorem Holds.v146 (h : Holds V A) (t : Fin 2048) (p : Fin 64) :
    res_main_v146 V (ix3 0 t p) = ((patScore A.pq (A.rout (sel A) t) p : ℝ) : EReal) := by
  unfold res_main_v146
  clean_types
  pointwise
  simp only [h.v107, h.v108, h.pq, bits_768]
  rw [sqrt_coe_nonneg _ (by norm_num : (0 : ℝ) ≤ 768)]
  simp only [← EReal.coe_mul, ← coe_sum]
  have hc : Real.sqrt 768 ≠ 0 := (Real.sqrt_pos.mpr (by norm_num)).ne'
  simp only [div_coe_coe _ _ hc, ← EReal.coe_mul, ← coe_sum]
  rw [products]
  rfl

/-- The eight patterns of a token. -/
def selP (A : Args) (t : Fin 2048) (k : Fin 8) : Fin 64 := order (fun p => ((patScore A.pq (A.rout (sel A) t) p : ℝ) : EReal)) ⟨k.val, by omega⟩

/-- The pattern scores of a token as a row. -/
theorem Holds.patRow (h : Holds V A) (t : Fin 2048) :
    (fun p => res_main_v146 V (ix3 0 t p)) = fun p => ((patScore A.pq (A.rout (sel A) t) p : ℝ) : EReal) :=
  funext fun p => h.v146 t p

/-- The selected pattern scores. -/
theorem Holds.values22 (h : Holds V A) (t : Fin 2048) (k : Fin 8) :
    res_main_values_22 V (ix3 0 t k) = ((patScore A.pq (A.rout (sel A) t) (selP A t k) : ℝ) : EReal) := by
  unfold res_main_values_22
  refine (topK_values (res_main_v146 V) _ (by norm_num) t k).trans ?_
  rw [h.patRow, h.v146]
  rfl

/-- The selected patterns' positions. -/
theorem Holds.indices23 (h : Holds V A) (t : Fin 2048) (k : Fin 8) : res_main_indices_23 V (ix3 0 t k) = BitVec.ofNat 32 (selP A t k).val := by
  unfold res_main_indices_23
  refine (topK_indices (res_main_v146 V) _ (by norm_num) t k).trans ?_
  rw [h.patRow]
  rfl

/-- The exponential of a shifted selected pattern score. -/
theorem Holds.v153 (h : Holds V A) (t : Fin 2048) : ∃ M : ℝ, ∀ k,
    res_main_v153 V (ix3 0 t k) = ((Real.exp (patScore A.pq (A.rout (sel A) t) (selP A t k) - M) : ℝ) : EReal) := by
  obtain ⟨M, hM⟩ := fold_max_real fun k : Fin 8 => patScore A.pq (A.rout (sel A) t) (selP A t k)
  refine ⟨M, fun k => ?_⟩
  have f : Host.reduce FloatOps.maximumf (res_main_values_22 V) (constant S_ .f32 0xFF800000#32) reducesTo_S1x2048x8_S1x2048_d2 h_S_ (ix2 0 t) = (M : EReal) := by
    refine (rowMax3 (res_main_values_22 V) _ _ _ 0 t).trans ?_
    rw [show (fun k => res_main_values_22 V (ix3 0 t k)) = fun k : Fin 8 => ((patScore A.pq (A.rout (sel A) t) (selP A t k) : ℝ) : EReal) from
      funext fun k => h.values22 t k, bits_bot, hM]
  rw [show res_main_v153 V = shifted8 (res_main_values_22 V) (Host.reduce FloatOps.maximumf (res_main_values_22 V) (constant S_ .f32 0xFF800000#32) reducesTo_S1x2048x8_S1x2048_d2 h_S_) from rfl,
    shifted8_apply, f, bits_bot, h.values22, max_eq_right bot_le, ← EReal.coe_sub, Ideal.exp_coe]

/-- The position a gate row is taken from. -/
theorem Holds.place1 (h : Holds V A) (t : Fin 2048) (k : Fin 8) : res_main_call1_v5 V (ix4 0 t k 0) = BitVec.ofNat 32 (selP A t k).val := by
  unfold res_main_call1_v5
  clean_types
  pointwise
  simp only [h.indices23]
  exact place_word (by have := (selP A t k).isLt; omega) _

/-- A gate row taken. -/
theorem Holds.gate (h : Holds V A) (t : Fin 2048) (k : Fin 8) (f : Fin 3072) (z : EReal) :
    Scalar.select (Finset.fold IntOp.andi (1#1)
        (fun i : Fin 1 => IntOp.andi (IntOp.cmpi .sge (res_main_call1_v5 V (ix4 0 t k i)) 0#32) (IntOp.cmpi .sle (res_main_call1_v5 V (ix4 0 t k i)) 63#32))
        Finset.univ)
      (Host.gather gather_S64x3072_S1x2048x8x1_S1x2048x8x3072_3_0_n_n_0_3_13072 (V (Proc.devRef .tc main_arg11)) (res_main_call1_v5 V) (ix4 0 t k f)) z
      = ((A.gates (selP A t k) f : ℝ) : EReal) := by
  have hp : ∀ i : Fin 1, res_main_call1_v5 V (ix4 0 t k i) = BitVec.ofNat 32 (selP A t k).val := fun i => by
    rw [Subsingleton.elim i 0]; exact h.place1 t k
  have hg : Host.gather gather_S64x3072_S1x2048x8x1_S1x2048x8x3072_3_0_n_n_0_3_13072 (V (Proc.devRef .tc main_arg11)) (res_main_call1_v5 V) (ix4 0 t k f)
      = V (Proc.devRef .tc main_arg11) (ix2 (selP A t k) f) :=
    take_row _ (V (Proc.devRef .tc main_arg11)) (res_main_call1_v5 V) t k f (selP A t k) (h.place1 t k) (by norm_num)
  rw [mask_word (fun i => res_main_call1_v5 V (ix4 0 t k i)) hp (Nat.le_of_lt_succ (selP A t k).isLt) (by norm_num), hg, h.gates]
  rfl

/-- A hidden value. -/
theorem Holds.v174 (h : Holds V A) (t : Fin 2048) (f : Fin 3072) : res_main_v174 V (ix3 0 t f)
    = ((hidden A.Wu A.bu (lnorm A.g2 A.b2 (mid A t)) (pick (patScore A.pq (A.rout (sel A) t)) (selP A t) A.gates) f : ℝ) : EReal) := by
  obtain ⟨M, hM⟩ := h.v153 t
  have hv (X : Fin 768 → ℝ) : Ideal.div (∑ d, (((X d - mean X) * (X d - mean X) : ℝ) : EReal)) ((768 : ℝ) : EReal) = ((variance X : ℝ) : EReal) :=
    mean_div fun d => (X d - mean X) * (X d - mean X)
  unfold res_main_v174
  clean_types
  pointwise
  simp only [h.gate, hM, h.row113, h.v117, h.v119, h.g2, h.b2, h.Wu, h.bu, bits_768, bits_eps, ← EReal.coe_mul, hv, lnorm_coe]
  simp only [← coe_sum]
  simp only [div_coe_coe _ _ (sum_exp_pos _).ne', ← EReal.coe_mul, ← coe_sum]
  rw [(sum_weights (fun k => Real.exp (patScore A.pq (A.rout (sel A) t) (selP A t k) - M)) (fun k => A.gates (selP A t k) f) _).trans
    (softmax_shift (fun k => patScore A.pq (A.rout (sel A) t) (selP A t k)) (fun k => A.gates (selP A t k) f) M),
    ← EReal.coe_one, ← EReal.coe_neg, Ideal.exp_coe, ← EReal.coe_add, ← EReal.coe_add, div_coe_coe _ _ (by positivity), ← EReal.coe_mul]
  rfl

/-- The Gaussian error unit from the complementary error function. -/
theorem gelu_coe (x : ℝ) : ((1 / 2 : ℝ) : EReal) * (x : EReal) * Ideal.erfc (-(x : EReal) * (rsqrt2 : EReal)) = ((gelu x : ℝ) : EReal) := by
  rw [neg_mul, Ideal.erfc_neg, ← EReal.coe_mul, ← EReal.coe_mul, ← EReal.coe_one]
  refine (congrArg (fun z => ((1 / 2 * x : ℝ) : EReal) * (((1 : ℝ) : EReal) + z)) (Ideal.erf_coe (x * rsqrt2))).trans ?_
  rw [← EReal.coe_add, ← EReal.coe_mul]
  rfl

/-- The first result. -/
def result (V : Valuation τ sig (Elt Ideal)) : FVec Ideal S1x2048x768 .f32 :=
  addf (res_main_v113 V) (addf (Host.dotGeneral (φ₂ := .f32) dot_S1x2048x3072_S3072x768_S1x2048x768_2_0_01_1_n_n none (mulf (mulf (broadcastInDim S1x2048x3072 ![] bcast_S_S1x2048x3072 (constant S_ .f32 0x3F000000#32)) (res_main_v174 V)) (Host.erfc (mulf (Host.negf (res_main_v174 V)) (broadcastInDim S1x2048x3072 ![] bcast_S_S1x2048x3072 (constant S_ .f32 0x3F3504F3#32))))) (transpose S3072x768 [1, 0] (V (Proc.devRef .tc main_arg14) : FVec Ideal S768x3072 .f32) transposes_S768x3072_S3072x768_1_0)) (broadcastInDim S1x2048x768 ![0, 1, 2] bcast_S1x1x768_S1x2048x768_0_1_2 (broadcastInDim S1x1x768 ![2] bcast_S768_S1x1x768_2 (V (Proc.devRef .tc main_arg15)))))

/-- The first result at an index. -/
theorem Holds.result (h : Holds V A) (t : Fin 2048) (d : Fin 768) :
    Ref.result V (ix3 0 t d) = ((ffn A (A.x t) (A.rout (sel A) t) (selP A t) d : ℝ) : EReal) := by
  unfold Ref.result
  clean_types
  pointwise
  simp only [h.v174, h.row113, h.Wd, h.bd, bits_half, bits_rsqrt2, gelu_coe, dot_coe, ← EReal.coe_add]
  exact congrArg _ (add_assoc _ _ _).symm

end Cert.Proof.Ref

end
-- ==== Proof.PreStated.lean ====
/- The order of the scores that the precondition states. -/
module

public import proofs.«01_k».proof.Proof.RefFfn
public import proofs.«01_k».proof.Proof.TopSel
public import proofs.«01_k».proof.Proof.Gen.Pre_finite_and_untied

@[expose] public section

set_option maxRecDepth 16384

noncomputable section

namespace Cert.Proof.Ref

open Idealize.ShloMosaic Idealize.ShloMosaic.TcCoe Cert.ReferenceIdeal Cert.ReferenceIdeal.Gen Cert.ReferenceIdeal.Value

variable {V : Valuation τ sig (Elt Ideal)} {A : Args}

/-- The seventeen greatest scores of every token. -/
def top17 (V : Valuation τ sig (Elt Ideal)) : FVec Ideal (⟨3, ![1, 2048, 17]⟩ : Shape) .f32 :=
  (Host.topK (⟨3, ![1, 2048, 17]⟩ : Shape) 2 (FloatOps.cmpfTotal .gt) (res_main_v96 V) Cert.Pre_finite_and_untied.Gen.sliceFits_S1x2048x8192_S1x2048x17).1

/-- The routed rows. -/
def routed (V : Valuation τ sig (Elt Ideal)) : FVec Ideal S1x2048x768 .f32 :=
  Host.reduceAdd (mulf (broadcastInDim S1x2048x16x768 ![0, 1, 2, 3] bcast_S1x2048x16x1_S1x2048x16x768_0_1_2_3 (broadcastInDim S1x2048x16x1 ![0, 1, 2] bcast_S1x2048x16_S1x2048x16x1_0_1_2 (res_main_v107 V))) (res_main_v108 V)) (constant S_ .f32 0x00000000#32) reducesTo_S1x2048x16x768_S1x2048x768_d2 h_S_

/-- The routed rows' products with the patterns' queries. -/
def matched (V : Valuation τ sig (Elt Ideal)) : FVec Ideal (⟨3, ![1, 2048, 64]⟩ : Shape) .f32 :=
  Host.dotGeneral (φ₂ := .f32) Cert.Pre_finite_and_untied.dot_S1x2048x768_S768x64_S1x2048x64_2_0_01_1_n_n none (routed V)
    (transpose (⟨2, ![768, 64]⟩ : Shape) [1, 0] (V (Proc.devRef .tc main_arg10) : FVec Ideal (⟨2, ![64, 768]⟩ : Shape) .f32) Cert.Pre_finite_and_untied.Gen.transposes_S64x768_S768x64_1_0)

/-- The nine greatest of these products. -/
def top9 (V : Valuation τ sig (Elt Ideal)) : FVec Ideal (⟨3, ![1, 2048, 9]⟩ : Shape) .f32 :=
  (Host.topK (⟨3, ![1, 2048, 9]⟩ : Shape) 2 (FloatOps.cmpfTotal .gt) (matched V) Cert.Pre_finite_and_untied.Gen.sliceFits_S1x2048x64_S1x2048x9).1

/-- What the precondition computes from the reference's arguments. -/
abbrev stated (V : Valuation τ sig (Elt Ideal)) :=
  Cert.Pre_finite_and_untied.fn (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19))

/-- Its first array compares neighbouring scores. -/
theorem stated_first (V : Valuation τ sig (Elt Ideal)) : (stated V).1 =
    cmpf .ogt (extractStridedSlice (⟨3, ![1, 2048, 16]⟩ : Shape) ![0, 0, 0] (top17 V) Cert.Pre_finite_and_untied.Gen.slices_S1x2048x17_S1x2048x16_0_0_0)
      (extractStridedSlice (⟨3, ![1, 2048, 16]⟩ : Shape) ![0, 0, 1] (top17 V) Cert.Pre_finite_and_untied.Gen.slices_S1x2048x17_S1x2048x16_0_0_1) := rfl

/-- Its second array compares neighbouring products. -/
theorem stated_second (V : Valuation τ sig (Elt Ideal)) : (stated V).2.1 =
    cmpf .ogt (extractStridedSlice (⟨3, ![1, 2048, 8]⟩ : Shape) ![0, 0, 0] (top9 V) Cert.Pre_finite_and_untied.Gen.slices_S1x2048x9_S1x2048x8_0_0_0)
      (extractStridedSlice (⟨3, ![1, 2048, 8]⟩ : Shape) ![0, 0, 1] (top9 V) Cert.Pre_finite_and_untied.Gen.slices_S1x2048x9_S1x2048x8_0_0_1) := rfl

end Cert.Proof.Ref

end
-- ==== Proof.PreTies.lean ====
/- The scores are untied where the precondition says so. -/
module

public import proofs.«01_k».proof.Proof.TopSel
public import proofs.«01_k».proof.Proof.PreStated

@[expose] public section

set_option maxRecDepth 16384

noncomputable section

namespace Cert.Proof.Ref

open Idealize.ShloMosaic Idealize.ShloMosaic.TcCoe Cert.ReferenceIdeal Cert.ReferenceIdeal.Gen Cert.ReferenceIdeal.Value

variable {V : Valuation τ sig (Elt Ideal)} {A : Args}

/-- A comparison of extended reals that holds. -/
theorem gt_of_one {a b : EReal} (h : FloatOps.cmpf (F := Ideal) (φ := .f32) .ogt a b = 1#1) : b < a := by
  have h' : BitVec.ofBool (decide (b < a)) = 1#1 := h
  by_contra hn
  simp [hn] at h'

/-- Neighbouring scores of a token differ along its first seventeen. -/
theorem Holds.score_lt (h : Holds V A) (hp : ∀ i, (stated V).1 i = 1#1) (t : Fin 2048) (k : ℕ) (hk : k < 16) :
    A.score t (order (fun n => ((A.score t n : ℝ) : EReal)) ⟨k + 1, by omega⟩) < A.score t (order (fun n => ((A.score t n : ℝ) : EReal)) ⟨k, by omega⟩) := by
  have hv : ∀ j : Fin 17, top17 V (ix3 0 t j) = ((A.score t (order (fun n => ((A.score t n : ℝ) : EReal)) ⟨j.val, by omega⟩) : ℝ) : EReal) := fun j => by
    refine (topK_values (res_main_v96 V) _ (by norm_num) t j).trans ?_
    rw [h.row, h.v96]
  have h1 := hp (ix3 0 t ⟨k, hk⟩)
  rw [stated_first] at h1
  have h2 := gt_of_one h1
  have e0 : extractStridedSlice (⟨3, ![1, 2048, 16]⟩ : Shape) ![0, 0, 0] (top17 V) Cert.Pre_finite_and_untied.Gen.slices_S1x2048x17_S1x2048x16_0_0_0 (ix3 0 t ⟨k, hk⟩)
      = top17 V (ix3 0 t ⟨k, by omega⟩) := by
    pointwise
  have e1 : extractStridedSlice (⟨3, ![1, 2048, 16]⟩ : Shape) ![0, 0, 1] (top17 V) Cert.Pre_finite_and_untied.Gen.slices_S1x2048x17_S1x2048x16_0_0_1 (ix3 0 t ⟨k, hk⟩)
      = top17 V (ix3 0 t ⟨k + 1, by omega⟩) := by
    pointwise
    simp only [Nat.add_comm 1 k]
  rw [e0, e1, hv, hv] at h2
  exact EReal.coe_lt_coe_iff.1 h2

/-- The selected neurons are the strict top sixteen. -/
theorem Holds.top (h : Holds V A) (hp : ∀ i, (stated V).1 i = 1#1) (t : Fin 2048) : Top (A.score t) (sel A t) :=
  Top.of_sorted (order fun n => ((A.score t n : ℝ) : EReal)) (order_bijective _).2 (order_antitone _) (by norm_num) (h.score_lt hp t)

/-- A routed entry. -/
theorem Holds.routed (h : Holds V A) (t : Fin 2048) (d : Fin 768) : Ref.routed V (ix3 0 t d) = ((A.rout (sel A) t d : ℝ) : EReal) := by
  unfold Ref.routed
  clean_types
  pointwise
  simp only [h.v107, h.v108, ← EReal.coe_mul, ← coe_sum]
  rw [sum_weights]
  rfl

/-- A routed row's product with a pattern's query. -/
theorem Holds.matched (h : Holds V A) (t : Fin 2048) (p : Fin 64) : Ref.matched V (ix3 0 t p) = ((dot (A.rout (sel A) t) (A.pq p) : ℝ) : EReal) := by
  unfold Ref.matched
  clean_types
  pointwise
  simp only [h.routed, h.pq, dot_coe]

/-- Neighbouring products of a token differ along its first nine. -/
theorem Holds.match_lt (h : Holds V A) (hp : ∀ i, (stated V).2.1 i = 1#1) (t : Fin 2048) (k : ℕ) (hk : k < 8) :
    dot (A.rout (sel A) t) (A.pq (order (fun p => ((dot (A.rout (sel A) t) (A.pq p) : ℝ) : EReal)) ⟨k + 1, by omega⟩))
      < dot (A.rout (sel A) t) (A.pq (order (fun p => ((dot (A.rout (sel A) t) (A.pq p) : ℝ) : EReal)) ⟨k, by omega⟩)) := by
  have hr : (fun p => Ref.matched V (ix3 0 t p)) = fun p => ((dot (A.rout (sel A) t) (A.pq p) : ℝ) : EReal) := funext fun p => h.matched t p
  have hv : ∀ j : Fin 9, top9 V (ix3 0 t j) = ((dot (A.rout (sel A) t) (A.pq (order (fun p => ((dot (A.rout (sel A) t) (A.pq p) : ℝ) : EReal)) ⟨j.val, by omega⟩)) : ℝ) : EReal) := fun j => by
    refine (topK_values (Ref.matched V) _ (by norm_num) t j).trans ?_
    rw [hr, h.matched]
  have h1 := hp (ix3 0 t ⟨k, hk⟩)
  rw [stated_second] at h1
  have h2 := gt_of_one h1
  have e0 : extractStridedSlice (⟨3, ![1, 2048, 8]⟩ : Shape) ![0, 0, 0] (top9 V) Cert.Pre_finite_and_untied.Gen.slices_S1x2048x9_S1x2048x8_0_0_0 (ix3 0 t ⟨k, hk⟩)
      = top9 V (ix3 0 t ⟨k, by omega⟩) := by
    pointwise
  have e1 : extractStridedSlice (⟨3, ![1, 2048, 8]⟩ : Shape) ![0, 0, 1] (top9 V) Cert.Pre_finite_and_untied.Gen.slices_S1x2048x9_S1x2048x8_0_0_1 (ix3 0 t ⟨k, hk⟩)
      = top9 V (ix3 0 t ⟨k + 1, by omega⟩) := by
    pointwise
    simp only [Nat.add_comm 1 k]
  rw [e0, e1, hv, hv] at h2
  exact EReal.coe_lt_coe_iff.1 h2

/-- The selected patterns are the strict top eight: the scale of their scores changes neither their order nor their ties. -/
theorem Holds.topP (h : Holds V A) (hp : ∀ i, (stated V).2.1 i = 1#1) (t : Fin 2048) : Top (patScore A.pq (A.rout (sel A) t)) (selP A t) := by
  have hc : (0 : ℝ) < (√768)⁻¹ := inv_pos.2 (Real.sqrt_pos.2 (by norm_num))
  have hs : ∀ p, patScore A.pq (A.rout (sel A) t) p = dot (A.rout (sel A) t) (A.pq p) * (√768)⁻¹ := fun _ => rfl
  have ha := order_antitone (patScore A.pq (A.rout (sel A) t))
  have ha' : Antitone ((fun p => dot (A.rout (sel A) t) (A.pq p)) ∘ order fun p => ((patScore A.pq (A.rout (sel A) t) p : ℝ) : EReal)) := fun i j hij =>
    le_of_mul_le_mul_right (ha hij) hc
  have hu := sorted_unique (order fun p => ((dot (A.rout (sel A) t) (A.pq p) : ℝ) : EReal)) (order fun p => ((patScore A.pq (A.rout (sel A) t) p : ℝ) : EReal))
    (order_bijective _).2 (order_bijective _).2 (order_bijective _).1 (order_bijective _).1 (order_antitone fun p => dot (A.rout (sel A) t) (A.pq p)) ha'
  refine Top.of_sorted (order fun p => ((patScore A.pq (A.rout (sel A) t) p : ℝ) : EReal)) (order_bijective _).2 ha (by norm_num) fun k hk => ?_
  have hl := h.match_lt hp t k hk
  have e1 := hu ⟨k + 1, by omega⟩
  have e0 := hu ⟨k, by omega⟩
  rw [hs, hs, ← e0, ← e1]
  exact mul_lt_mul_of_pos_right hl hc

end Cert.Proof.Ref

end
-- ==== Proof.PreReal.lean ====
/- The arguments are real where the precondition says so. -/
module

public import proofs.«01_k».proof.Proof.PreStated

@[expose] public section

set_option maxRecDepth 16384

noncomputable section

namespace Cert.Proof.Ref

open Idealize.ShloMosaic Idealize.ShloMosaic.TcCoe Cert.ReferenceIdeal Cert.ReferenceIdeal.Gen Cert.ReferenceIdeal.Value

variable {V : Valuation τ sig (Elt Ideal)} {A : Args}

/-- A comparison of extended reals that holds. -/
theorem lt_of_one {a b : EReal} (h : FloatOps.cmpf (F := Ideal) (φ := .f32) .olt a b = 1#1) : a < b := by
  have h' : BitVec.ofBool (decide (a < b)) = 1#1 := h
  by_contra hn
  simp [hn] at h'

/-- The comparison of an array's absolute values with infinity. -/
def fin {s : Shape} (a : FVec Ideal s .f32) : IVec s 1 := cmpf .olt (Host.absf a) (fun _ => Ideal.ofBits .f32 0x7F800000#32)

/-- Where it holds, the entry is a real. -/
theorem real_of_fin {s : Shape} (a : FVec Ideal s .f32) (i : s.Idx) (h : fin a i = 1#1) : a i = (((a i).toReal : ℝ) : EReal) := by
  have h1 : max (a i) (-(a i)) < Ideal.ofBits .f32 0x7F800000#32 := lt_of_one h
  rw [bits_top] at h1
  exact (coe_toReal_of_abs_lt h1).symm

/-- Two conditions hold where their conjunction does. -/
theorem both {s : Shape} {a b : IVec s 1} (h : ∀ i, andi a b i = 1#1) : (∀ i, a i = 1#1) ∧ ∀ i, b i = 1#1 := by
  have key : ∀ u v : BitVec 1, u &&& v = 1#1 → u = 1#1 ∧ v = 1#1 := by decide
  exact ⟨fun i => (key _ _ (h i)).1, fun i => (key _ _ (h i)).2⟩

/-- The conditions on the arguments' entries that the precondition states. -/
structure Stated (V : Valuation τ sig (Elt Ideal)) : Prop where
  first : (stated V).1 = fun _ => 1#1
  second : (stated V).2.1 = fun _ => 1#1
  x : (stated V).2.2.1 = fun _ => 1#1
  nr : (stated V).2.2.2.1 = fun _ => 1#1
  W : (stated V).2.2.2.2.1 = fun _ => 1#1
  b : (stated V).2.2.2.2.2.1 = fun _ => 1#1
  Wp : (stated V).2.2.2.2.2.2.1 = fun _ => 1#1
  bp : (stated V).2.2.2.2.2.2.2.1 = fun _ => 1#1
  pq : (stated V).2.2.2.2.2.2.2.2.1 = fun _ => 1#1
  gates : (stated V).2.2.2.2.2.2.2.2.2.1 = fun _ => 1#1
  Wu : (stated V).2.2.2.2.2.2.2.2.2.2.1 = fun _ => 1#1
  bu : (stated V).2.2.2.2.2.2.2.2.2.2.2.1 = fun _ => 1#1
  Wd : (stated V).2.2.2.2.2.2.2.2.2.2.2.2 = fun _ => 1#1

/-- The condition `x` of the precondition. -/
theorem stated_x (V : Valuation τ sig (Elt Ideal)) : (stated V).2.2.1 = fin (V (Proc.devRef .tc main_arg0) : FVec Ideal (⟨3, ![1, 2048, 768]⟩ : Shape) .f32) := rfl

/-- The condition `nr` of the precondition. -/
theorem stated_nr (V : Valuation τ sig (Elt Ideal)) : (stated V).2.2.2.1 = fin (V (Proc.devRef .tc main_arg1) : FVec Ideal (⟨2, ![8192, 768]⟩ : Shape) .f32) := rfl

/-- The condition `W` of the precondition. -/
theorem stated_W (V : Valuation τ sig (Elt Ideal)) : (stated V).2.2.2.2.1 = andi (andi (fin (V (Proc.devRef .tc main_arg2) : FVec Ideal (⟨2, ![768, 768]⟩ : Shape) .f32)) (fin (V (Proc.devRef .tc main_arg4) : FVec Ideal (⟨2, ![768, 768]⟩ : Shape) .f32))) (fin (V (Proc.devRef .tc main_arg6) : FVec Ideal (⟨2, ![768, 768]⟩ : Shape) .f32)) := rfl

/-- The condition `b` of the precondition. -/
theorem stated_b (V : Valuation τ sig (Elt Ideal)) : (stated V).2.2.2.2.2.1 = andi (andi (andi (andi (andi (andi (andi (fin (V (Proc.devRef .tc main_arg3) : FVec Ideal (⟨1, ![768]⟩ : Shape) .f32)) (fin (V (Proc.devRef .tc main_arg5) : FVec Ideal (⟨1, ![768]⟩ : Shape) .f32))) (fin (V (Proc.devRef .tc main_arg7) : FVec Ideal (⟨1, ![768]⟩ : Shape) .f32))) (fin (V (Proc.devRef .tc main_arg15) : FVec Ideal (⟨1, ![768]⟩ : Shape) .f32))) (fin (V (Proc.devRef .tc main_arg16) : FVec Ideal (⟨1, ![768]⟩ : Shape) .f32))) (fin (V (Proc.devRef .tc main_arg17) : FVec Ideal (⟨1, ![768]⟩ : Shape) .f32))) (fin (V (Proc.devRef .tc main_arg18) : FVec Ideal (⟨1, ![768]⟩ : Shape) .f32))) (fin (V (Proc.devRef .tc main_arg19) : FVec Ideal (⟨1, ![768]⟩ : Shape) .f32)) := rfl

/-- The condition `Wp` of the precondition. -/
theorem stated_Wp (V : Valuation τ sig (Elt Ideal)) : (stated V).2.2.2.2.2.2.1 = fin (V (Proc.devRef .tc main_arg8) : FVec Ideal (⟨2, ![2, 1536]⟩ : Shape) .f32) := rfl

/-- The condition `bp` of the precondition. -/
theorem stated_bp (V : Valuation τ sig (Elt Ideal)) : (stated V).2.2.2.2.2.2.2.1 = fin (V (Proc.devRef .tc main_arg9) : FVec Ideal (⟨1, ![2]⟩ : Shape) .f32) := rfl

/-- The condition `pq` of the precondition. -/
theorem stated_pq (V : Valuation τ sig (Elt Ideal)) : (stated V).2.2.2.2.2.2.2.2.1 = fin (V (Proc.devRef .tc main_arg10) : FVec Ideal (⟨2, ![64, 768]⟩ : Shape) .f32) := rfl

/-- The condition `gates` of the precondition. -/
theorem stated_gates (V : Valuation τ sig (Elt Ideal)) : (stated V).2.2.2.2.2.2.2.2.2.1 = fin (V (Proc.devRef .tc main_arg11) : FVec Ideal (⟨2, ![64, 3072]⟩ : Shape) .f32) := rfl

/-- The condition `Wu` of the precondition. -/
theorem stated_Wu (V : Valuation τ sig (Elt Ideal)) : (stated V).2.2.2.2.2.2.2.2.2.2.1 = fin (V (Proc.devRef .tc main_arg12) : FVec Ideal (⟨2, ![3072, 768]⟩ : Shape) .f32) := rfl

/-- The condition `bu` of the precondition. -/
theorem stated_bu (V : Valuation τ sig (Elt Ideal)) : (stated V).2.2.2.2.2.2.2.2.2.2.2.1 = fin (V (Proc.devRef .tc main_arg13) : FVec Ideal (⟨1, ![3072]⟩ : Shape) .f32) := rfl

/-- The condition `Wd` of the precondition. -/
theorem stated_Wd (V : Valuation τ sig (Elt Ideal)) : (stated V).2.2.2.2.2.2.2.2.2.2.2.2 = fin (V (Proc.devRef .tc main_arg14) : FVec Ideal (⟨2, ![768, 3072]⟩ : Shape) .f32) := rfl

/-- The real numbers in the arguments. -/
def reals (V : Valuation τ sig (Elt Ideal)) : Args where
  x := fun t d => EReal.toReal ((V (Proc.devRef .tc main_arg0) : FVec Ideal (⟨3, ![1, 2048, 768]⟩ : Shape) .f32) (ix3 0 t d))
  nr := fun e d => EReal.toReal ((V (Proc.devRef .tc main_arg1) : FVec Ideal (⟨2, ![8192, 768]⟩ : Shape) .f32) (ix2 e d))
  Wq := fun e d => EReal.toReal ((V (Proc.devRef .tc main_arg2) : FVec Ideal (⟨2, ![768, 768]⟩ : Shape) .f32) (ix2 e d))
  bq := fun e => EReal.toReal ((V (Proc.devRef .tc main_arg3) : FVec Ideal (⟨1, ![768]⟩ : Shape) .f32) (ix1 e))
  Wk := fun e d => EReal.toReal ((V (Proc.devRef .tc main_arg4) : FVec Ideal (⟨2, ![768, 768]⟩ : Shape) .f32) (ix2 e d))
  bk := fun e => EReal.toReal ((V (Proc.devRef .tc main_arg5) : FVec Ideal (⟨1, ![768]⟩ : Shape) .f32) (ix1 e))
  Wv := fun e d => EReal.toReal ((V (Proc.devRef .tc main_arg6) : FVec Ideal (⟨2, ![768, 768]⟩ : Shape) .f32) (ix2 e d))
  bv := fun e => EReal.toReal ((V (Proc.devRef .tc main_arg7) : FVec Ideal (⟨1, ![768]⟩ : Shape) .f32) (ix1 e))
  Wp := fun e d => EReal.toReal ((V (Proc.devRef .tc main_arg8) : FVec Ideal (⟨2, ![2, 1536]⟩ : Shape) .f32) (ix2 e d))
  bp := fun e => EReal.toReal ((V (Proc.devRef .tc main_arg9) : FVec Ideal (⟨1, ![2]⟩ : Shape) .f32) (ix1 e))
  pq := fun e d => EReal.toReal ((V (Proc.devRef .tc main_arg10) : FVec Ideal (⟨2, ![64, 768]⟩ : Shape) .f32) (ix2 e d))
  gates := fun e d => EReal.toReal ((V (Proc.devRef .tc main_arg11) : FVec Ideal (⟨2, ![64, 3072]⟩ : Shape) .f32) (ix2 e d))
  Wu := fun e d => EReal.toReal ((V (Proc.devRef .tc main_arg12) : FVec Ideal (⟨2, ![3072, 768]⟩ : Shape) .f32) (ix2 e d))
  bu := fun e => EReal.toReal ((V (Proc.devRef .tc main_arg13) : FVec Ideal (⟨1, ![3072]⟩ : Shape) .f32) (ix1 e))
  Wd := fun e d => EReal.toReal ((V (Proc.devRef .tc main_arg14) : FVec Ideal (⟨2, ![768, 3072]⟩ : Shape) .f32) (ix2 e d))
  bd := fun e => EReal.toReal ((V (Proc.devRef .tc main_arg15) : FVec Ideal (⟨1, ![768]⟩ : Shape) .f32) (ix1 e))
  g1 := fun e => EReal.toReal ((V (Proc.devRef .tc main_arg16) : FVec Ideal (⟨1, ![768]⟩ : Shape) .f32) (ix1 e))
  b1 := fun e => EReal.toReal ((V (Proc.devRef .tc main_arg17) : FVec Ideal (⟨1, ![768]⟩ : Shape) .f32) (ix1 e))
  g2 := fun e => EReal.toReal ((V (Proc.devRef .tc main_arg18) : FVec Ideal (⟨1, ![768]⟩ : Shape) .f32) (ix1 e))
  b2 := fun e => EReal.toReal ((V (Proc.devRef .tc main_arg19) : FVec Ideal (⟨1, ![768]⟩ : Shape) .f32) (ix1 e))

/-- The arguments hold these real numbers. -/
theorem Stated.holds (h : Stated V) : Holds V (reals V) := by
  have hW := both fun i => (congrFun (stated_W V) i).symm.trans (congrFun h.W i)
  have hW' := both hW.1
  have h19 := both (fun i => (congrFun (stated_b V) i).symm.trans (congrFun h.b i))
  have h18 := both (h19.1)
  have h17 := both (h18.1)
  have h16 := both (h17.1)
  have h15 := both (h16.1)
  have h7 := both (h15.1)
  have h5 := both (h7.1)
  exact
    { x := fun t d => real_of_fin (V (Proc.devRef .tc main_arg0) : FVec Ideal (⟨3, ![1, 2048, 768]⟩ : Shape) .f32) (ix3 0 t d) ((congrFun (stated_x V) _).symm.trans (congrFun h.x _))
      nr := fun e d => real_of_fin (V (Proc.devRef .tc main_arg1) : FVec Ideal (⟨2, ![8192, 768]⟩ : Shape) .f32) (ix2 e d) ((congrFun (stated_nr V) _).symm.trans (congrFun h.nr _))
      Wq := fun e d => real_of_fin (V (Proc.devRef .tc main_arg2) : FVec Ideal (⟨2, ![768, 768]⟩ : Shape) .f32) (ix2 e d) (hW'.1 _)
      bq := fun e => real_of_fin (V (Proc.devRef .tc main_arg3) : FVec Ideal (⟨1, ![768]⟩ : Shape) .f32) (ix1 e) (h5.1 _)
      Wk := fun e d => real_of_fin (V (Proc.devRef .tc main_arg4) : FVec Ideal (⟨2, ![768, 768]⟩ : Shape) .f32) (ix2 e d) (hW'.2 _)
      bk := fun e => real_of_fin (V (Proc.devRef .tc main_arg5) : FVec Ideal (⟨1, ![768]⟩ : Shape) .f32) (ix1 e) (h5.2 _)
      Wv := fun e d => real_of_fin (V (Proc.devRef .tc main_arg6) : FVec Ideal (⟨2, ![768, 768]⟩ : Shape) .f32) (ix2 e d) (hW.2 _)
      bv := fun e => real_of_fin (V (Proc.devRef .tc main_arg7) : FVec Ideal (⟨1, ![768]⟩ : Shape) .f32) (ix1 e) (h7.2 _)
      Wp := fun e d => real_of_fin (V (Proc.devRef .tc main_arg8) : FVec Ideal (⟨2, ![2, 1536]⟩ : Shape) .f32) (ix2 e d) ((congrFun (stated_Wp V) _).symm.trans (congrFun h.Wp _))
      bp := fun e => real_of_fin (V (Proc.devRef .tc main_arg9) : FVec Ideal (⟨1, ![2]⟩ : Shape) .f32) (ix1 e) ((congrFun (stated_bp V) _).symm.trans (congrFun h.bp _))
      pq := fun e d => real_of_fin (V (Proc.devRef .tc main_arg10) : FVec Ideal (⟨2, ![64, 768]⟩ : Shape) .f32) (ix2 e d) ((congrFun (stated_pq V) _).symm.trans (congrFun h.pq _))
      gates := fun e d => real_of_fin (V (Proc.devRef .tc main_arg11) : FVec Ideal (⟨2, ![64, 3072]⟩ : Shape) .f32) (ix2 e d) ((congrFun (stated_gates V) _).symm.trans (congrFun h.gates _))
      Wu := fun e d => real_of_fin (V (Proc.devRef .tc main_arg12) : FVec Ideal (⟨2, ![3072, 768]⟩ : Shape) .f32) (ix2 e d) ((congrFun (stated_Wu V) _).symm.trans (congrFun h.Wu _))
      bu := fun e => real_of_fin (V (Proc.devRef .tc main_arg13) : FVec Ideal (⟨1, ![3072]⟩ : Shape) .f32) (ix1 e) ((congrFun (stated_bu V) _).symm.trans (congrFun h.bu _))
      Wd := fun e d => real_of_fin (V (Proc.devRef .tc main_arg14) : FVec Ideal (⟨2, ![768, 3072]⟩ : Shape) .f32) (ix2 e d) ((congrFun (stated_Wd V) _).symm.trans (congrFun h.Wd _))
      bd := fun e => real_of_fin (V (Proc.devRef .tc main_arg15) : FVec Ideal (⟨1, ![768]⟩ : Shape) .f32) (ix1 e) (h15.2 _)
      g1 := fun e => real_of_fin (V (Proc.devRef .tc main_arg16) : FVec Ideal (⟨1, ![768]⟩ : Shape) .f32) (ix1 e) (h16.2 _)
      b1 := fun e => real_of_fin (V (Proc.devRef .tc main_arg17) : FVec Ideal (⟨1, ![768]⟩ : Shape) .f32) (ix1 e) (h17.2 _)
      g2 := fun e => real_of_fin (V (Proc.devRef .tc main_arg18) : FVec Ideal (⟨1, ![768]⟩ : Shape) .f32) (ix1 e) (h18.2 _)
      b2 := fun e => real_of_fin (V (Proc.devRef .tc main_arg19) : FVec Ideal (⟨1, ![768]⟩ : Shape) .f32) (ix1 e) (h19.2 _) }

end Cert.Proof.Ref

end
-- ==== Proof.Value.lean ====
/- The two programs' results are equal. -/
module

public import proofs.«01_k».proof.Defs
public import proofs.«01_k».proof.Proof.Run
public import proofs.«01_k».proof.Proof.KernelValue
public import proofs.«01_k».proof.Proof.PreTies
public import proofs.«01_k».proof.Proof.PreReal
public import proofs.«01_k».proof.Proof.Gen.Kernel

@[expose] public section

set_option maxRecDepth 16384

noncomputable section

namespace Cert.Proof.Ref

open Idealize.ShloMosaic Idealize.ShloMosaic.TcCoe Cert.ReferenceIdeal Cert.ReferenceIdeal.Gen Cert.ReferenceIdeal.Value

/-- The precondition of twenty arrays, read at a program's arguments that equal them. -/
theorem stated_of {V : Valuation τ sig (Elt Ideal)} (a0 : FVec Ideal (⟨3, ![1, 2048, 768]⟩ : Shape) .f32) (a1 : FVec Ideal (⟨2, ![8192, 768]⟩ : Shape) .f32) (a2 : FVec Ideal (⟨2, ![768, 768]⟩ : Shape) .f32) (a3 : FVec Ideal (⟨1, ![768]⟩ : Shape) .f32) (a4 : FVec Ideal (⟨2, ![768, 768]⟩ : Shape) .f32) (a5 : FVec Ideal (⟨1, ![768]⟩ : Shape) .f32) (a6 : FVec Ideal (⟨2, ![768, 768]⟩ : Shape) .f32) (a7 : FVec Ideal (⟨1, ![768]⟩ : Shape) .f32) (a8 : FVec Ideal (⟨2, ![2, 1536]⟩ : Shape) .f32) (a9 : FVec Ideal (⟨1, ![2]⟩ : Shape) .f32) (a10 : FVec Ideal (⟨2, ![64, 768]⟩ : Shape) .f32) (a11 : FVec Ideal (⟨2, ![64, 3072]⟩ : Shape) .f32) (a12 : FVec Ideal (⟨2, ![3072, 768]⟩ : Shape) .f32) (a13 : FVec Ideal (⟨1, ![3072]⟩ : Shape) .f32) (a14 : FVec Ideal (⟨2, ![768, 3072]⟩ : Shape) .f32) (a15 : FVec Ideal (⟨1, ![768]⟩ : Shape) .f32) (a16 : FVec Ideal (⟨1, ![768]⟩ : Shape) .f32) (a17 : FVec Ideal (⟨1, ![768]⟩ : Shape) .f32) (a18 : FVec Ideal (⟨1, ![768]⟩ : Shape) .f32) (a19 : FVec Ideal (⟨1, ![768]⟩ : Shape) .f32)
    (e0 : V (Proc.devRef .tc main_arg0) = a0) (e1 : V (Proc.devRef .tc main_arg1) = a1) (e2 : V (Proc.devRef .tc main_arg2) = a2) (e3 : V (Proc.devRef .tc main_arg3) = a3) (e4 : V (Proc.devRef .tc main_arg4) = a4) (e5 : V (Proc.devRef .tc main_arg5) = a5) (e6 : V (Proc.devRef .tc main_arg6) = a6) (e7 : V (Proc.devRef .tc main_arg7) = a7) (e8 : V (Proc.devRef .tc main_arg8) = a8) (e9 : V (Proc.devRef .tc main_arg9) = a9) (e10 : V (Proc.devRef .tc main_arg10) = a10) (e11 : V (Proc.devRef .tc main_arg11) = a11) (e12 : V (Proc.devRef .tc main_arg12) = a12) (e13 : V (Proc.devRef .tc main_arg13) = a13) (e14 : V (Proc.devRef .tc main_arg14) = a14) (e15 : V (Proc.devRef .tc main_arg15) = a15) (e16 : V (Proc.devRef .tc main_arg16) = a16) (e17 : V (Proc.devRef .tc main_arg17) = a17) (e18 : V (Proc.devRef .tc main_arg18) = a18) (e19 : V (Proc.devRef .tc main_arg19) = a19)
    (h : (Cert.Pre_finite_and_untied.fn (F := Ideal) a0 a1 a2 a3 a4 a5 a6 a7 a8 a9 a10 a11 a12 a13 a14 a15 a16 a17 a18 a19).1 = (fun _ => 1#1)
      ∧ (Cert.Pre_finite_and_untied.fn (F := Ideal) a0 a1 a2 a3 a4 a5 a6 a7 a8 a9 a10 a11 a12 a13 a14 a15 a16 a17 a18 a19).2.1 = (fun _ => 1#1)
      ∧ (Cert.Pre_finite_and_untied.fn (F := Ideal) a0 a1 a2 a3 a4 a5 a6 a7 a8 a9 a10 a11 a12 a13 a14 a15 a16 a17 a18 a19).2.2.1 = (fun _ => 1#1)
      ∧ (Cert.Pre_finite_and_untied.fn (F := Ideal) a0 a1 a2 a3 a4 a5 a6 a7 a8 a9 a10 a11 a12 a13 a14 a15 a16 a17 a18 a19).2.2.2.1 = (fun _ => 1#1)
      ∧ (Cert.Pre_finite_and_untied.fn (F := Ideal) a0 a1 a2 a3 a4 a5 a6 a7 a8 a9 a10 a11 a12 a13 a14 a15 a16 a17 a18 a19).2.2.2.2.1 = (fun _ => 1#1)
      ∧ (Cert.Pre_finite_and_untied.fn (F := Ideal) a0 a1 a2 a3 a4 a5 a6 a7 a8 a9 a10 a11 a12 a13 a14 a15 a16 a17 a18 a19).2.2.2.2.2.1 = (fun _ => 1#1)
      ∧ (Cert.Pre_finite_and_untied.fn (F := Ideal) a0 a1 a2 a3 a4 a5 a6 a7 a8 a9 a10 a11 a12 a13 a14 a15 a16 a17 a18 a19).2.2.2.2.2.2.1 = (fun _ => 1#1)
      ∧ (Cert.Pre_finite_and_untied.fn (F := Ideal) a0 a1 a2 a3 a4 a5 a6 a7 a8 a9 a10 a11 a12 a13 a14 a15 a16 a17 a18 a19).2.2.2.2.2.2.2.1 = (fun _ => 1#1)
      ∧ (Cert.Pre_finite_and_untied.fn (F := Ideal) a0 a1 a2 a3 a4 a5 a6 a7 a8 a9 a10 a11 a12 a13 a14 a15 a16 a17 a18 a19).2.2.2.2.2.2.2.2.1 = (fun _ => 1#1)
      ∧ (Cert.Pre_finite_and_untied.fn (F := Ideal) a0 a1 a2 a3 a4 a5 a6 a7 a8 a9 a10 a11 a12 a13 a14 a15 a16 a17 a18 a19).2.2.2.2.2.2.2.2.2.1 = (fun _ => 1#1)
      ∧ (Cert.Pre_finite_and_untied.fn (F := Ideal) a0 a1 a2 a3 a4 a5 a6 a7 a8 a9 a10 a11 a12 a13 a14 a15 a16 a17 a18 a19).2.2.2.2.2.2.2.2.2.2.1 = (fun _ => 1#1)
      ∧ (Cert.Pre_finite_and_untied.fn (F := Ideal) a0 a1 a2 a3 a4 a5 a6 a7 a8 a9 a10 a11 a12 a13 a14 a15 a16 a17 a18 a19).2.2.2.2.2.2.2.2.2.2.2.1 = (fun _ => 1#1)
      ∧ (Cert.Pre_finite_and_untied.fn (F := Ideal) a0 a1 a2 a3 a4 a5 a6 a7 a8 a9 a10 a11 a12 a13 a14 a15 a16 a17 a18 a19).2.2.2.2.2.2.2.2.2.2.2.2 = (fun _ => 1#1)) : Stated V := by
  subst e0 e1 e2 e3 e4 e5 e6 e7 e8 e9 e10 e11 e12 e13 e14 e15 e16 e17 e18 e19
  exact ⟨h.1, h.2.1, h.2.2.1, h.2.2.2.1, h.2.2.2.2.1, h.2.2.2.2.2.1, h.2.2.2.2.2.2.1, h.2.2.2.2.2.2.2.1, h.2.2.2.2.2.2.2.2.1, h.2.2.2.2.2.2.2.2.2.1, h.2.2.2.2.2.2.2.2.2.2.1, h.2.2.2.2.2.2.2.2.2.2.2.1, h.2.2.2.2.2.2.2.2.2.2.2.2⟩

end Cert.Proof.Ref

namespace Cert.Proof

open Idealize.ShloMosaic Idealize.ShloMosaic.TcCoe Idealize.SL.Sem

variable {m : (ℓ : Loc Cert.KernelIdeal.nD Cert.KernelIdeal.τ Cert.KernelIdeal.sig) → Buf (Elt Ideal) ℓ} {g : Dev Cert.KernelIdeal.nD → PrngReg}
  {m' : (ℓ : Loc Cert.ReferenceIdeal.nD Cert.ReferenceIdeal.τ Cert.ReferenceIdeal.sig) → Buf (Elt Ideal) ℓ} {c : Dev Cert.KernelIdeal.nD}

/-- Arrays of one matrix are equal when all its entries are. -/
theorem ext_rows {α : Type} {n k : ℕ} (x y : (⟨3, ![1, n, k]⟩ : Shape).Idx → α) (h : ∀ t d, x (ix3 0 t d) = y (ix3 0 t d)) : x = y := by
  funext i
  have e : i = ix3 0 (i 1) (i 2) := (eq_ix3 i).trans (congrArg (fun a : Fin 1 => ix3 a (i 1) (i 2)) (Subsingleton.elim _ _))
  rw [e]
  exact h _ _

/-- Arguments that the precondition holds of give both programs the same two results. -/
theorem results_eq (hp : Cert.Pre_KernelIdeal_finite_and_untied m)
    (ha : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) :
    Ref.result (StableHlo.launchContents m' c) = Cert.KernelIdeal.Gen.W9 m g c (Proc.devRef .tc Cert.KernelIdeal.main_v37)
      ∧ Cert.ReferenceIdeal.Value.res_main_indices (StableHlo.launchContents m' c) = Cert.KernelIdeal.Gen.W9 m g c (Proc.devRef .tc Cert.KernelIdeal.main_v38) := by
  have hs : Ref.Stated (StableHlo.launchContents m' c) :=
    Ref.stated_of _ _ _ _ _ _ _ _ _ _ _ _ _ _ _ _ _ _ _ _ (ha.1) (ha.2.1) (ha.2.2.1) (ha.2.2.2.1) (ha.2.2.2.2.1) (ha.2.2.2.2.2.1) (ha.2.2.2.2.2.2.1) (ha.2.2.2.2.2.2.2.1) (ha.2.2.2.2.2.2.2.2.1) (ha.2.2.2.2.2.2.2.2.2.1) (ha.2.2.2.2.2.2.2.2.2.2.1) (ha.2.2.2.2.2.2.2.2.2.2.2.1) (ha.2.2.2.2.2.2.2.2.2.2.2.2.1) (ha.2.2.2.2.2.2.2.2.2.2.2.2.2.1) (ha.2.2.2.2.2.2.2.2.2.2.2.2.2.2.1) (ha.2.2.2.2.2.2.2.2.2.2.2.2.2.2.2.1) (ha.2.2.2.2.2.2.2.2.2.2.2.2.2.2.2.2.1) (ha.2.2.2.2.2.2.2.2.2.2.2.2.2.2.2.2.2.1) (ha.2.2.2.2.2.2.2.2.2.2.2.2.2.2.2.2.2.2.1) (ha.2.2.2.2.2.2.2.2.2.2.2.2.2.2.2.2.2.2.2) (hp c)
  have hR := hs.holds
  have h1 := hR.top (congrFun hs.first)
  have h2 := hR.topP (congrFun hs.second)
  have hK : KernelValue.Holds (Cert.KernelIdeal.Gen.W0 m g c) (Ref.reals (StableHlo.launchContents m' c)) :=
    { x := fun t d => (congrFun (ha.1) _).symm.trans (hR.x t d)
      nr := fun e d => (congrFun (ha.2.1) _).symm.trans (hR.nr e d)
      Wq := fun e d => (congrFun (ha.2.2.1) _).symm.trans (hR.Wq e d)
      bq := fun e => (congrFun (ha.2.2.2.1) _).symm.trans (hR.bq e)
      Wk := fun e d => (congrFun (ha.2.2.2.2.1) _).symm.trans (hR.Wk e d)
      bk := fun e => (congrFun (ha.2.2.2.2.2.1) _).symm.trans (hR.bk e)
      Wv := fun e d => (congrFun (ha.2.2.2.2.2.2.1) _).symm.trans (hR.Wv e d)
      bv := fun e => (congrFun (ha.2.2.2.2.2.2.2.1) _).symm.trans (hR.bv e)
      Wp := fun e d => (congrFun (ha.2.2.2.2.2.2.2.2.1) _).symm.trans (hR.Wp e d)
      bp := fun e => (congrFun (ha.2.2.2.2.2.2.2.2.2.1) _).symm.trans (hR.bp e)
      pq := fun e d => (congrFun (ha.2.2.2.2.2.2.2.2.2.2.1) _).symm.trans (hR.pq e d)
      gates := fun e d => (congrFun (ha.2.2.2.2.2.2.2.2.2.2.2.1) _).symm.trans (hR.gates e d)
      Wu := fun e d => (congrFun (ha.2.2.2.2.2.2.2.2.2.2.2.2.1) _).symm.trans (hR.Wu e d)
      bu := fun e => (congrFun (ha.2.2.2.2.2.2.2.2.2.2.2.2.2.1) _).symm.trans (hR.bu e)
      Wd := fun e d => (congrFun (ha.2.2.2.2.2.2.2.2.2.2.2.2.2.2.1) _).symm.trans (hR.Wd e d)
      bd := fun e => (congrFun (ha.2.2.2.2.2.2.2.2.2.2.2.2.2.2.2.1) _).symm.trans (hR.bd e)
      g1 := fun e => (congrFun (ha.2.2.2.2.2.2.2.2.2.2.2.2.2.2.2.2.1) _).symm.trans (hR.g1 e)
      b1 := fun e => (congrFun (ha.2.2.2.2.2.2.2.2.2.2.2.2.2.2.2.2.2.1) _).symm.trans (hR.b1 e)
      g2 := fun e => (congrFun (ha.2.2.2.2.2.2.2.2.2.2.2.2.2.2.2.2.2.2.1) _).symm.trans (hR.g2 e)
      b2 := fun e => (congrFun (ha.2.2.2.2.2.2.2.2.2.2.2.2.2.2.2.2.2.2.2) _).symm.trans (hR.b2 e) }
  constructor
  · exact ext_rows (n := 2048) (k := 768) _ _ fun t d => (hR.result t d).trans (hK.result0 h1 h2 t d).symm
  · exact ext_rows (n := 2048) (k := 16) _ _ fun t k => (hR.indices t k).trans (hK.result1 h1 t k).symm

/-- From memories that agree on the arguments, and of which the precondition holds, both programs run, end with equal
    results and leave their arguments as they were. -/
theorem algebraic : Cert.algebraic_KernelIdeal_ReferenceIdeal_pre_finite_and_untied := by
  intro m g m' g' hp ha
  have hk := Run.run m g
  refine ⟨fun c => Cert.KernelIdeal.Gen.W9 m g c (Proc.devRef .tc Cert.KernelIdeal.main_v37), fun c => Cert.KernelIdeal.Gen.W9 m g c (Proc.devRef .tc Cert.KernelIdeal.main_v38), ?_, ?_⟩
  · exact hk
  · have hr := Cert.ReferenceIdeal.Value.run m' g'
    refine (θ_run Cert.ReferenceIdeal.defs _ _).mono (fun r h c => ?_) hr
    obtain ⟨h0, h1, h2⟩ := h c
    refine ⟨?_, ?_, h2⟩
    · exact h0.trans (results_eq hp (ha c)).1
    · exact h1.trans (results_eq hp (ha c)).2

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_and_untied
public import proofs.«01_k».proof.Proof.Value
public import Idealize.ShloMosaic.Adequacy
public import Idealize.ShloMosaic.Init

@[expose] public section

noncomputable section

namespace Cert.Proof

open Idealize.ShloMosaic Idealize.SL.Sem

/-- The reference leaves its arguments as they were and ends with every semaphore at zero: it is a host program that
    declares none. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run m ρ)

/-- The kernel's two named constants are the numbers they are named for. -/
theorem preserves : Cert.preserves_Kernel_KernelIdeal :=
  ⟨IdealRules.named_const.statement Cert.KernelIdeal.κ "inv_d" .f32 0x3AAAAAAB#32 ((768⁻¹ : ℝ) : EReal) rfl,
    IdealRules.named_const.statement Cert.KernelIdeal.κ "inv_sqrt_d" .f32 0x3D13CD3A#32 (((Real.sqrt 768)⁻¹ : ℝ) : EReal) rfl⟩

/-- All the claims of the certificate. -/
theorem claim : Cert.Claim :=
  ⟨Cert.Kernel.Gen.facts, Cert.KernelIdeal.Gen.facts, Cert.ReferenceIdeal.Gen.facts, Cert.Pre_finite_and_untied.Gen.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    preserves,
    algebraic⟩

end Cert.Proof

end
